-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_TextQ (m : (ℓ : Loc Cert.TextQ.nD Cert.TextQ.τ Cert.TextQ.sig) → Buf (Elt Bits) ℓ) : Prop :=
  True

def Pre_TextQIdeal (m : (ℓ : Loc Cert.TextQIdeal.nD Cert.TextQIdeal.τ Cert.TextQIdeal.sig) → Buf (Elt Ideal) ℓ) : Prop :=
  True

def Pre_TextQRefIdeal (m : (ℓ : Loc Cert.TextQRefIdeal.nD Cert.TextQRefIdeal.τ Cert.TextQRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6)
      ∧ r.2.mem ((c.tc : Thread Cert.OProj.nD Cert.OProj.τ).loc Cert.OProj.main_arg7) = m ((c.tc : Thread Cert.OProj.nD Cert.OProj.τ).loc Cert.OProj.main_arg7))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
      ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6)
      ∧ r.2.mem ((c.tc : Thread Cert.OProjRefIdeal.nD Cert.OProjRefIdeal.τ).loc Cert.OProjRefIdeal.main_arg7) = m ((c.tc : Thread Cert.OProjRefIdeal.nD Cert.OProjRefIdeal.τ).loc Cert.OProjRefIdeal.main_arg7))
      ∧ r.2.sem = fun _ => 0)

def quiescent_TextQ [hTextQ : Cert.TextQ.Facts] : Prop :=
  ∀ (m : (ℓ : Loc Cert.TextQ.nD Cert.TextQ.τ Cert.TextQ.sig) → Buf (Elt Bits) ℓ) (g : Dev Cert.TextQ.nD → PrngReg), Pre_TextQ m →
    θ_run (Cert.TextQ.defs (F := Bits)) (onTc (τ := Cert.TextQ.τ) (Cert.TextQ.main (F := Bits))) ⟨m, fun _ => 0, g⟩ (fun r => (∀ c : Dev Cert.TextQ.nD,
      r.2.mem ((c.tc : Thread Cert.TextQ.nD Cert.TextQ.τ).loc Cert.TextQ.main_arg0) = m ((c.tc : Thread Cert.TextQ.nD Cert.TextQ.τ).loc Cert.TextQ.main_arg0)
      ∧ r.2.mem ((c.tc : Thread Cert.TextQ.nD Cert.TextQ.τ).loc Cert.TextQ.main_arg1) = m ((c.tc : Thread Cert.TextQ.nD Cert.TextQ.τ).loc Cert.TextQ.main_arg1)
      ∧ r.2.mem ((c.tc : Thread Cert.TextQ.nD Cert.TextQ.τ).loc Cert.TextQ.main_arg2) = m ((c.tc : Thread Cert.TextQ.nD Cert.TextQ.τ).loc Cert.TextQ.main_arg2)
      ∧ r.2.mem ((c.tc : Thread Cert.TextQ.nD Cert.TextQ.τ).loc Cert.TextQ.main_arg3) = m ((c.tc : Thread Cert.TextQ.nD Cert.TextQ.τ).loc Cert.TextQ.main_arg3)
      ∧ r.2.mem ((c.tc : Thread Cert.TextQ.nD Cert.TextQ.τ).loc Cert.TextQ.main_arg4) = m ((c.tc : Thread Cert.TextQ.nD Cert.TextQ.τ).loc Cert.TextQ.main_arg4))
      ∧ r.2.sem = fun _ => 0)

def quiescent_TextQIdeal [hTextQIdeal : Cert.TextQIdeal.Facts] : Prop :=
  ∀ (m : (ℓ : Loc Cert.TextQIdeal.nD Cert.TextQIdeal.τ Cert.TextQIdeal.sig) → Buf (Elt Ideal) ℓ) (g : Dev Cert.TextQIdeal.nD → PrngReg), Pre_TextQIdeal m →
    θ_run (Cert.TextQIdeal.defs (F := Ideal)) (onTc (τ := Cert.TextQIdeal.τ) (Cert.TextQIdeal.main (F := Ideal))) ⟨m, fun _ => 0, g⟩ (fun r => (∀ c : Dev Cert.TextQIdeal.nD,
      r.2.mem ((c.tc : Thread Cert.TextQIdeal.nD Cert.TextQIdeal.τ).loc Cert.TextQIdeal.main_arg0) = m ((c.tc : Thread Cert.TextQIdeal.nD Cert.TextQIdeal.τ).loc Cert.TextQIdeal.main_arg0)
      ∧ r.2.mem ((c.tc : Thread Cert.TextQIdeal.nD Cert.TextQIdeal.τ).loc Cert.TextQIdeal.main_arg1) = m ((c.tc : Thread Cert.TextQIdeal.nD Cert.TextQIdeal.τ).loc Cert.TextQIdeal.main_arg1)
      ∧ r.2.mem ((c.tc : Thread Cert.TextQIdeal.nD Cert.TextQIdeal.τ).loc Cert.TextQIdeal.main_arg2) = m ((c.tc : Thread Cert.TextQIdeal.nD Cert.TextQIdeal.τ).loc Cert.TextQIdeal.main_arg2)
      ∧ r.2.mem ((c.tc : Thread Cert.TextQIdeal.nD Cert.TextQIdeal.τ).loc Cert.TextQIdeal.main_arg3) = m ((c.tc : Thread Cert.TextQIdeal.nD Cert.TextQIdeal.τ).loc Cert.TextQIdeal.main_arg3)
      ∧ r.2.mem ((c.tc : Thread Cert.TextQIdeal.nD Cert.TextQIdeal.τ).loc Cert.TextQIdeal.main_arg4) = m ((c.tc : Thread Cert.TextQIdeal.nD Cert.TextQIdeal.τ).loc Cert.TextQIdeal.main_arg4))
      ∧ r.2.sem = fun _ => 0)

def quiescent_TextQRefIdeal [hTextQRefIdeal : Cert.TextQRefIdeal.Facts] : Prop :=
  ∀ (m : (ℓ : Loc Cert.TextQRefIdeal.nD Cert.TextQRefIdeal.τ Cert.TextQRefIdeal.sig) → Buf (Elt Ideal) ℓ) (g : Dev Cert.TextQRefIdeal.nD → PrngReg), Pre_TextQRefIdeal m →
    θ_run (Cert.TextQRefIdeal.defs (F := Ideal)) (onTc (τ := Cert.TextQRefIdeal.τ) (Cert.TextQRefIdeal.main (F := Ideal))) ⟨m, fun _ => 0, g⟩ (fun r => (∀ c : Dev Cert.TextQRefIdeal.nD,
      r.2.mem ((c.tc : Thread Cert.TextQRefIdeal.nD Cert.TextQRefIdeal.τ).loc Cert.TextQRefIdeal.main_arg0) = m ((c.tc : Thread Cert.TextQRefIdeal.nD Cert.TextQRefIdeal.τ).loc Cert.TextQRefIdeal.main_arg0)
      ∧ r.2.mem ((c.tc : Thread Cert.TextQRefIdeal.nD Cert.TextQRefIdeal.τ).loc Cert.TextQRefIdeal.main_arg1) = m ((c.tc : Thread Cert.TextQRefIdeal.nD Cert.TextQRefIdeal.τ).loc Cert.TextQRefIdeal.main_arg1)
      ∧ r.2.mem ((c.tc : Thread Cert.TextQRefIdeal.nD Cert.TextQRefIdeal.τ).loc Cert.TextQRefIdeal.main_arg2) = m ((c.tc : Thread Cert.TextQRefIdeal.nD Cert.TextQRefIdeal.τ).loc Cert.TextQRefIdeal.main_arg2)
      ∧ r.2.mem ((c.tc : Thread Cert.TextQRefIdeal.nD Cert.TextQRefIdeal.τ).loc Cert.TextQRefIdeal.main_arg3) = m ((c.tc : Thread Cert.TextQRefIdeal.nD Cert.TextQRefIdeal.τ).loc Cert.TextQRefIdeal.main_arg3)
      ∧ r.2.mem ((c.tc : Thread Cert.TextQRefIdeal.nD Cert.TextQRefIdeal.τ).loc Cert.TextQRefIdeal.main_arg4) = m ((c.tc : Thread Cert.TextQRefIdeal.nD Cert.TextQRefIdeal.τ).loc Cert.TextQRefIdeal.main_arg4))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)
      ∧ m' ((c.tc : Thread Cert.OProjRefIdeal.nD Cert.OProjRefIdeal.τ).loc Cert.OProjRefIdeal.main_arg7) = m ((c.tc : Thread Cert.OProjIdeal.nD Cert.OProjIdeal.τ).loc Cert.OProjIdeal.main_arg7)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)) (v2 : (c : Dev Cert.OProjIdeal.nD) → Buf (Elt Ideal) ((c.tc : Thread Cert.OProjIdeal.nD Cert.OProjIdeal.τ).loc Cert.OProjIdeal.main_v0_2)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_v0_2) = v2 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6)
          ∧ r.2.mem ((c.tc : Thread Cert.OProjIdeal.nD Cert.OProjIdeal.τ).loc Cert.OProjIdeal.main_arg7) = m ((c.tc : Thread Cert.OProjIdeal.nD Cert.OProjIdeal.τ).loc Cert.OProjIdeal.main_arg7))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v0_0) = v0 c
          ∧ r.2.mem ((c.tc : Thread Cert.OProjRefIdeal.nD Cert.OProjRefIdeal.τ).loc Cert.OProjRefIdeal.main_v0_1) = v1 c
          ∧ r.2.mem ((c.tc : Thread Cert.OProjRefIdeal.nD Cert.OProjRefIdeal.τ).loc Cert.OProjRefIdeal.main_v0_2) = v2 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6)
          ∧ r.2.mem ((c.tc : Thread Cert.OProjRefIdeal.nD Cert.OProjRefIdeal.τ).loc Cert.OProjRefIdeal.main_arg7) = m' ((c.tc : Thread Cert.OProjRefIdeal.nD Cert.OProjRefIdeal.τ).loc Cert.OProjRefIdeal.main_arg7))

def preserves_TextQ_TextQIdeal : Prop :=
  True

def algebraic_TextQIdeal_TextQRefIdeal [hTextQIdeal : Cert.TextQIdeal.Facts] [hTextQRefIdeal : Cert.TextQRefIdeal.Facts] : Prop :=
  ∀ (m : (ℓ : Loc Cert.TextQIdeal.nD Cert.TextQIdeal.τ Cert.TextQIdeal.sig) → Buf (Elt Ideal) ℓ) (g : Dev Cert.TextQIdeal.nD → PrngReg)
    (m' : (ℓ : Loc Cert.TextQRefIdeal.nD Cert.TextQRefIdeal.τ Cert.TextQRefIdeal.sig) → Buf (Elt Ideal) ℓ) (g' : Dev Cert.TextQRefIdeal.nD → PrngReg), Pre_TextQIdeal m →
    (∀ c : Dev Cert.TextQIdeal.nD,
      m' ((c.tc : Thread Cert.TextQRefIdeal.nD Cert.TextQRefIdeal.τ).loc Cert.TextQRefIdeal.main_arg0) = m ((c.tc : Thread Cert.TextQIdeal.nD Cert.TextQIdeal.τ).loc Cert.TextQIdeal.main_arg0)
      ∧ m' ((c.tc : Thread Cert.TextQRefIdeal.nD Cert.TextQRefIdeal.τ).loc Cert.TextQRefIdeal.main_arg1) = m ((c.tc : Thread Cert.TextQIdeal.nD Cert.TextQIdeal.τ).loc Cert.TextQIdeal.main_arg1)
      ∧ m' ((c.tc : Thread Cert.TextQRefIdeal.nD Cert.TextQRefIdeal.τ).loc Cert.TextQRefIdeal.main_arg2) = m ((c.tc : Thread Cert.TextQIdeal.nD Cert.TextQIdeal.τ).loc Cert.TextQIdeal.main_arg2)
      ∧ m' ((c.tc : Thread Cert.TextQRefIdeal.nD Cert.TextQRefIdeal.τ).loc Cert.TextQRefIdeal.main_arg3) = m ((c.tc : Thread Cert.TextQIdeal.nD Cert.TextQIdeal.τ).loc Cert.TextQIdeal.main_arg3)
      ∧ m' ((c.tc : Thread Cert.TextQRefIdeal.nD Cert.TextQRefIdeal.τ).loc Cert.TextQRefIdeal.main_arg4) = m ((c.tc : Thread Cert.TextQIdeal.nD Cert.TextQIdeal.τ).loc Cert.TextQIdeal.main_arg4)) →
    ∃ (v0 : (c : Dev Cert.TextQIdeal.nD) → Buf (Elt Ideal) ((c.tc : Thread Cert.TextQIdeal.nD Cert.TextQIdeal.τ).loc Cert.TextQIdeal.main_v0_0)) (v1 : (c : Dev Cert.TextQIdeal.nD) → Buf (Elt Ideal) ((c.tc : Thread Cert.TextQIdeal.nD Cert.TextQIdeal.τ).loc Cert.TextQIdeal.main_v0_1)) (v2 : (c : Dev Cert.TextQIdeal.nD) → Buf (Elt Ideal) ((c.tc : Thread Cert.TextQIdeal.nD Cert.TextQIdeal.τ).loc Cert.TextQIdeal.main_v0_2)),
      θ_run (Cert.TextQIdeal.defs (F := Ideal)) (onTc (τ := Cert.TextQIdeal.τ) (Cert.TextQIdeal.main (F := Ideal))) ⟨m, fun _ => 0, g⟩ (fun r => ∀ c : Dev Cert.TextQIdeal.nD,
          r.2.mem ((c.tc : Thread Cert.TextQIdeal.nD Cert.TextQIdeal.τ).loc Cert.TextQIdeal.main_v0_0) = v0 c
          ∧ r.2.mem ((c.tc : Thread Cert.TextQIdeal.nD Cert.TextQIdeal.τ).loc Cert.TextQIdeal.main_v0_1) = v1 c
          ∧ r.2.mem ((c.tc : Thread Cert.TextQIdeal.nD Cert.TextQIdeal.τ).loc Cert.TextQIdeal.main_v0_2) = v2 c
          ∧ r.2.mem ((c.tc : Thread Cert.TextQIdeal.nD Cert.TextQIdeal.τ).loc Cert.TextQIdeal.main_arg0) = m ((c.tc : Thread Cert.TextQIdeal.nD Cert.TextQIdeal.τ).loc Cert.TextQIdeal.main_arg0)
          ∧ r.2.mem ((c.tc : Thread Cert.TextQIdeal.nD Cert.TextQIdeal.τ).loc Cert.TextQIdeal.main_arg1) = m ((c.tc : Thread Cert.TextQIdeal.nD Cert.TextQIdeal.τ).loc Cert.TextQIdeal.main_arg1)
          ∧ r.2.mem ((c.tc : Thread Cert.TextQIdeal.nD Cert.TextQIdeal.τ).loc Cert.TextQIdeal.main_arg2) = m ((c.tc : Thread Cert.TextQIdeal.nD Cert.TextQIdeal.τ).loc Cert.TextQIdeal.main_arg2)
          ∧ r.2.mem ((c.tc : Thread Cert.TextQIdeal.nD Cert.TextQIdeal.τ).loc Cert.TextQIdeal.main_arg3) = m ((c.tc : Thread Cert.TextQIdeal.nD Cert.TextQIdeal.τ).loc Cert.TextQIdeal.main_arg3)
          ∧ r.2.mem ((c.tc : Thread Cert.TextQIdeal.nD Cert.TextQIdeal.τ).loc Cert.TextQIdeal.main_arg4) = m ((c.tc : Thread Cert.TextQIdeal.nD Cert.TextQIdeal.τ).loc Cert.TextQIdeal.main_arg4))
      ∧ θ_run (Cert.TextQRefIdeal.defs (F := Ideal)) (onTc (τ := Cert.TextQRefIdeal.τ) (Cert.TextQRefIdeal.main (F := Ideal))) ⟨m', fun _ => 0, g'⟩ (fun r => ∀ c : Dev Cert.TextQRefIdeal.nD,
          r.2.mem ((c.tc : Thread Cert.TextQRefIdeal.nD Cert.TextQRefIdeal.τ).loc Cert.TextQRefIdeal.main_v0_0) = v0 c
          ∧ r.2.mem ((c.tc : Thread Cert.TextQRefIdeal.nD Cert.TextQRefIdeal.τ).loc Cert.TextQRefIdeal.main_v0_1) = v1 c
          ∧ r.2.mem ((c.tc : Thread Cert.TextQRefIdeal.nD Cert.TextQRefIdeal.τ).loc Cert.TextQRefIdeal.main_v0_2) = v2 c
          ∧ r.2.mem ((c.tc : Thread Cert.TextQRefIdeal.nD Cert.TextQRefIdeal.τ).loc Cert.TextQRefIdeal.main_arg0) = m' ((c.tc : Thread Cert.TextQRefIdeal.nD Cert.TextQRefIdeal.τ).loc Cert.TextQRefIdeal.main_arg0)
          ∧ r.2.mem ((c.tc : Thread Cert.TextQRefIdeal.nD Cert.TextQRefIdeal.τ).loc Cert.TextQRefIdeal.main_arg1) = m' ((c.tc : Thread Cert.TextQRefIdeal.nD Cert.TextQRefIdeal.τ).loc Cert.TextQRefIdeal.main_arg1)
          ∧ r.2.mem ((c.tc : Thread Cert.TextQRefIdeal.nD Cert.TextQRefIdeal.τ).loc Cert.TextQRefIdeal.main_arg2) = m' ((c.tc : Thread Cert.TextQRefIdeal.nD Cert.TextQRefIdeal.τ).loc Cert.TextQRefIdeal.main_arg2)
          ∧ r.2.mem ((c.tc : Thread Cert.TextQRefIdeal.nD Cert.TextQRefIdeal.τ).loc Cert.TextQRefIdeal.main_arg3) = m' ((c.tc : Thread Cert.TextQRefIdeal.nD Cert.TextQRefIdeal.τ).loc Cert.TextQRefIdeal.main_arg3)
          ∧ r.2.mem ((c.tc : Thread Cert.TextQRefIdeal.nD Cert.TextQRefIdeal.τ).loc Cert.TextQRefIdeal.main_arg4) = m' ((c.tc : Thread Cert.TextQRefIdeal.nD Cert.TextQRefIdeal.τ).loc Cert.TextQRefIdeal.main_arg4))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hTextQ : Cert.TextQ.Facts) (hTextQIdeal : Cert.TextQIdeal.Facts) (hTextQRefIdeal : Cert.TextQRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_TextQ (hTextQ := hTextQ)
    ∧ quiescent_TextQIdeal (hTextQIdeal := hTextQIdeal)
    ∧ quiescent_TextQRefIdeal (hTextQRefIdeal := hTextQRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_TextQ_TextQIdeal
    ∧ algebraic_TextQIdeal_TextQRefIdeal (hTextQIdeal := hTextQIdeal) (hTextQRefIdeal := hTextQRefIdeal)
-- ==== GateUp.lean ====
abbrev S5376x8192 : Shape := ⟨2, ![5376, 8192]⟩
abbrev S5376x1 : Shape := ⟨2, ![5376, 1]⟩
abbrev S8192x3584 : Shape := ⟨2, ![8192, 3584]⟩
abbrev S1x3584 : Shape := ⟨2, ![1, 3584]⟩
abbrev S5376x3584 : Shape := ⟨2, ![5376, 3584]⟩
abbrev S896x8192 : Shape := ⟨2, ![896, 8192]⟩
abbrev S896x1 : Shape := ⟨2, ![896, 1]⟩
abbrev S8192x256 : Shape := ⟨2, ![8192, 256]⟩
abbrev S1x256 : Shape := ⟨2, ![1, 256]⟩
abbrev S896x3584 : Shape := ⟨2, ![896, 3584]⟩
abbrev S14x896x256 : Shape := ⟨3, ![14, 896, 256]⟩
abbrev S896x128 : Shape := ⟨2, ![896, 128]⟩
abbrev S896x256 : Shape := ⟨2, ![896, 256]⟩
abbrev S1x896x256 : Shape := ⟨3, ![1, 896, 256]⟩
abbrev S896 : Shape := ⟨1, ![896]⟩

abbrev nBuf : Space → Nat
  | .hbm => 8
  | .vmem => 18
  | .smem => 0
  | _ => 0

abbrev bufTy : (tb : Table) → Fin (tcTables nBuf tb) → BufTy
  | .hbm, ⟨0, _⟩ => ⟨S5376x8192, .fp8e4m3⟩
  | .hbm, ⟨1, _⟩ => ⟨S5376x1, .f32⟩
  | .hbm, ⟨2, _⟩ => ⟨S8192x3584, .fp8e4m3⟩
  | .hbm, ⟨3, _⟩ => ⟨S8192x3584, .fp8e4m3⟩
  | .hbm, ⟨4, _⟩ => ⟨S1x3584, .f32⟩
  | .hbm, ⟨5, _⟩ => ⟨S1x3584, .f32⟩
  | .hbm, ⟨6, _⟩ => ⟨S5376x3584, .fp8e4m3⟩
  | .hbm, ⟨7, _⟩ => ⟨S5376x1, .f32⟩
  | .local _ .vmem, ⟨0, _⟩ => ⟨S896x8192, .fp8e4m3⟩
  | .local _ .vmem, ⟨1, _⟩ => ⟨S896x8192, .fp8e4m3⟩
  | .local _ .vmem, ⟨2, _⟩ => ⟨S896x1, .f32⟩
  | .local _ .vmem, ⟨3, _⟩ => ⟨S896x1, .f32⟩
  | .local _ .vmem, ⟨4, _⟩ => ⟨S8192x256, .fp8e4m3⟩
  | .local _ .vmem, ⟨5, _⟩ => ⟨S8192x256, .fp8e4m3⟩
  | .local _ .vmem, ⟨6, _⟩ => ⟨S8192x256, .fp8e4m3⟩
  | .local _ .vmem, ⟨7, _⟩ => ⟨S8192x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S896x3584, .fp8e4m3⟩
  | .local _ .vmem, ⟨13, _⟩ => ⟨S896x3584, .fp8e4m3⟩
  | .local _ .vmem, ⟨14, _⟩ => ⟨S896x1, .f32⟩
  | .local _ .vmem, ⟨15, _⟩ => ⟨S896x1, .f32⟩
  | .local _ .vmem, ⟨16, _⟩ => ⟨S14x896x256, .f32⟩
  | .local _ .vmem, ⟨17, _⟩ => ⟨S896x128, .f32⟩
  | _, _ => ⟨S5376x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 14], ![false, false]⟩

def k0_off1 (i : grid0.Coords) : Fin 3 → Nat :=
  let arg1 : BitVec 32 := BitVec.ofNat 32 (i 1).val
  let v19 : Index := Scalar.indexCast arg1
  let c0_12 : Index := 0#32
  let c0_13 : Index := 0#32
  ![v19.toNat, 0, 0]
def k0_cond3 (i : grid0.Coords) : BitVec 1 :=
  let arg1 : BitVec 32 := BitVec.ofNat 32 (i 1).val
  let c13_i32 : BitVec 32 := 13#32
  let v34 : BitVec 1 := Scalar.cmpi .eq arg1 c13_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S896x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S896x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S896x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S5376x8192 : Shape := ⟨2, ![5376, 8192]⟩
abbrev S5376x1 : Shape := ⟨2, ![5376, 1]⟩
abbrev S8192x3584 : Shape := ⟨2, ![8192, 3584]⟩
abbrev S1x3584 : Shape := ⟨2, ![1, 3584]⟩
abbrev S5376x3584 : Shape := ⟨2, ![5376, 3584]⟩
abbrev S5376 : Shape := ⟨1, ![5376]⟩

abbrev nBuf : Space → Nat
  | .hbm => 8
  | .vmem => 8
  | .smem => 0
  | _ => 0

abbrev bufTy : (tb : Table) → Fin (tcTables nBuf tb) → BufTy
  | .hbm, ⟨0, _⟩ => ⟨S5376x8192, .fp8e4m3⟩
  | .hbm, ⟨1, _⟩ => ⟨S5376x1, .f32⟩
  | .hbm, ⟨2, _⟩ => ⟨S8192x3584, .fp8e4m3⟩
  | .hbm, ⟨3, _⟩ => ⟨S8192x3584, .fp8e4m3⟩
  | .hbm, ⟨4, _⟩ => ⟨S1x3584, .f32⟩
  | .hbm, ⟨5, _⟩ => ⟨S1x3584, .f32⟩
  | .hbm, ⟨6, _⟩ => ⟨S5376x3584, .fp8e4m3⟩
  | .hbm, ⟨7, _⟩ => ⟨S5376x1, .f32⟩
  | .local _ .vmem, ⟨0, _⟩ => ⟨S5376x8192, .fp8e4m3⟩
  | .local _ .vmem, ⟨1, _⟩ => ⟨S5376x1, .f32⟩
  | .local _ .vmem, ⟨2, _⟩ => ⟨S8192x3584, .fp8e4m3⟩
  | .local _ .vmem, ⟨3, _⟩ => ⟨S8192x3584, .fp8e4m3⟩
  | .local _ .vmem, ⟨4, _⟩ => ⟨S1x3584, .f32⟩
  | .local _ .vmem, ⟨5, _⟩ => ⟨S1x3584, .f32⟩
  | .local _ .vmem, ⟨6, _⟩ => ⟨S5376x3584, .fp8e4m3⟩
  | .local _ .vmem, ⟨7, _⟩ => ⟨S5376x1, .f32⟩
  | _, _ => ⟨S5376x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5376x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5376x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5376x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S5376x3584 : Shape := ⟨2, ![5376, 3584]⟩
abbrev S5376x1 : Shape := ⟨2, ![5376, 1]⟩
abbrev S3584x8192 : Shape := ⟨2, ![3584, 8192]⟩
abbrev S1x8192 : Shape := ⟨2, ![1, 8192]⟩
abbrev S1x1 : Shape := ⟨2, ![1, 1]⟩
abbrev S5376x8192 : Shape := ⟨2, ![5376, 8192]⟩
abbrev S896x3584 : Shape := ⟨2, ![896, 3584]⟩
abbrev S896x1 : Shape := ⟨2, ![896, 1]⟩
abbrev S3584x1024 : Shape := ⟨2, ![3584, 1024]⟩
abbrev S1x1024 : Shape := ⟨2, ![1, 1024]⟩
abbrev S896x1024 : Shape := ⟨2, ![896, 1024]⟩

abbrev nBuf : Space → Nat
  | .hbm => 7
  | .vmem => 13
  | .smem => 0
  | _ => 0

abbrev bufTy : (tb : Table) → Fin (tcTables nBuf tb) → BufTy
  | .hbm, ⟨0, _⟩ => ⟨S5376x3584, .fp8e4m3⟩
  | .hbm, ⟨1, _⟩ => ⟨S5376x1, .f32⟩
  | .hbm, ⟨2, _⟩ => ⟨S3584x8192, .fp8e4m3⟩
  | .hbm, ⟨3, _⟩ => ⟨S1x8192, .f32⟩
  | .hbm, ⟨4, _⟩ => ⟨S1x1, .f32⟩
  | .hbm, ⟨5, _⟩ => ⟨S5376x8192, .f32⟩
  | .hbm, ⟨6, _⟩ => ⟨S5376x8192, .bf16⟩
  | .local _ .vmem, ⟨0, _⟩ => ⟨S896x3584, .fp8e4m3⟩
  | .local _ .vmem, ⟨1, _⟩ => ⟨S896x3584, .fp8e4m3⟩
  | .local _ .vmem, ⟨2, _⟩ => ⟨S896x1, .f32⟩
  | .local _ .vmem, ⟨3, _⟩ => ⟨S896x1, .f32⟩
  | .local _ .vmem, ⟨4, _⟩ => ⟨S3584x1024, .fp8e4m3⟩
  | .local _ .vmem, ⟨5, _⟩ => ⟨S3584x1024, .fp8e4m3⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S896x1024, .f32⟩
  | .local _ .vmem, ⟨10, _⟩ => ⟨S896x1024, .f32⟩
  | .local _ .vmem, ⟨11, _⟩ => ⟨S896x1024, .bf16⟩
  | .local _ .vmem, ⟨12, _⟩ => ⟨S896x1024, .bf16⟩
  | _, _ => ⟨S5376x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S896x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S896x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S896x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S896x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S5376x3584 : Shape := ⟨2, ![5376, 3584]⟩
abbrev S5376x1 : Shape := ⟨2, ![5376, 1]⟩
abbrev S3584x8192 : Shape := ⟨2, ![3584, 8192]⟩
abbrev S1x8192 : Shape := ⟨2, ![1, 8192]⟩
abbrev S1x1 : Shape := ⟨2, ![1, 1]⟩
abbrev S5376x8192 : Shape := ⟨2, ![5376, 8192]⟩

abbrev nBuf : Space → Nat
  | .hbm => 7
  | .vmem => 7
  | .smem => 0
  | _ => 0

abbrev bufTy : (tb : Table) → Fin (tcTables nBuf tb) → BufTy
  | .hbm, ⟨0, _⟩ => ⟨S5376x3584, .fp8e4m3⟩
  | .hbm, ⟨1, _⟩ => ⟨S5376x1, .f32⟩
  | .hbm, ⟨2, _⟩ => ⟨S3584x8192, .fp8e4m3⟩
  | .hbm, ⟨3, _⟩ => ⟨S1x8192, .f32⟩
  | .hbm, ⟨4, _⟩ => ⟨S1x1, .f32⟩
  | .hbm, ⟨5, _⟩ => ⟨S5376x8192, .f32⟩
  | .hbm, ⟨6, _⟩ => ⟨S5376x8192, .bf16⟩
  | .local _ .vmem, ⟨0, _⟩ => ⟨S5376x3584, .fp8e4m3⟩
  | .local _ .vmem, ⟨1, _⟩ => ⟨S5376x1, .f32⟩
  | .local _ .vmem, ⟨2, _⟩ => ⟨S3584x8192, .fp8e4m3⟩
  | .local _ .vmem, ⟨3, _⟩ => ⟨S1x8192, .f32⟩
  | .local _ .vmem, ⟨4, _⟩ => ⟨S1x1, .f32⟩
  | .local _ .vmem, ⟨5, _⟩ => ⟨S5376x8192, .f32⟩
  | .local _ .vmem, ⟨6, _⟩ => ⟨S5376x8192, .bf16⟩
  | _, _ => ⟨S5376x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S5376x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5376x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5376x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OProj.lean ====
abbrev S5376x1024 : Shape := ⟨2, ![5376, 1024]⟩
abbrev S5376x1 : Shape := ⟨2, ![5376, 1]⟩
abbrev S5376x8192 : Shape := ⟨2, ![5376, 8192]⟩
abbrev S1024x8192 : Shape := ⟨2, ![1024, 8192]⟩
abbrev S1x8192 : Shape := ⟨2, ![1, 8192]⟩
abbrev S1x1 : Shape := ⟨2, ![1, 1]⟩
abbrev S128x1024 : Shape := ⟨2, ![128, 1024]⟩
abbrev S128x1 : Shape := ⟨2, ![128, 1]⟩
abbrev S128x8192 : Shape := ⟨2, ![128, 8192]⟩
abbrev S128x128 : Shape := ⟨2, ![128, 128]⟩
abbrev S32x128 : Shape := ⟨2, ![32, 128]⟩
abbrev S1x128 : Shape := ⟨2, ![1, 128]⟩
abbrev S128 : Shape := ⟨1, ![128]⟩

abbrev nBuf : Space → Nat
  | .hbm => 11
  | .vmem => 21
  | .smem => 0
  | _ => 0

abbrev bufTy : (tb : Table) → Fin (tcTables nBuf tb) → BufTy
  | .hbm, ⟨0, _⟩ => ⟨S5376x1024, .fp8e4m3⟩
  | .hbm, ⟨1, _⟩ => ⟨S5376x1, .f32⟩
  | .hbm, ⟨2, _⟩ => ⟨S5376x1, .i32⟩
  | .hbm, ⟨3, _⟩ => ⟨S5376x8192, .bf16⟩
  | .hbm, ⟨4, _⟩ => ⟨S1024x8192, .fp8e4m3⟩
  | .hbm, ⟨5, _⟩ => ⟨S1x8192, .f32⟩
  | .hbm, ⟨6, _⟩ => ⟨S1x1, .f32⟩
  | .hbm, ⟨7, _⟩ => ⟨S1x8192, .f32⟩
  | .hbm, ⟨8, _⟩ => ⟨S5376x8192, .f32⟩
  | .hbm, ⟨9, _⟩ => ⟨S5376x8192, .fp8e4m3⟩
  | .hbm, ⟨10, _⟩ => ⟨S5376x1, .f32⟩
  | .local _ .vmem, ⟨0, _⟩ => ⟨S128x1024, .fp8e4m3⟩
  | .local _ .vmem, ⟨1, _⟩ => ⟨S128x1024, .fp8e4m3⟩
  | .local _ .vmem, ⟨2, _⟩ => ⟨S128x1, .f32⟩
  | .local _ .vmem, ⟨3, _⟩ => ⟨S128x1, .f32⟩
  | .local _ .vmem, ⟨4, _⟩ => ⟨S128x1, .i32⟩
  | .local _ .vmem, ⟨5, _⟩ => ⟨S128x1, .i32⟩
  | .local _ .vmem, ⟨6, _⟩ => ⟨S128x8192, .bf16⟩
  | .local _ .vmem, ⟨7, _⟩ => ⟨S128x8192, .bf16⟩
  | .local _ .vmem, ⟨8, _⟩ => ⟨S1024x8192, .fp8e4m3⟩
  | .local _ .vmem, ⟨9, _⟩ => ⟨S1x8192, .f32⟩
  | .local _ .vmem, ⟨10, _⟩ => ⟨S1x1, .f32⟩
  | .local _ .vmem, ⟨11, _⟩ => ⟨S1x8192, .f32⟩
  | .local _ .vmem, ⟨12, _⟩ => ⟨S128x8192, .f32⟩
  | .local _ .vmem, ⟨13, _⟩ => ⟨S128x8192, .f32⟩
  | .local _ .vmem, ⟨14, _⟩ => ⟨S128x8192, .fp8e4m3⟩
  | .local _ .vmem, ⟨15, _⟩ => ⟨S128x8192, .fp8e4m3⟩
  | .local _ .vmem, ⟨16, _⟩ => ⟨S128x1, .f32⟩
  | .local _ .vmem, ⟨17, _⟩ => ⟨S128x1, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | _, _ => ⟨S5376x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![42], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  v53
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v57 : Index := Scalar.indexCast v54
  let c0_41 : Index := 0#32
  ![v57.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v67 : Index := Scalar.indexCast v54
  let c128 : Index := 128#32
  ![v67.toNat, 128]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v77 : Index := Scalar.indexCast v54
  let c256 : Index := 256#32
  ![v77.toNat, 256]
def k0_off4 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v87 : Index := Scalar.indexCast v54
  let c384 : Index := 384#32
  ![v87.toNat, 384]
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v97 : Index := Scalar.indexCast v54
  let c512 : Index := 512#32
  ![v97.toNat, 512]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v107 : Index := Scalar.indexCast v54
  let c640 : Index := 640#32
  ![v107.toNat, 640]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v117 : Index := Scalar.indexCast v54
  let c768 : Index := 768#32
  ![v117.toNat, 768]
def k0_off8 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v127 : Index := Scalar.indexCast v54
  let c896 : Index := 896#32
  ![v127.toNat, 896]
def k0_off9 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v137 : Index := Scalar.indexCast v54
  let c1024 : Index := 1024#32
  ![v137.toNat, 1024]
def k0_off10 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v147 : Index := Scalar.indexCast v54
  let c1152 : Index := 1152#32
  ![v147.toNat, 1152]
def k0_off11 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v157 : Index := Scalar.indexCast v54
  let c1280 : Index := 1280#32
  ![v157.toNat, 1280]
def k0_off12 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v167 : Index := Scalar.indexCast v54
  let c1408 : Index := 1408#32
  ![v167.toNat, 1408]
def k0_off13 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v177 : Index := Scalar.indexCast v54
  let c1536 : Index := 1536#32
  ![v177.toNat, 1536]
def k0_off14 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v187 : Index := Scalar.indexCast v54
  let c1664 : Index := 1664#32
  ![v187.toNat, 1664]
def k0_off15 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v197 : Index := Scalar.indexCast v54
  let c1792 : Index := 1792#32
  ![v197.toNat, 1792]
def k0_off16 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v207 : Index := Scalar.indexCast v54
  let c1920 : Index := 1920#32
  ![v207.toNat, 1920]
def k0_off17 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v217 : Index := Scalar.indexCast v54
  let c2048 : Index := 2048#32
  ![v217.toNat, 2048]
def k0_off18 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v227 : Index := Scalar.indexCast v54
  let c2176 : Index := 2176#32
  ![v227.toNat, 2176]
def k0_off19 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v237 : Index := Scalar.indexCast v54
  let c2304 : Index := 2304#32
  ![v237.toNat, 2304]
def k0_off20 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v247 : Index := Scalar.indexCast v54
  let c2432 : Index := 2432#32
  ![v247.toNat, 2432]
def k0_off21 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v257 : Index := Scalar.indexCast v54
  let c2560 : Index := 2560#32
  ![v257.toNat, 2560]
def k0_off22 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v267 : Index := Scalar.indexCast v54
  let c2688 : Index := 2688#32
  ![v267.toNat, 2688]
def k0_off23 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v277 : Index := Scalar.indexCast v54
  let c2816 : Index := 2816#32
  ![v277.toNat, 2816]
def k0_off24 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v287 : Index := Scalar.indexCast v54
  let c2944 : Index := 2944#32
  ![v287.toNat, 2944]
def k0_off25 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v297 : Index := Scalar.indexCast v54
  let c3072 : Index := 3072#32
  ![v297.toNat, 3072]
def k0_off26 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v307 : Index := Scalar.indexCast v54
  let c3200 : Index := 3200#32
  ![v307.toNat, 3200]
def k0_off27 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v317 : Index := Scalar.indexCast v54
  let c3328 : Index := 3328#32
  ![v317.toNat, 3328]
def k0_off28 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v327 : Index := Scalar.indexCast v54
  let c3456 : Index := 3456#32
  ![v327.toNat, 3456]
def k0_off29 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v337 : Index := Scalar.indexCast v54
  let c3584 : Index := 3584#32
  ![v337.toNat, 3584]
def k0_off30 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v347 : Index := Scalar.indexCast v54
  let c3712 : Index := 3712#32
  ![v347.toNat, 3712]
def k0_off31 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v357 : Index := Scalar.indexCast v54
  let c3840 : Index := 3840#32
  ![v357.toNat, 3840]
def k0_off32 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v367 : Index := Scalar.indexCast v54
  let c3968 : Index := 3968#32
  ![v367.toNat, 3968]
def k0_off33 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v377 : Index := Scalar.indexCast v54
  let c4096 : Index := 4096#32
  ![v377.toNat, 4096]
def k0_off34 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v387 : Index := Scalar.indexCast v54
  let c4224 : Index := 4224#32
  ![v387.toNat, 4224]
def k0_off35 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v397 : Index := Scalar.indexCast v54
  let c4352 : Index := 4352#32
  ![v397.toNat, 4352]
def k0_off36 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v407 : Index := Scalar.indexCast v54
  let c4480 : Index := 4480#32
  ![v407.toNat, 4480]
def k0_off37 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v417 : Index := Scalar.indexCast v54
  let c4608 : Index := 4608#32
  ![v417.toNat, 4608]
def k0_off38 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v427 : Index := Scalar.indexCast v54
  let c4736 : Index := 4736#32
  ![v427.toNat, 4736]
def k0_off39 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v437 : Index := Scalar.indexCast v54
  let c4864 : Index := 4864#32
  ![v437.toNat, 4864]
def k0_off40 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v447 : Index := Scalar.indexCast v54
  let c4992 : Index := 4992#32
  ![v447.toNat, 4992]
def k0_off41 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v457 : Index := Scalar.indexCast v54
  let c5120 : Index := 5120#32
  ![v457.toNat, 5120]
def k0_off42 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v467 : Index := Scalar.indexCast v54
  let c5248 : Index := 5248#32
  ![v467.toNat, 5248]
def k0_off43 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v477 : Index := Scalar.indexCast v54
  let c5376 : Index := 5376#32
  ![v477.toNat, 5376]
def k0_off44 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v487 : Index := Scalar.indexCast v54
  let c5504 : Index := 5504#32
  ![v487.toNat, 5504]
def k0_off45 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v497 : Index := Scalar.indexCast v54
  let c5632 : Index := 5632#32
  ![v497.toNat, 5632]
def k0_off46 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v507 : Index := Scalar.indexCast v54
  let c5760 : Index := 5760#32
  ![v507.toNat, 5760]
def k0_off47 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v517 : Index := Scalar.indexCast v54
  let c5888 : Index := 5888#32
  ![v517.toNat, 5888]
def k0_off48 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v527 : Index := Scalar.indexCast v54
  let c6016 : Index := 6016#32
  ![v527.toNat, 6016]
def k0_off49 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v537 : Index := Scalar.indexCast v54
  let c6144 : Index := 6144#32
  ![v537.toNat, 6144]
def k0_off50 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v547 : Index := Scalar.indexCast v54
  let c6272 : Index := 6272#32
  ![v547.toNat, 6272]
def k0_off51 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v557 : Index := Scalar.indexCast v54
  let c6400 : Index := 6400#32
  ![v557.toNat, 6400]
def k0_off52 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v567 : Index := Scalar.indexCast v54
  let c6528 : Index := 6528#32
  ![v567.toNat, 6528]
def k0_off53 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v577 : Index := Scalar.indexCast v54
  let c6656 : Index := 6656#32
  ![v577.toNat, 6656]
def k0_off54 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v587 : Index := Scalar.indexCast v54
  let c6784 : Index := 6784#32
  ![v587.toNat, 6784]
def k0_off55 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v597 : Index := Scalar.indexCast v54
  let c6912 : Index := 6912#32
  ![v597.toNat, 6912]
def k0_off56 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v607 : Index := Scalar.indexCast v54
  let c7040 : Index := 7040#32
  ![v607.toNat, 7040]
def k0_off57 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v617 : Index := Scalar.indexCast v54
  let c7168 : Index := 7168#32
  ![v617.toNat, 7168]
def k0_off58 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v627 : Index := Scalar.indexCast v54
  let c7296 : Index := 7296#32
  ![v627.toNat, 7296]
def k0_off59 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v637 : Index := Scalar.indexCast v54
  let c7424 : Index := 7424#32
  ![v637.toNat, 7424]
def k0_off60 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v647 : Index := Scalar.indexCast v54
  let c7552 : Index := 7552#32
  ![v647.toNat, 7552]
def k0_off61 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v657 : Index := Scalar.indexCast v54
  let c7680 : Index := 7680#32
  ![v657.toNat, 7680]
def k0_off62 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v667 : Index := Scalar.indexCast v54
  let c7808 : Index := 7808#32
  ![v667.toNat, 7808]
def k0_off63 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v677 : Index := Scalar.indexCast v54
  let c7936 : Index := 7936#32
  ![v677.toNat, 7936]
def k0_off64 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v687 : Index := Scalar.indexCast v54
  let c8064 : Index := 8064#32
  ![v687.toNat, 8064]
def k0_off65 (k0_t1 : Fin k0_t1_loop.trips) : Fin 2 → Nat :=
  let c0_i32 : BitVec 32 := 0#32
  let c1_i32 : BitVec 32 := 1#32
  let arg15 : BitVec 32 := Scf.iv c0_i32 c1_i32 k0_t1
  let c32_i32 : BitVec 32 := 32#32
  let v53 : BitVec 32 := Scalar.muli arg15 c32_i32
  let v54 : BitVec 32 := v53
  let v697 : Index := Scalar.indexCast v54
  let c0_170 : Index := 0#32
  ![v697.toNat, 0]
@[reducible] def k0_t2_loop : Scf.Loop 32 :=
  let c0_i32_35 : BitVec 32 := 0#32
  let c4_i32_36 : BitVec 32 := 4#32
  let v52 : BitVec 32 := Scalar.addi c0_i32_35 c4_i32_36
  let c1_i32_37 : BitVec 32 := 1#32
  ⟨c0_i32_35, v52, c1_i32_37⟩
def k0_mult2 (k0_t2 : Fin k0_t2_loop.trips) : BitVec 32 :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  v53
def k0_off66 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v55 : Index := Scalar.indexCast v54
  let c0_39 : Index := 0#32
  ![v55.toNat, 0]
def k0_off67 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v57 : Index := Scalar.indexCast v54
  let c0_40 : Index := 0#32
  ![v57.toNat, 0]
def k0_off68 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v71 : Index := Scalar.indexCast v54
  let c128 : Index := 128#32
  ![v71.toNat, 128]
def k0_off69 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v85 : Index := Scalar.indexCast v54
  let c256 : Index := 256#32
  ![v85.toNat, 256]
def k0_off70 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v99 : Index := Scalar.indexCast v54
  let c384 : Index := 384#32
  ![v99.toNat, 384]
def k0_off71 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v113 : Index := Scalar.indexCast v54
  let c512 : Index := 512#32
  ![v113.toNat, 512]
def k0_off72 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v127 : Index := Scalar.indexCast v54
  let c640 : Index := 640#32
  ![v127.toNat, 640]
def k0_off73 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v141 : Index := Scalar.indexCast v54
  let c768 : Index := 768#32
  ![v141.toNat, 768]
def k0_off74 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v155 : Index := Scalar.indexCast v54
  let c896 : Index := 896#32
  ![v155.toNat, 896]
def k0_off75 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v169 : Index := Scalar.indexCast v54
  let c1024 : Index := 1024#32
  ![v169.toNat, 1024]
def k0_off76 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v183 : Index := Scalar.indexCast v54
  let c1152 : Index := 1152#32
  ![v183.toNat, 1152]
def k0_off77 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v197 : Index := Scalar.indexCast v54
  let c1280 : Index := 1280#32
  ![v197.toNat, 1280]
def k0_off78 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v211 : Index := Scalar.indexCast v54
  let c1408 : Index := 1408#32
  ![v211.toNat, 1408]
def k0_off79 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v225 : Index := Scalar.indexCast v54
  let c1536 : Index := 1536#32
  ![v225.toNat, 1536]
def k0_off80 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v239 : Index := Scalar.indexCast v54
  let c1664 : Index := 1664#32
  ![v239.toNat, 1664]
def k0_off81 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v253 : Index := Scalar.indexCast v54
  let c1792 : Index := 1792#32
  ![v253.toNat, 1792]
def k0_off82 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v267 : Index := Scalar.indexCast v54
  let c1920 : Index := 1920#32
  ![v267.toNat, 1920]
def k0_off83 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v281 : Index := Scalar.indexCast v54
  let c2048 : Index := 2048#32
  ![v281.toNat, 2048]
def k0_off84 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v295 : Index := Scalar.indexCast v54
  let c2176 : Index := 2176#32
  ![v295.toNat, 2176]
def k0_off85 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v309 : Index := Scalar.indexCast v54
  let c2304 : Index := 2304#32
  ![v309.toNat, 2304]
def k0_off86 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v323 : Index := Scalar.indexCast v54
  let c2432 : Index := 2432#32
  ![v323.toNat, 2432]
def k0_off87 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v337 : Index := Scalar.indexCast v54
  let c2560 : Index := 2560#32
  ![v337.toNat, 2560]
def k0_off88 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v351 : Index := Scalar.indexCast v54
  let c2688 : Index := 2688#32
  ![v351.toNat, 2688]
def k0_off89 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v365 : Index := Scalar.indexCast v54
  let c2816 : Index := 2816#32
  ![v365.toNat, 2816]
def k0_off90 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v379 : Index := Scalar.indexCast v54
  let c2944 : Index := 2944#32
  ![v379.toNat, 2944]
def k0_off91 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v393 : Index := Scalar.indexCast v54
  let c3072 : Index := 3072#32
  ![v393.toNat, 3072]
def k0_off92 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v407 : Index := Scalar.indexCast v54
  let c3200 : Index := 3200#32
  ![v407.toNat, 3200]
def k0_off93 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v421 : Index := Scalar.indexCast v54
  let c3328 : Index := 3328#32
  ![v421.toNat, 3328]
def k0_off94 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v435 : Index := Scalar.indexCast v54
  let c3456 : Index := 3456#32
  ![v435.toNat, 3456]
def k0_off95 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v449 : Index := Scalar.indexCast v54
  let c3584 : Index := 3584#32
  ![v449.toNat, 3584]
def k0_off96 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v463 : Index := Scalar.indexCast v54
  let c3712 : Index := 3712#32
  ![v463.toNat, 3712]
def k0_off97 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v477 : Index := Scalar.indexCast v54
  let c3840 : Index := 3840#32
  ![v477.toNat, 3840]
def k0_off98 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v491 : Index := Scalar.indexCast v54
  let c3968 : Index := 3968#32
  ![v491.toNat, 3968]
def k0_off99 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v505 : Index := Scalar.indexCast v54
  let c4096 : Index := 4096#32
  ![v505.toNat, 4096]
def k0_off100 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v519 : Index := Scalar.indexCast v54
  let c4224 : Index := 4224#32
  ![v519.toNat, 4224]
def k0_off101 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v533 : Index := Scalar.indexCast v54
  let c4352 : Index := 4352#32
  ![v533.toNat, 4352]
def k0_off102 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v547 : Index := Scalar.indexCast v54
  let c4480 : Index := 4480#32
  ![v547.toNat, 4480]
def k0_off103 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v561 : Index := Scalar.indexCast v54
  let c4608 : Index := 4608#32
  ![v561.toNat, 4608]
def k0_off104 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v575 : Index := Scalar.indexCast v54
  let c4736 : Index := 4736#32
  ![v575.toNat, 4736]
def k0_off105 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v589 : Index := Scalar.indexCast v54
  let c4864 : Index := 4864#32
  ![v589.toNat, 4864]
def k0_off106 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v603 : Index := Scalar.indexCast v54
  let c4992 : Index := 4992#32
  ![v603.toNat, 4992]
def k0_off107 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v617 : Index := Scalar.indexCast v54
  let c5120 : Index := 5120#32
  ![v617.toNat, 5120]
def k0_off108 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v631 : Index := Scalar.indexCast v54
  let c5248 : Index := 5248#32
  ![v631.toNat, 5248]
def k0_off109 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v645 : Index := Scalar.indexCast v54
  let c5376 : Index := 5376#32
  ![v645.toNat, 5376]
def k0_off110 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v659 : Index := Scalar.indexCast v54
  let c5504 : Index := 5504#32
  ![v659.toNat, 5504]
def k0_off111 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v673 : Index := Scalar.indexCast v54
  let c5632 : Index := 5632#32
  ![v673.toNat, 5632]
def k0_off112 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v687 : Index := Scalar.indexCast v54
  let c5760 : Index := 5760#32
  ![v687.toNat, 5760]
def k0_off113 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v701 : Index := Scalar.indexCast v54
  let c5888 : Index := 5888#32
  ![v701.toNat, 5888]
def k0_off114 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v715 : Index := Scalar.indexCast v54
  let c6016 : Index := 6016#32
  ![v715.toNat, 6016]
def k0_off115 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v729 : Index := Scalar.indexCast v54
  let c6144 : Index := 6144#32
  ![v729.toNat, 6144]
def k0_off116 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v743 : Index := Scalar.indexCast v54
  let c6272 : Index := 6272#32
  ![v743.toNat, 6272]
def k0_off117 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v757 : Index := Scalar.indexCast v54
  let c6400 : Index := 6400#32
  ![v757.toNat, 6400]
def k0_off118 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v771 : Index := Scalar.indexCast v54
  let c6528 : Index := 6528#32
  ![v771.toNat, 6528]
def k0_off119 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v785 : Index := Scalar.indexCast v54
  let c6656 : Index := 6656#32
  ![v785.toNat, 6656]
def k0_off120 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v799 : Index := Scalar.indexCast v54
  let c6784 : Index := 6784#32
  ![v799.toNat, 6784]
def k0_off121 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v813 : Index := Scalar.indexCast v54
  let c6912 : Index := 6912#32
  ![v813.toNat, 6912]
def k0_off122 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v827 : Index := Scalar.indexCast v54
  let c7040 : Index := 7040#32
  ![v827.toNat, 7040]
def k0_off123 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v841 : Index := Scalar.indexCast v54
  let c7168 : Index := 7168#32
  ![v841.toNat, 7168]
def k0_off124 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v855 : Index := Scalar.indexCast v54
  let c7296 : Index := 7296#32
  ![v855.toNat, 7296]
def k0_off125 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v869 : Index := Scalar.indexCast v54
  let c7424 : Index := 7424#32
  ![v869.toNat, 7424]
def k0_off126 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v883 : Index := Scalar.indexCast v54
  let c7552 : Index := 7552#32
  ![v883.toNat, 7552]
def k0_off127 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v897 : Index := Scalar.indexCast v54
  let c7680 : Index := 7680#32
  ![v897.toNat, 7680]
def k0_off128 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v911 : Index := Scalar.indexCast v54
  let c7808 : Index := 7808#32
  ![v911.toNat, 7808]
def k0_off129 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v925 : Index := Scalar.indexCast v54
  let c7936 : Index := 7936#32
  ![v925.toNat, 7936]
def k0_off130 (k0_t2 : Fin k0_t2_loop.trips) : Fin 2 → Nat :=
  let c0_i32_35 : BitVec 32 := 0#32
  let c1_i32_37 : BitVec 32 := 1#32
  let arg15 : BitVec 32 := Scf.iv c0_i32_35 c1_i32_37 k0_t2
  let c32_i32 : BitVec 32 := 32#32
  let v53 : BitVec 32 := Scalar.muli arg15 c32_i32
  let v54 : BitVec 32 := v53
  let v939 : Index := Scalar.indexCast v54
  let c8064 : Index := 8064#32
  ![v939.toNat, 8064]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x8192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OProjRefIdeal.lean ====
abbrev S5376x1024 : Shape := ⟨2, ![5376, 1024]⟩
abbrev S5376x1 : Shape := ⟨2, ![5376, 1]⟩
abbrev S5376x8192 : Shape := ⟨2, ![5376, 8192]⟩
abbrev S1024x8192 : Shape := ⟨2, ![1024, 8192]⟩
abbrev S1x8192 : Shape := ⟨2, ![1, 8192]⟩
abbrev S1x1 : Shape := ⟨2, ![1, 1]⟩
abbrev S5376 : Shape := ⟨1, ![5376]⟩

abbrev nBuf : Space → Nat
  | .hbm => 11
  | .vmem => 11
  | .smem => 0
  | _ => 0

abbrev bufTy : (tb : Table) → Fin (tcTables nBuf tb) → BufTy
  | .hbm, ⟨0, _⟩ => ⟨S5376x1024, .fp8e4m3⟩
  | .hbm, ⟨1, _⟩ => ⟨S5376x1, .f32⟩
  | .hbm, ⟨2, _⟩ => ⟨S5376x1, .i32⟩
  | .hbm, ⟨3, _⟩ => ⟨S5376x8192, .bf16⟩
  | .hbm, ⟨4, _⟩ => ⟨S1024x8192, .fp8e4m3⟩
  | .hbm, ⟨5, _⟩ => ⟨S1x8192, .f32⟩
  | .hbm, ⟨6, _⟩ => ⟨S1x1, .f32⟩
  | .hbm, ⟨7, _⟩ => ⟨S1x8192, .f32⟩
  | .hbm, ⟨8, _⟩ => ⟨S5376x8192, .f32⟩
  | .hbm, ⟨9, _⟩ => ⟨S5376x8192, .fp8e4m3⟩
  | .hbm, ⟨10, _⟩ => ⟨S5376x1, .f32⟩
  | .local _ .vmem, ⟨0, _⟩ => ⟨S5376x1024, .fp8e4m3⟩
  | .local _ .vmem, ⟨1, _⟩ => ⟨S5376x1, .f32⟩
  | .local _ .vmem, ⟨2, _⟩ => ⟨S5376x1, .i32⟩
  | .local _ .vmem, ⟨3, _⟩ => ⟨S5376x8192, .bf16⟩
  | .local _ .vmem, ⟨4, _⟩ => ⟨S1024x8192, .fp8e4m3⟩
  | .local _ .vmem, ⟨5, _⟩ => ⟨S1x8192, .f32⟩
  | .local _ .vmem, ⟨6, _⟩ => ⟨S1x1, .f32⟩
  | .local _ .vmem, ⟨7, _⟩ => ⟨S1x8192, .f32⟩
  | .local _ .vmem, ⟨8, _⟩ => ⟨S5376x8192, .f32⟩
  | .local _ .vmem, ⟨9, _⟩ => ⟨S5376x8192, .fp8e4m3⟩
  | .local _ .vmem, ⟨10, _⟩ => ⟨S5376x1, .f32⟩
  | _, _ => ⟨S5376x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S5376x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5376x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5376x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5376x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5376x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== TextQ.lean ====
abbrev S5376x8192 : Shape := ⟨2, ![5376, 8192]⟩
abbrev S1x8192 : Shape := ⟨2, ![1, 8192]⟩
abbrev S8192x1024 : Shape := ⟨2, ![8192, 1024]⟩
abbrev S1x1024 : Shape := ⟨2, ![1, 1024]⟩
abbrev S1x128 : Shape := ⟨2, ![1, 128]⟩
abbrev S5376x1 : Shape := ⟨2, ![5376, 1]⟩
abbrev S5376x1024 : Shape := ⟨2, ![5376, 1024]⟩
abbrev S256x8192 : Shape := ⟨2, ![256, 8192]⟩
abbrev S256x1 : Shape := ⟨2, ![256, 1]⟩
abbrev S256x1024 : Shape := ⟨2, ![256, 1024]⟩
abbrev S256x128 : Shape := ⟨2, ![256, 128]⟩
abbrev S32x128 : Shape := ⟨2, ![32, 128]⟩
abbrev S256 : Shape := ⟨1, ![256]⟩

abbrev nBuf : Space → Nat
  | .hbm => 8
  | .vmem => 15
  | .smem => 0
  | _ => 0

abbrev bufTy : (tb : Table) → Fin (tcTables nBuf tb) → BufTy
  | .hbm, ⟨0, _⟩ => ⟨S5376x8192, .bf16⟩
  | .hbm, ⟨1, _⟩ => ⟨S1x8192, .f32⟩
  | .hbm, ⟨2, _⟩ => ⟨S8192x1024, .fp8e4m3⟩
  | .hbm, ⟨3, _⟩ => ⟨S1x1024, .f32⟩
  | .hbm, ⟨4, _⟩ => ⟨S1x128, .f32⟩
  | .hbm, ⟨5, _⟩ => ⟨S5376x8192, .fp8e4m3⟩
  | .hbm, ⟨6, _⟩ => ⟨S5376x1, .f32⟩
  | .hbm, ⟨7, _⟩ => ⟨S5376x1024, .bf16⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S8192x1024, .fp8e4m3⟩
  | .local _ .vmem, ⟨4, _⟩ => ⟨S1x1024, .f32⟩
  | .local _ .vmem, ⟨5, _⟩ => ⟨S1x128, .f32⟩
  | .local _ .vmem, ⟨6, _⟩ => ⟨S256x8192, .fp8e4m3⟩
  | .local _ .vmem, ⟨7, _⟩ => ⟨S256x8192, .fp8e4m3⟩
  | .local _ .vmem, ⟨8, _⟩ => ⟨S256x1, .f32⟩
  | .local _ .vmem, ⟨9, _⟩ => ⟨S256x1, .f32⟩
  | .local _ .vmem, ⟨10, _⟩ => ⟨S256x1024, .bf16⟩
  | .local _ .vmem, ⟨11, _⟩ => ⟨S256x1024, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | _, _ => ⟨S5376x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![21], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  v182
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v186 : Index := Scalar.indexCast v183
  let c0_85 : Index := 0#32
  ![v186.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v196 : Index := Scalar.indexCast v183
  let c128_88 : Index := 128#32
  ![v196.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v206 : Index := Scalar.indexCast v183
  let c256_91 : Index := 256#32
  ![v206.toNat, 256]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v216 : Index := Scalar.indexCast v183
  let c384_94 : Index := 384#32
  ![v216.toNat, 384]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v226 : Index := Scalar.indexCast v183
  let c512_97 : Index := 512#32
  ![v226.toNat, 512]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v236 : Index := Scalar.indexCast v183
  let c640_100 : Index := 640#32
  ![v236.toNat, 640]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v246 : Index := Scalar.indexCast v183
  let c768_103 : Index := 768#32
  ![v246.toNat, 768]
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v256 : Index := Scalar.indexCast v183
  let c896_106 : Index := 896#32
  ![v256.toNat, 896]
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v266 : Index := Scalar.indexCast v183
  let c1024 : Index := 1024#32
  ![v266.toNat, 1024]
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v276 : Index := Scalar.indexCast v183
  let c1152 : Index := 1152#32
  ![v276.toNat, 1152]
def k0_off11 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v286 : Index := Scalar.indexCast v183
  let c1280 : Index := 1280#32
  ![v286.toNat, 1280]
def k0_off12 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v296 : Index := Scalar.indexCast v183
  let c1408 : Index := 1408#32
  ![v296.toNat, 1408]
def k0_off13 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v306 : Index := Scalar.indexCast v183
  let c1536 : Index := 1536#32
  ![v306.toNat, 1536]
def k0_off14 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v316 : Index := Scalar.indexCast v183
  let c1664 : Index := 1664#32
  ![v316.toNat, 1664]
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v326 : Index := Scalar.indexCast v183
  let c1792 : Index := 1792#32
  ![v326.toNat, 1792]
def k0_off16 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v336 : Index := Scalar.indexCast v183
  let c1920 : Index := 1920#32
  ![v336.toNat, 1920]
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v346 : Index := Scalar.indexCast v183
  let c2048 : Index := 2048#32
  ![v346.toNat, 2048]
def k0_off18 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v356 : Index := Scalar.indexCast v183
  let c2176 : Index := 2176#32
  ![v356.toNat, 2176]
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v366 : Index := Scalar.indexCast v183
  let c2304 : Index := 2304#32
  ![v366.toNat, 2304]
def k0_off20 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v376 : Index := Scalar.indexCast v183
  let c2432 : Index := 2432#32
  ![v376.toNat, 2432]
def k0_off21 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v386 : Index := Scalar.indexCast v183
  let c2560 : Index := 2560#32
  ![v386.toNat, 2560]
def k0_off22 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v396 : Index := Scalar.indexCast v183
  let c2688 : Index := 2688#32
  ![v396.toNat, 2688]
def k0_off23 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v406 : Index := Scalar.indexCast v183
  let c2816 : Index := 2816#32
  ![v406.toNat, 2816]
def k0_off24 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v416 : Index := Scalar.indexCast v183
  let c2944 : Index := 2944#32
  ![v416.toNat, 2944]
def k0_off25 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v426 : Index := Scalar.indexCast v183
  let c3072 : Index := 3072#32
  ![v426.toNat, 3072]
def k0_off26 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v436 : Index := Scalar.indexCast v183
  let c3200 : Index := 3200#32
  ![v436.toNat, 3200]
def k0_off27 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v446 : Index := Scalar.indexCast v183
  let c3328 : Index := 3328#32
  ![v446.toNat, 3328]
def k0_off28 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v456 : Index := Scalar.indexCast v183
  let c3456 : Index := 3456#32
  ![v456.toNat, 3456]
def k0_off29 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v466 : Index := Scalar.indexCast v183
  let c3584 : Index := 3584#32
  ![v466.toNat, 3584]
def k0_off30 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v476 : Index := Scalar.indexCast v183
  let c3712 : Index := 3712#32
  ![v476.toNat, 3712]
def k0_off31 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v486 : Index := Scalar.indexCast v183
  let c3840 : Index := 3840#32
  ![v486.toNat, 3840]
def k0_off32 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v496 : Index := Scalar.indexCast v183
  let c3968 : Index := 3968#32
  ![v496.toNat, 3968]
def k0_off33 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v506 : Index := Scalar.indexCast v183
  let c4096 : Index := 4096#32
  ![v506.toNat, 4096]
def k0_off34 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v516 : Index := Scalar.indexCast v183
  let c4224 : Index := 4224#32
  ![v516.toNat, 4224]
def k0_off35 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v526 : Index := Scalar.indexCast v183
  let c4352 : Index := 4352#32
  ![v526.toNat, 4352]
def k0_off36 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v536 : Index := Scalar.indexCast v183
  let c4480 : Index := 4480#32
  ![v536.toNat, 4480]
def k0_off37 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v546 : Index := Scalar.indexCast v183
  let c4608 : Index := 4608#32
  ![v546.toNat, 4608]
def k0_off38 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v556 : Index := Scalar.indexCast v183
  let c4736 : Index := 4736#32
  ![v556.toNat, 4736]
def k0_off39 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v566 : Index := Scalar.indexCast v183
  let c4864 : Index := 4864#32
  ![v566.toNat, 4864]
def k0_off40 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v576 : Index := Scalar.indexCast v183
  let c4992 : Index := 4992#32
  ![v576.toNat, 4992]
def k0_off41 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v586 : Index := Scalar.indexCast v183
  let c5120 : Index := 5120#32
  ![v586.toNat, 5120]
def k0_off42 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v596 : Index := Scalar.indexCast v183
  let c5248 : Index := 5248#32
  ![v596.toNat, 5248]
def k0_off43 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v606 : Index := Scalar.indexCast v183
  let c5376 : Index := 5376#32
  ![v606.toNat, 5376]
def k0_off44 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v616 : Index := Scalar.indexCast v183
  let c5504 : Index := 5504#32
  ![v616.toNat, 5504]
def k0_off45 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v626 : Index := Scalar.indexCast v183
  let c5632 : Index := 5632#32
  ![v626.toNat, 5632]
def k0_off46 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v636 : Index := Scalar.indexCast v183
  let c5760 : Index := 5760#32
  ![v636.toNat, 5760]
def k0_off47 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v646 : Index := Scalar.indexCast v183
  let c5888 : Index := 5888#32
  ![v646.toNat, 5888]
def k0_off48 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v656 : Index := Scalar.indexCast v183
  let c6016 : Index := 6016#32
  ![v656.toNat, 6016]
def k0_off49 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v666 : Index := Scalar.indexCast v183
  let c6144 : Index := 6144#32
  ![v666.toNat, 6144]
def k0_off50 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v676 : Index := Scalar.indexCast v183
  let c6272 : Index := 6272#32
  ![v676.toNat, 6272]
def k0_off51 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v686 : Index := Scalar.indexCast v183
  let c6400 : Index := 6400#32
  ![v686.toNat, 6400]
def k0_off52 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v696 : Index := Scalar.indexCast v183
  let c6528 : Index := 6528#32
  ![v696.toNat, 6528]
def k0_off53 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v706 : Index := Scalar.indexCast v183
  let c6656 : Index := 6656#32
  ![v706.toNat, 6656]
def k0_off54 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v716 : Index := Scalar.indexCast v183
  let c6784 : Index := 6784#32
  ![v716.toNat, 6784]
def k0_off55 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v726 : Index := Scalar.indexCast v183
  let c6912 : Index := 6912#32
  ![v726.toNat, 6912]
def k0_off56 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v736 : Index := Scalar.indexCast v183
  let c7040 : Index := 7040#32
  ![v736.toNat, 7040]
def k0_off57 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v746 : Index := Scalar.indexCast v183
  let c7168 : Index := 7168#32
  ![v746.toNat, 7168]
def k0_off58 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v756 : Index := Scalar.indexCast v183
  let c7296 : Index := 7296#32
  ![v756.toNat, 7296]
def k0_off59 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v766 : Index := Scalar.indexCast v183
  let c7424 : Index := 7424#32
  ![v766.toNat, 7424]
def k0_off60 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v776 : Index := Scalar.indexCast v183
  let c7552 : Index := 7552#32
  ![v776.toNat, 7552]
def k0_off61 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v786 : Index := Scalar.indexCast v183
  let c7680 : Index := 7680#32
  ![v786.toNat, 7680]
def k0_off62 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v796 : Index := Scalar.indexCast v183
  let c7808 : Index := 7808#32
  ![v796.toNat, 7808]
def k0_off63 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v806 : Index := Scalar.indexCast v183
  let c7936 : Index := 7936#32
  ![v806.toNat, 7936]
def k0_off64 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v816 : Index := Scalar.indexCast v183
  let c8064 : Index := 8064#32
  ![v816.toNat, 8064]
def k0_off65 (k0_t1 : Fin k0_t1_loop.trips) : Fin 2 → Nat :=
  let c0_i32 : BitVec 32 := 0#32
  let c1_i32 : BitVec 32 := 1#32
  let arg12 : BitVec 32 := Scf.iv c0_i32 c1_i32 k0_t1
  let c32_i32 : BitVec 32 := 32#32
  let v182 : BitVec 32 := Scalar.muli arg12 c32_i32
  let v183 : BitVec 32 := v182
  let v826 : Index := Scalar.indexCast v183
  let c0_221 : Index := 0#32
  ![v826.toNat, 0]
@[reducible] def k0_t2_loop : Scf.Loop 32 :=
  let c0_i32_15 : BitVec 32 := 0#32
  let c8_i32_16 : BitVec 32 := 8#32
  let v28 : BitVec 32 := Scalar.addi c0_i32_15 c8_i32_16
  let c1_i32_17 : BitVec 32 := 1#32
  ⟨c0_i32_15, v28, c1_i32_17⟩
def k0_mult2 (k0_t2 : Fin k0_t2_loop.trips) : BitVec 32 :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  v182
def k0_off66 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v184 : Index := Scalar.indexCast v183
  let c0_83 : Index := 0#32
  ![v184.toNat, 0]
def k0_off67 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v186 : Index := Scalar.indexCast v183
  let c0_84 : Index := 0#32
  ![v186.toNat, 0]
def k0_off68 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v200 : Index := Scalar.indexCast v183
  let c128_90 : Index := 128#32
  ![v200.toNat, 128]
def k0_off69 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v214 : Index := Scalar.indexCast v183
  let c256_96 : Index := 256#32
  ![v214.toNat, 256]
def k0_off70 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v228 : Index := Scalar.indexCast v183
  let c384_102 : Index := 384#32
  ![v228.toNat, 384]
def k0_off71 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v242 : Index := Scalar.indexCast v183
  let c512_108 : Index := 512#32
  ![v242.toNat, 512]
def k0_off72 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v256 : Index := Scalar.indexCast v183
  let c640_114 : Index := 640#32
  ![v256.toNat, 640]
def k0_off73 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v270 : Index := Scalar.indexCast v183
  let c768_120 : Index := 768#32
  ![v270.toNat, 768]
def k0_off74 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v284 : Index := Scalar.indexCast v183
  let c896_126 : Index := 896#32
  ![v284.toNat, 896]
def k0_off75 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v298 : Index := Scalar.indexCast v183
  let c1024 : Index := 1024#32
  ![v298.toNat, 1024]
def k0_off76 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v312 : Index := Scalar.indexCast v183
  let c1152 : Index := 1152#32
  ![v312.toNat, 1152]
def k0_off77 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v326 : Index := Scalar.indexCast v183
  let c1280 : Index := 1280#32
  ![v326.toNat, 1280]
def k0_off78 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v340 : Index := Scalar.indexCast v183
  let c1408 : Index := 1408#32
  ![v340.toNat, 1408]
def k0_off79 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v354 : Index := Scalar.indexCast v183
  let c1536 : Index := 1536#32
  ![v354.toNat, 1536]
def k0_off80 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v368 : Index := Scalar.indexCast v183
  let c1664 : Index := 1664#32
  ![v368.toNat, 1664]
def k0_off81 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v382 : Index := Scalar.indexCast v183
  let c1792 : Index := 1792#32
  ![v382.toNat, 1792]
def k0_off82 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v396 : Index := Scalar.indexCast v183
  let c1920 : Index := 1920#32
  ![v396.toNat, 1920]
def k0_off83 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v410 : Index := Scalar.indexCast v183
  let c2048 : Index := 2048#32
  ![v410.toNat, 2048]
def k0_off84 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v424 : Index := Scalar.indexCast v183
  let c2176 : Index := 2176#32
  ![v424.toNat, 2176]
def k0_off85 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v438 : Index := Scalar.indexCast v183
  let c2304 : Index := 2304#32
  ![v438.toNat, 2304]
def k0_off86 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v452 : Index := Scalar.indexCast v183
  let c2432 : Index := 2432#32
  ![v452.toNat, 2432]
def k0_off87 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v466 : Index := Scalar.indexCast v183
  let c2560 : Index := 2560#32
  ![v466.toNat, 2560]
def k0_off88 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v480 : Index := Scalar.indexCast v183
  let c2688 : Index := 2688#32
  ![v480.toNat, 2688]
def k0_off89 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v494 : Index := Scalar.indexCast v183
  let c2816 : Index := 2816#32
  ![v494.toNat, 2816]
def k0_off90 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v508 : Index := Scalar.indexCast v183
  let c2944 : Index := 2944#32
  ![v508.toNat, 2944]
def k0_off91 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v522 : Index := Scalar.indexCast v183
  let c3072 : Index := 3072#32
  ![v522.toNat, 3072]
def k0_off92 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v536 : Index := Scalar.indexCast v183
  let c3200 : Index := 3200#32
  ![v536.toNat, 3200]
def k0_off93 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v550 : Index := Scalar.indexCast v183
  let c3328 : Index := 3328#32
  ![v550.toNat, 3328]
def k0_off94 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v564 : Index := Scalar.indexCast v183
  let c3456 : Index := 3456#32
  ![v564.toNat, 3456]
def k0_off95 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v578 : Index := Scalar.indexCast v183
  let c3584 : Index := 3584#32
  ![v578.toNat, 3584]
def k0_off96 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v592 : Index := Scalar.indexCast v183
  let c3712 : Index := 3712#32
  ![v592.toNat, 3712]
def k0_off97 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v606 : Index := Scalar.indexCast v183
  let c3840 : Index := 3840#32
  ![v606.toNat, 3840]
def k0_off98 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v620 : Index := Scalar.indexCast v183
  let c3968 : Index := 3968#32
  ![v620.toNat, 3968]
def k0_off99 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v634 : Index := Scalar.indexCast v183
  let c4096 : Index := 4096#32
  ![v634.toNat, 4096]
def k0_off100 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v648 : Index := Scalar.indexCast v183
  let c4224 : Index := 4224#32
  ![v648.toNat, 4224]
def k0_off101 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v662 : Index := Scalar.indexCast v183
  let c4352 : Index := 4352#32
  ![v662.toNat, 4352]
def k0_off102 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v676 : Index := Scalar.indexCast v183
  let c4480 : Index := 4480#32
  ![v676.toNat, 4480]
def k0_off103 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v690 : Index := Scalar.indexCast v183
  let c4608 : Index := 4608#32
  ![v690.toNat, 4608]
def k0_off104 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v704 : Index := Scalar.indexCast v183
  let c4736 : Index := 4736#32
  ![v704.toNat, 4736]
def k0_off105 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v718 : Index := Scalar.indexCast v183
  let c4864 : Index := 4864#32
  ![v718.toNat, 4864]
def k0_off106 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v732 : Index := Scalar.indexCast v183
  let c4992 : Index := 4992#32
  ![v732.toNat, 4992]
def k0_off107 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v746 : Index := Scalar.indexCast v183
  let c5120 : Index := 5120#32
  ![v746.toNat, 5120]
def k0_off108 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v760 : Index := Scalar.indexCast v183
  let c5248 : Index := 5248#32
  ![v760.toNat, 5248]
def k0_off109 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v774 : Index := Scalar.indexCast v183
  let c5376 : Index := 5376#32
  ![v774.toNat, 5376]
def k0_off110 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v788 : Index := Scalar.indexCast v183
  let c5504 : Index := 5504#32
  ![v788.toNat, 5504]
def k0_off111 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v802 : Index := Scalar.indexCast v183
  let c5632 : Index := 5632#32
  ![v802.toNat, 5632]
def k0_off112 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v816 : Index := Scalar.indexCast v183
  let c5760 : Index := 5760#32
  ![v816.toNat, 5760]
def k0_off113 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v830 : Index := Scalar.indexCast v183
  let c5888 : Index := 5888#32
  ![v830.toNat, 5888]
def k0_off114 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v844 : Index := Scalar.indexCast v183
  let c6016 : Index := 6016#32
  ![v844.toNat, 6016]
def k0_off115 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v858 : Index := Scalar.indexCast v183
  let c6144 : Index := 6144#32
  ![v858.toNat, 6144]
def k0_off116 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v872 : Index := Scalar.indexCast v183
  let c6272 : Index := 6272#32
  ![v872.toNat, 6272]
def k0_off117 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v886 : Index := Scalar.indexCast v183
  let c6400 : Index := 6400#32
  ![v886.toNat, 6400]
def k0_off118 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v900 : Index := Scalar.indexCast v183
  let c6528 : Index := 6528#32
  ![v900.toNat, 6528]
def k0_off119 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v914 : Index := Scalar.indexCast v183
  let c6656 : Index := 6656#32
  ![v914.toNat, 6656]
def k0_off120 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v928 : Index := Scalar.indexCast v183
  let c6784 : Index := 6784#32
  ![v928.toNat, 6784]
def k0_off121 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v942 : Index := Scalar.indexCast v183
  let c6912 : Index := 6912#32
  ![v942.toNat, 6912]
def k0_off122 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v956 : Index := Scalar.indexCast v183
  let c7040 : Index := 7040#32
  ![v956.toNat, 7040]
def k0_off123 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v970 : Index := Scalar.indexCast v183
  let c7168 : Index := 7168#32
  ![v970.toNat, 7168]
def k0_off124 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v984 : Index := Scalar.indexCast v183
  let c7296 : Index := 7296#32
  ![v984.toNat, 7296]
def k0_off125 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v998 : Index := Scalar.indexCast v183
  let c7424 : Index := 7424#32
  ![v998.toNat, 7424]
def k0_off126 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v1012 : Index := Scalar.indexCast v183
  let c7552 : Index := 7552#32
  ![v1012.toNat, 7552]
def k0_off127 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v1026 : Index := Scalar.indexCast v183
  let c7680 : Index := 7680#32
  ![v1026.toNat, 7680]
def k0_off128 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v1040 : Index := Scalar.indexCast v183
  let c7808 : Index := 7808#32
  ![v1040.toNat, 7808]
def k0_off129 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v1054 : Index := Scalar.indexCast v183
  let c7936 : Index := 7936#32
  ![v1054.toNat, 7936]
def k0_off130 (k0_t2 : Fin k0_t2_loop.trips) : Fin 2 → Nat :=
  let c0_i32_15 : BitVec 32 := 0#32
  let c1_i32_17 : BitVec 32 := 1#32
  let arg12 : BitVec 32 := Scf.iv c0_i32_15 c1_i32_17 k0_t2
  let c32_i32 : BitVec 32 := 32#32
  let v182 : BitVec 32 := Scalar.muli arg12 c32_i32
  let v183 : BitVec 32 := v182
  let v1068 : Index := Scalar.indexCast v183
  let c8064 : Index := 8064#32
  ![v1068.toNat, 8064]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TextQRefIdeal.lean ====
abbrev S5376x8192 : Shape := ⟨2, ![5376, 8192]⟩
abbrev S1x8192 : Shape := ⟨2, ![1, 8192]⟩
abbrev S8192x1024 : Shape := ⟨2, ![8192, 1024]⟩
abbrev S1x1024 : Shape := ⟨2, ![1, 1024]⟩
abbrev S1x128 : Shape := ⟨2, ![1, 128]⟩
abbrev S5376x1 : Shape := ⟨2, ![5376, 1]⟩
abbrev S5376x1024 : Shape := ⟨2, ![5376, 1024]⟩
abbrev S5376 : Shape := ⟨1, ![5376]⟩
abbrev S5376x8x128 : Shape := ⟨3, ![5376, 8, 128]⟩
abbrev S1x1x128 : Shape := ⟨3, ![1, 1, 128]⟩
abbrev S5376x8 : Shape := ⟨2, ![5376, 8]⟩
abbrev S5376x8x1 : Shape := ⟨3, ![5376, 8, 1]⟩

abbrev nBuf : Space → Nat
  | .hbm => 8
  | .vmem => 8
  | .smem => 0
  | _ => 0

abbrev bufTy : (tb : Table) → Fin (tcTables nBuf tb) → BufTy
  | .hbm, ⟨0, _⟩ => ⟨S5376x8192, .bf16⟩
  | .hbm, ⟨1, _⟩ => ⟨S1x8192, .f32⟩
  | .hbm, ⟨2, _⟩ => ⟨S8192x1024, .fp8e4m3⟩
  | .hbm, ⟨3, _⟩ => ⟨S1x1024, .f32⟩
  | .hbm, ⟨4, _⟩ => ⟨S1x128, .f32⟩
  | .hbm, ⟨5, _⟩ => ⟨S5376x8192, .fp8e4m3⟩
  | .hbm, ⟨6, _⟩ => ⟨S5376x1, .f32⟩
  | .hbm, ⟨7, _⟩ => ⟨S5376x1024, .bf16⟩
  | .local _ .vmem, ⟨0, _⟩ => ⟨S5376x8192, .bf16⟩
  | .local _ .vmem, ⟨1, _⟩ => ⟨S1x8192, .f32⟩
  | .local _ .vmem, ⟨2, _⟩ => ⟨S8192x1024, .fp8e4m3⟩
  | .local _ .vmem, ⟨3, _⟩ => ⟨S1x1024, .f32⟩
  | .local _ .vmem, ⟨4, _⟩ => ⟨S1x128, .f32⟩
  | .local _ .vmem, ⟨5, _⟩ => ⟨S5376x8192, .fp8e4m3⟩
  | .local _ .vmem, ⟨6, _⟩ => ⟨S5376x1, .f32⟩
  | .local _ .vmem, ⟨7, _⟩ => ⟨S5376x1024, .bf16⟩
  | _, _ => ⟨S5376x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5376x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5376x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5376x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5376x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.GateUpBitsRun.lean ====
module

public import proofs.«01_k».proof.Proof.Gen.GateUp.Frame
public import Idealize.ShloMosaic.Lib.WritesUnit
public import Idealize.ShloMosaic.Lib.Pipeline.Value
public import proofs.«01_k».proof.Proof.Gen.GateUp.Skeleton
public import Idealize.ShloMosaic.Lib.ValueIdx
public import Idealize.ShloMosaic.Lib.VecWindow
public import Idealize.ShloMosaic.Lib.Pointwise

/-!
# The gate/up kernel's body, run with its scratch buffers named

The grid is 6 row blocks by 14 column blocks.  At the point `(i, j)` the body computes the hidden block `j` of the rows
`i`, keeps it in slot `j` of the scratch `arg10`, and folds its absolute values, lane by lane, into the scratch `arg11`;
at the last column block it turns the 14 kept blocks into codes (`arg8`) and writes the scale (`arg9`).

Three runs: the first column block (A), the middle ones (B), the last (C).
-/

@[expose] public section

set_option maxRecDepth 16384

noncomputable section

namespace Cert.Proof.GateUpBits

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 84 := Nat.lt_of_lt_of_eq t.isLt N_0
    have e0 : (grid0.coords t 0).val = t.val / 14 % 6 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 14 :=
  (by decide +kernel : ∀ t : Fin grid0.N, cond0_1 (grid0.coords t) ↔ 1 ≤ t.val % 14)

/-- The condition of the body's `scf.if` 2 (`k0_h3`), from the grid coordinates (the skeleton's scalar
    chain substituted). -/
abbrev cond0_2 (i : grid0.Coords) : Prop := k0_cond3 i = 1#1
/-- It holds at the points ≡ 13 (mod 14) — by arithmetic of the point. -/
theorem hcond0_2 : ∀ t : Fin cfg0.N, cond0_2 (grid0.coords t) ↔ t.val % 14 = 13 :=
  (fun t => by
    have ht : t.val < 84 := Nat.lt_of_lt_of_eq t.isLt N_0
    have e0 : (grid0.coords t 0).val = t.val / 14 % 6 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val % 14 = 13)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Each window's current staging memref at point `t`, spelled as the pipeline passes it (`bodyAt0`), and its wholeness. -/
abbrev ms0_0 (t : Fin cfg0.N) : Memref sig .tc .vmem S896x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S896x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S14x896x256 .f32 := Memref.whole cc0_scratch0
abbrev scM0_1 : Memref sig .tc .vmem S896x128 .f32 := Memref.whole cc0_scratch1
/-- The scratch `arg11` the kernel carries between points, as a view: what it holds is stated through it. -/
abbrev VS0_1 : View sig .tc .vmem S896x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves -/

/-- The scratch `arg10` with slot `j` replaced by the block `v`. -/
def setSlot (X : Vec F S14x896x256 .f32) (j : ℕ) (v : Vec F S896x256 .f32) : Vec F S14x896x256 .f32 :=
  fun y => if (y 0).val = j then v (ix2 (y 1) (y 2)) else X y

/-- Slot `j` of the scratch `arg10`, as the body loads it. -/
def slot (X : Vec F S14x896x256 .f32) (j : Fin 14) : Vec F S1x896x256 .f32 :=
  fun y => X (ix3 j (y 1) (y 2))

/-- The block of codes the last point stores: column `c` comes from lane `c % 256` of slot `c / 256`. -/
def codes (X : Vec F S14x896x256 .f32) (am : Vec F S896x128 .f32) : Vec F S896x3584 .fp8e4m3 :=
  fun y => k0_pay1 (k0_pay4 am) (slot X ⟨(y 1).val / 256, by have h : (y 1).val < 3584 := (y 1).isLt; omega⟩)
    (ix2 (y 0) ⟨(y 1).val % 256, by omega⟩)

/-! ## Reading back the windows and the scratch -/

/-- A load of all of a whole buffer reads what it holds. -/
theorem ldw {S : Shape} {e : EltTy} {arg : Memref sig .tc .vmem S e} (h : arg.IsWhole) (x : Vec F S e) {off : Fin S.rank → ℕ}
    (ho : off = fun _ => 0) (inb : ∀ a, off a + S.size a ≤ S.size a) :
    View.readAt (Elt F) arg.view (Rect.unit off S.size inb).toLoadRect (h.unread x) = x := by
  rw [View.readAt_eq_ld, h.read_unread, View.ld_unit_zero ho]

theorem hz2 : (![0, 0] : Fin 2 → ℕ) = fun _ => 0 := by decide

/-- The slot a point stores to is the number of its column block. -/
theorem off1_eq : ∀ j : Fin 14, (Scalar.indexCast (BitVec.ofNat 32 j.val)).toNat = j.val := by decide

/-- Storing a block to the point's slot of the scratch. -/
theorem wr10 (arg10 : Memref sig .tc .vmem S14x896x256 .f32) (harg10 : arg10.IsWhole) (X : Vec F S14x896x256 .f32) (i : grid0.Coords)
    (inb : ∀ a, k0_off1 i a + S1x896x256.size a ≤ S14x896x256.size a) (v : Vec F S896x256 .f32) :
    arg10.view.read (Elt F) (arg10.view.writes (Elt F) (harg10.unread X)
      [⟨Rect.unit (s := S14x896x256) (k0_off1 i) S1x896x256.size inb, shapeCast S1x896x256 v shapeCasts_S896x256_S1x896x256⟩])
      = setSlot X (i 1).val v := by
  have he : k0_off1 i = ![(i 1).val, 0, 0] := by
    show ![_, 0, 0] = _
    rw [off1_eq (i 1)]
  funext y
  rw [View.read_writes_cons_unit (off' := ![(i 1).val, 0, 0]) arg10.view _ inb _ _ y he]
  unfold setSlot
  have h1 : (y 1).val < 896 := (y 1).isLt
  have h2 : (y 2).val < 256 := (y 2).isLt
  by_cases hy : (y 0).val = (i 1).val
  · rw [if_pos hy, dif_pos (by
      intro a
      match a with
      | ⟨0, _⟩ => exact ⟨hy.ge, Nat.lt_succ_of_le hy.le⟩
      | ⟨1, _⟩ => exact ⟨Nat.zero_le _, by show (y 1).val < 0 + 896; omega⟩
      | ⟨2, _⟩ => exact ⟨Nat.zero_le _, by show (y 2).val < 0 + 256; omega⟩)]
    show shapeCast S1x896x256 v shapeCasts_S896x256_S1x896x256 _ = _
    have hu : Rect.unitLocal (s := S14x896x256) (off := ![(i 1).val, 0, 0]) (size := S1x896x256.size) y (by
        intro a
        match a with
        | ⟨0, _⟩ => exact ⟨hy.ge, Nat.lt_succ_of_le hy.le⟩
        | ⟨1, _⟩ => exact ⟨Nat.zero_le _, by show (y 1).val < 0 + 896; omega⟩
        | ⟨2, _⟩ => exact ⟨Nat.zero_le _, by show (y 2).val < 0 + 256; omega⟩) = (ix3 (n0 := 1) (n1 := 896) (n2 := 256) 0 (y 1) (y 2)) := by
      funext a
      refine Fin.ext ?_
      rw [Rect.unitLocal_val]
      match a with
      | ⟨0, _⟩ => show (y 0).val - (i 1).val = 0; omega
      | ⟨1, _⟩ => exact Nat.sub_zero _
      | ⟨2, _⟩ => exact Nat.sub_zero _
    exact (congrArg _ hu).trans (by pointwise)
  · rw [if_neg hy, dif_neg (by
      intro h
      have := h 0
      have h0 : (i 1).val ≤ (y 0).val ∧ (y 0).val < (i 1).val + 1 := this
      omega)]
    exact congrFun (harg10.read_unread X) y

/-- Loading a slot of the scratch. -/
theorem ld10 (arg10 : Memref sig .tc .vmem S14x896x256 .f32) (f : arg10.view.ty.Contents (Elt F)) (X : Vec F S14x896x256 .f32)
    (hX : arg10.view.read (Elt F) f = X) (k : Fin 14) {off : Fin 3 → ℕ} (ho : off = ![k.val, 0, 0])
    (inb : ∀ a, off a + S1x896x256.size a ≤ S14x896x256.size a) :
    View.readAt (Elt F) arg10.view (Rect.unit (s := S14x896x256) off S1x896x256.size inb).toLoadRect f = slot X k := by
  subst ho
  rw [View.readAt_eq_ld, hX]
  funext y
  show X _ = X _
  congr 1
  funext a
  refine Fin.ext ?_
  have h0 : (y 0).val < 1 := (y 0).isLt
  match a with
  | ⟨0, _⟩ => show k.val + 1 * (y 0).val = k.val; omega
  | ⟨1, _⟩ => show 0 + 1 * (y 1).val = (y 1).val; omega
  | ⟨2, _⟩ => show 0 + 1 * (y 2).val = (y 2).val; omega

/-- One column block of codes. -/
theorem codes_block (X : Vec F S14x896x256 .f32) (am : Vec F S896x128 .f32) (k : Fin 14) {off : Fin 2 → ℕ} (ho : off = ![0, 256 * k.val])
    (inb : ∀ a, off a + S896x256.size a ≤ S896x3584.size a) (w : Vec F S896x256 .fp8e4m3)
    (hw : w = k0_pay1 (k0_pay4 am) (slot X k)) (x : S896x256.Idx) :
    w x = codes X am ((Rect.unit (s := S896x3584) off S896x256.size inb).emb x) := by
  subst ho hw
  have h1 : (x 1).val < 256 := (x 1).isLt
  have e0 : (((Rect.unit (s := S896x3584) ![0, 256 * k.val] S896x256.size inb).emb x) 0).val = (x 0).val := by
    show 0 + 1 * (x 0).val = _; omega
  have e1 : (((Rect.unit (s := S896x3584) ![0, 256 * k.val] S896x256.size inb).emb x) 1).val = 256 * k.val + (x 1).val := by
    show 256 * k.val + 1 * (x 1).val = _; omega
  unfold codes
  congr 1
  · congr 2
    exact Fin.ext (by show k.val = _ / 256; rw [e1]; omega)
  · funext a
    refine Fin.ext ?_
    match a with
    | ⟨0, _⟩ => exact e0.symm
    | ⟨1, _⟩ => show (x 1).val = _ % 256; rw [e1]; omega

set_option maxHeartbeats 1000000 in
/-- Case A: the first column block. -/
theorem run_A (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : cond0_0 i) (hc1 : ¬cond0_1 i) (hc2 : ¬cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (setSlot X (i 1).val (k0_pay18 x0 x1 x2 x4 x3 x5))
            ∗ owns (c : Thread nD τ) arg11 fullShare (k0_pay21 x0 x1 x2 x4 x3 x5)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    skip
    simp only [E0, E1, E2, E3, E4, E5]
    exact wr10 arg10 harg10 X i _ _
  · iexists _; isplitr; swap; · iexact HS1
    ipureintro
    skip
    simp only [E0, E1, E2, E3, E4, E5, E6]
    exact View.read_writes_full _ _ _ _ _

set_option maxHeartbeats 1000000 in
/-- Case B: a middle column block. -/
theorem run_B (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : ¬cond0_0 i) (hc1 : cond0_1 i) (hc2 : ¬cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (setSlot X (i 1).val (k0_pay18 x0 x1 x2 x4 x3 x5))
            ∗ owns (c : Thread nD τ) arg11 fullShare (k0_pay22 x0 x1 x2 x4 x3 x5 xs1)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    skip
    simp only [E0, E1, E2, E3, E4, E5]
    exact wr10 arg10 harg10 X i _ _
  · iexists _; isplitr; swap; · iexact HS1
    ipureintro
    skip
    simp only [E0, E1, E2, E3, E4, E5, E6]
    exact View.read_writes_full _ _ _ _ _

set_option maxHeartbeats 1000000 in
/-- Case C: the last column block. -/
theorem run_C (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : ¬cond0_0 i) (hc1 : cond0_1 i) (hc2 : cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (setSlot X (i 1).val (k0_pay18 x0 x1 x2 x4 x3 x5)) (k0_pay22 x0 x1 x2 x4 x3 x5 xs1))
            ∗ owns (c : Thread nD τ) arg9 fullShare (k0_pay3 (k0_pay22 x0 x1 x2 x4 x3 x5 xs1))
            ∗ owns (c : Thread nD τ) arg10 fullShare (setSlot X (i 1).val (k0_pay18 x0 x1 x2 x4 x3 x5))
            ∗ owns (c : Thread nD τ) arg11 fullShare (k0_pay22 x0 x1 x2 x4 x3 x5 xs1)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  have HS : arg10.view.read (Elt F) (arg10.view.writes (Elt F) (harg10.unread X) (run_C.sl.HS0_1 c i arg2 harg2 arg3 harg3 arg4 harg4 arg5 harg5 arg6 harg6 arg7 harg7 x0 x1 x2 x3 x4 x5)) = setSlot X (i 1).val (k0_pay18 x0 x1 x2 x4 x3 x5) := by
    delta run_C.sl.HS0_1
    simp only [E0, E1, E2, E3, E4, E5]
    exact wr10 arg10 harg10 X i _ _
  have H37 : run_C.sl.v37 c arg2 harg2 arg3 harg3 arg4 harg4 arg5 harg5 arg6 harg6 arg7 harg7 arg11 harg11 x0 x1 x2 x3 x4 x5 xs1 = k0_pay22 x0 x1 x2 x4 x3 x5 xs1 := by
    delta run_C.sl.v37 run_C.sl.HS1_1
    simp only [E0, E1, E2, E3, E4, E5, E6]
    exact View.readCov_full _ _ _ _ _
  have H48 : run_C.sl.r c arg2 harg2 arg3 harg3 arg4 harg4 arg5 harg5 arg6 harg6 arg7 harg7 arg11 harg11 x0 x1 x2 x3 x4 x5 xs1 = k0_pay4 (k0_pay22 x0 x1 x2 x4 x3 x5 xs1) := by
    delta run_C.sl.r
    exact congrArg k0_pay4 H37
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_eq_canon _ _ _ ?cv).trans (funext fun y => View.canon_apply_of_pieces _ _ ?_ y (?cv y))
    case cv => exact View.cover_of_tiledL _ S896x256.size (by rfl)
    simp only [List.forall_mem_cons]
    refine ⟨?_, ?_, ?_, ?_, ?_, ?_, ?_, ?_, ?_, ?_, ?_, ?_, ?_, ?_, fun _ h => absurd h List.not_mem_nil⟩
    · exact codes_block _ _ 13 rfl _ _ (congrArg₂ (k0_pay1 (F := F)) H48 (ld10 arg10 _ _ HS 13 rfl _))
    · exact codes_block _ _ 12 rfl _ _ (congrArg₂ (k0_pay1 (F := F)) H48 (ld10 arg10 _ _ HS 12 rfl _))
    · exact codes_block _ _ 11 rfl _ _ (congrArg₂ (k0_pay1 (F := F)) H48 (ld10 arg10 _ _ HS 11 rfl _))
    · exact codes_block _ _ 10 rfl _ _ (congrArg₂ (k0_pay1 (F := F)) H48 (ld10 arg10 _ _ HS 10 rfl _))
    · exact codes_block _ _ 9 rfl _ _ (congrArg₂ (k0_pay1 (F := F)) H48 (ld10 arg10 _ _ HS 9 rfl _))
    · exact codes_block _ _ 8 rfl _ _ (congrArg₂ (k0_pay1 (F := F)) H48 (ld10 arg10 _ _ HS 8 rfl _))
    · exact codes_block _ _ 7 rfl _ _ (congrArg₂ (k0_pay1 (F := F)) H48 (ld10 arg10 _ _ HS 7 rfl _))
    · exact codes_block _ _ 6 rfl _ _ (congrArg₂ (k0_pay1 (F := F)) H48 (ld10 arg10 _ _ HS 6 rfl _))
    · exact codes_block _ _ 5 rfl _ _ (congrArg₂ (k0_pay1 (F := F)) H48 (ld10 arg10 _ _ HS 5 rfl _))
    · exact codes_block _ _ 4 rfl _ _ (congrArg₂ (k0_pay1 (F := F)) H48 (ld10 arg10 _ _ HS 4 rfl _))
    · exact codes_block _ _ 3 rfl _ _ (congrArg₂ (k0_pay1 (F := F)) H48 (ld10 arg10 _ _ HS 3 rfl _))
    · exact codes_block _ _ 2 rfl _ _ (congrArg₂ (k0_pay1 (F := F)) H48 (ld10 arg10 _ _ HS 2 rfl _))
    · exact codes_block _ _ 1 rfl _ _ (congrArg₂ (k0_pay1 (F := F)) (congrArg k0_pay4 H37) (ld10 arg10 _ _ HS 1 rfl _))
    · exact codes_block _ _ 0 rfl _ _ (congrArg₂ (k0_pay1 (F := F)) (congrArg k0_pay4 H37) (ld10 arg10 _ _ HS 0 rfl _))
  isplitl [H7]
  · iexists _; isplitr; swap; · iexact H7
    ipureintro
    refine (View.read_writes_full _ _ _ _ _).trans ?_
    exact congrArg k0_pay3 H37
  isplitl [HS0]
  · iexists _; isplitr; swap; · iexact HS0
    ipureintro
    exact HS
  · iexists _; isplitr; swap; · iexact HS1
    ipureintro
    delta run_C.sl.HS1_1
    simp only [E0, E1, E2, E3, E4, E5, E6]
    exact View.read_writes_full _ _ _ _ _

end Cert.Proof.GateUpBits

end
-- ==== Proof.GateUpBitsFrame.lean ====
module

public import proofs.«01_k».proof.Proof.GateUpBitsRun
public import proofs.«01_k».proof.Proof.Gen.GateUp.Points
public import Idealize.ShloMosaic.Lib.Pipeline.Value
public import Idealize.ShloMosaic.Lib.Claim

/-!
# The gate/up kernel's run, with its results named

What the scratch buffers hold after each point, what the last point of a row block writes back, the body's obligation
at every point, and the run of the whole program with the result arrays stated from those blocks.
-/

@[expose] public section

set_option maxRecDepth 16384

noncomputable section

namespace Cert.Proof.GateUpBits

open Cert.GateUp Cert.GateUp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

theorem N84 (t : Fin cfg0.N) : t.val < 84 := lt_of_lt_of_eq t.isLt (show cfg0.N = 84 from N_0)

/-- The column block's number at a point. -/
theorem col_eq (t : Fin cfg0.N) : (grid0.coords t 1).val = t.val % 14 := by
  have e1 : (grid0.coords t 1).val = t.val / 1 % 14 := Pipeline.Grid.coords_val t 1 (by decide) rfl
  rw [e1, Nat.div_one]

/-- The hidden block computed at point `t`. -/
def hidAt (c : Dev nD) (t : Fin cfg0.N) : Vec F S896x256 .f32 :=
  k0_pay18 (iblk m c 0 t) (iblk m c 1 t) (iblk m c 2 t) (iblk m c 4 t) (iblk m c 3 t) (iblk m c 5 t)

/-- The lanewise maxima of the row block's absolute values, up to and including the point `n`. -/
def amAt (c : Dev nD) : (n : ℕ) → n < cfg0.N → Vec F S896x128 .f32
  | 0, hn => k0_pay21 (iblk m c 0 ⟨0, hn⟩) (iblk m c 1 ⟨0, hn⟩) (iblk m c 2 ⟨0, hn⟩) (iblk m c 4 ⟨0, hn⟩) (iblk m c 3 ⟨0, hn⟩) (iblk m c 5 ⟨0, hn⟩)
  | n + 1, hn =>
    if (n + 1) % 14 = 0 then k0_pay21 (iblk m c 0 ⟨n + 1, hn⟩) (iblk m c 1 ⟨n + 1, hn⟩) (iblk m c 2 ⟨n + 1, hn⟩) (iblk m c 4 ⟨n + 1, hn⟩) (iblk m c 3 ⟨n + 1, hn⟩) (iblk m c 5 ⟨n + 1, hn⟩)
    else k0_pay22 (iblk m c 0 ⟨n + 1, hn⟩) (iblk m c 1 ⟨n + 1, hn⟩) (iblk m c 2 ⟨n + 1, hn⟩) (iblk m c 4 ⟨n + 1, hn⟩) (iblk m c 3 ⟨n + 1, hn⟩) (iblk m c 5 ⟨n + 1, hn⟩) (amAt c n (Nat.lt_of_succ_lt hn))

theorem amAt_first (c : Dev nD) (t : Fin cfg0.N) (h : t.val % 14 = 0) :
    amAt m c t.val t.isLt = k0_pay21 (iblk m c 0 t) (iblk m c 1 t) (iblk m c 2 t) (iblk m c 4 t) (iblk m c 3 t) (iblk m c 5 t) := by
  obtain ⟨n, hn⟩ := t
  cases n with
  | zero => rfl
  | succ n => exact if_pos h

theorem amAt_next (c : Dev nD) (t : Fin cfg0.N) (h : ¬t.val % 14 = 0) :
    amAt m c t.val t.isLt = k0_pay22 (iblk m c 0 t) (iblk m c 1 t) (iblk m c 2 t) (iblk m c 4 t) (iblk m c 3 t) (iblk m c 5 t) (amAt m c (t.val - 1) (Nat.lt_of_le_of_lt (Nat.sub_le _ _) t.isLt)) := by
  obtain ⟨n, hn⟩ := t
  cases n with
  | zero => exact absurd (Nat.zero_mod _) h
  | succ n => exact if_neg h

/-- After the point `n` the slots of the row block's points so far hold their hidden blocks. -/
def Held (c : Dev nD) (n : ℕ) (X : Vec F S14x896x256 .f32) : Prop :=
  ∀ t : Fin cfg0.N, t.val / 14 = n / 14 → t.val ≤ n → ∀ (a : Fin 896) (b : Fin 256),
    X (ix3 ⟨t.val % 14, Nat.mod_lt _ (by decide)⟩ a b) = hidAt m c t (ix2 a b)

theorem held_first (c : Dev nD) (t : Fin cfg0.N) (h : t.val % 14 = 0) (X : Vec F S14x896x256 .f32) :
    Held m c t.val (setSlot X (grid0.coords t 1).val (hidAt m c t)) := by
  intro t' hq hle a b
  obtain rfl : t' = t := Fin.ext (by omega)
  exact if_pos (col_eq t').symm

theorem held_next (c : Dev nD) (t : Fin cfg0.N) (h : ¬t.val % 14 = 0) (X : Vec F S14x896x256 .f32)
    (hX : Held m c (t.val - 1) X) : Held m c t.val (setSlot X (grid0.coords t 1).val (hidAt m c t)) := by
  intro t' hq hle a b
  by_cases he : t'.val = t.val
  · obtain rfl : t' = t := Fin.ext he
    exact if_pos (col_eq t').symm
  · refine (if_neg ?_).trans (hX t' (by omega) (by omega) a b)
    show ¬ t'.val % 14 = _
    rw [col_eq]; omega

/-- All 14 hidden blocks of point `t`'s row block. -/
def rowX (c : Dev nD) (t : Fin cfg0.N) : Vec F S14x896x256 .f32 := fun y =>
  hidAt m c ⟨t.val / 14 * 14 + (y 0).val, by
    have h0 : (y 0).val < 14 := (y 0).isLt
    have := N84 t
    exact lt_of_lt_of_eq (by omega : _ < 84) (show 84 = cfg0.N from N_0.symm)⟩ (ix2 (y 1) (y 2))

theorem held_last (c : Dev nD) (t : Fin cfg0.N) (h : t.val % 14 = 13) (X : Vec F S14x896x256 .f32) (hX : Held m c t.val X) :
    X = rowX m c t := by
  funext y
  have h0 : (y 0).val < 14 := (y 0).isLt
  have hlt : t.val / 14 * 14 + (y 0).val < cfg0.N := by
    have := N84 t
    exact lt_of_lt_of_eq (by omega : _ < 84) (show 84 = cfg0.N from N_0.symm)
  have := hX ⟨t.val / 14 * 14 + (y 0).val, hlt⟩ (by show (t.val / 14 * 14 + (y 0).val) / 14 = _; omega)
    (by show t.val / 14 * 14 + (y 0).val ≤ _; omega) (y 1) (y 2)
  refine Eq.trans (congrArg X ?_) this
  funext a
  refine Fin.ext ?_
  match a with
  | ⟨0, _⟩ => show (y 0).val = (t.val / 14 * 14 + (y 0).val) % 14; omega
  | ⟨1, _⟩ => rfl
  | ⟨2, _⟩ => rfl

/-- What the region's invariant says before position `n`: before the first point the scratch buffers hold anything;
    afterwards the kept hidden blocks and the running maxima. -/
def PhiS (c : Dev nD) : (n : ℕ) → n ≤ cfg0.N → sProp 𝕄
  | 0, _ => Pipeline.ΦA spec0 c
  | n + 1, hn => iprop(iprop((∃ X, ⌜Held m c n X⌝ ∗ owns (c : Thread nD τ) scM0_0 fullShare X) ∗ owns (c : Thread nD τ) scM0_1 fullShare (amAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ X, ⌜Held m c n X⌝ ∗ owns (c : Thread nD τ) scM0_0 fullShare X) ∗ owns (c : Thread nD τ) scM0_1 fullShare (amAt m c n hn)) ∗ (∃ r, prngReg c r)) := rfl

theorem PhiS_pos (c : Dev nD) (n : ℕ) (h : n ≤ cfg0.N) (hz : n ≠ 0) :
    PhiS m c n h = iprop(iprop((∃ X, ⌜Held m c (n - 1) X⌝ ∗ owns (c : Thread nD τ) scM0_0 fullShare X) ∗ owns (c : Thread nD τ) scM0_1 fullShare (amAt m c (n - 1) (by omega))) ∗ (∃ r, prngReg c r)) := by
  cases n with
  | zero => exact absurd rfl hz
  | succ n => rfl

/-! ## The pipeline's proof data -/

/-- The block of codes of point `t`'s row block. -/
def codesAt (c : Dev nD) (t : Fin cfg0.N) : Vec F S896x3584 .fp8e4m3 := codes (rowX m c t) (amAt m c t.val t.isLt)

/-- The block of row scales of point `t`'s row block. -/
def scalesAt (c : Dev nD) (t : Fin cfg0.N) : Vec F S896x1 .f32 := k0_pay3 (amAt m c t.val t.isLt)

/-- The arrays as the region finds them; after the body each input's buffer at its block, the outputs' at the codes and
    scales; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => scalesAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs are idle -/

theorem idle6_of (t : Fin cfg0.N) (h : ¬t.val % 14 = 13) : cfg0.idle 6 (grid0.coords t) = true := by
  show (!(k0_cond3 (grid0.coords t) == 1#1)) = true
  rw [beq_eq_false_iff_ne.mpr (fun e => h ((hcond0_2 t).mp e))]; rfl
theorem live6_of (t : Fin cfg0.N) (h : t.val % 14 = 13) : cfg0.idle 6 (grid0.coords t) = false := by
  show (!(k0_cond3 (grid0.coords t) == 1#1)) = false
  rw [beq_iff_eq.mpr ((hcond0_2 t).mpr h)]; rfl
theorem noflush6_of (t : Fin cfg0.N) (h : ¬t.val % 14 = 13) : (cfg0.win 6).flush t = false := by
  rw [Bool.eq_false_iff]; exact fun e => h ((flush0_6 t).mp e)
theorem idle7_of (t : Fin cfg0.N) (h : ¬t.val % 14 = 13) : cfg0.idle 7 (grid0.coords t) = true := by
  show (!(k0_cond3 (grid0.coords t) == 1#1)) = true
  rw [beq_eq_false_iff_ne.mpr (fun e => h ((hcond0_2 t).mp e))]; rfl
theorem live7_of (t : Fin cfg0.N) (h : t.val % 14 = 13) : cfg0.idle 7 (grid0.coords t) = false := by
  show (!(k0_cond3 (grid0.coords t) == 1#1)) = false
  rw [beq_iff_eq.mpr ((hcond0_2 t).mpr h)]; rfl
theorem noflush7_of (t : Fin cfg0.N) (h : ¬t.val % 14 = 13) : (cfg0.win 7).flush t = false := by
  rw [Bool.eq_false_iff]; exact fun e => h ((flush0_7 t).mp e)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 84 := N84 t
  by_cases h0 : t.val % 14 = 0
  · have h2 : ¬t.val % 14 = 13 := by omega
    by_cases hz : t.val = 0
    · rw [(dats m 0 c).leavesExact_idle 6 t (idle6_of t h2) (noflush6_of t h2)]
      rw [(dats m 0 c).leavesExact_idle 7 t (idle7_of t h2) (noflush7_of t h2)]
      rw [PhiS_castSucc m c t, PhiS_zero m c _ _ hz, PhiA0_eq]
      rw [amAt_first m c t h0]
      iintro ⟨⟨⟨⟨%X, HS0⟩, ⟨%xs1, HS1⟩⟩, Hg⟩, Ho, ⟨%d0, H0⟩, ⟨%d1, H1⟩, ⟨%d2, H2⟩, ⟨%d3, H3⟩, ⟨%d4, H4⟩, ⟨%d5, H5⟩, H6, H7⟩
      iapply (run_A c (grid0.coords t) _ _ _ _ _ _ _ _ _ _ _ _ _ _ _ _ _ _ _ _ ((hcond0_0 t).mpr h0) (fun h => absurd ((hcond0_1 t).mp h) (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_first m c t h0 X
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [(dats m 0 c).leavesExact_idle 6 t (idle6_of t h2) (noflush6_of t h2)]
      rw [(dats m 0 c).leavesExact_idle 7 t (idle7_of t h2) (noflush7_of t h2)]
      rw [PhiS_castSucc m c t, PhiS_pos m c _ _ hz]
      rw [amAt_first m c t h0]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_A c (grid0.coords t) _ _ _ _ _ _ _ _ _ _ _ _ _ _ _ _ _ _ _ _ ((hcond0_0 t).mpr h0) (fun h => absurd ((hcond0_1 t).mp h) (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_first m c t h0 X
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := by omega
    by_cases h2 : t.val % 14 = 13
    · rw [show (dats m 0 c).leavesExact 6 t = owns (c : Thread nD τ) (ms0_6 t) fullShare ((dats m 0 c).after 6 t) from by
        unfold Dat.leavesExact; rw [live6_of t h2], after0_6]
      rw [show (dats m 0 c).leavesExact 7 t = owns (c : Thread nD τ) (ms0_7 t) fullShare ((dats m 0 c).after 7 t) from by
        unfold Dat.leavesExact; rw [live7_of t h2], after0_7]
      rw [PhiS_castSucc m c t, PhiS_pos m c _ _ hz]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_C c (grid0.coords t) _ _ _ _ _ _ _ _ _ _ _ _ _ _ _ _ _ _ _ _ (fun h => h0 ((hcond0_0 t).mp h)) ((hcond0_1 t).mpr (by omega)) ((hcond0_2 t).mpr h2) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [H6]; · icases H6 with ⟨%d6, H6⟩; iexists _; iexact H6
      isplitl [H7]; · icases H7 with ⟨%d7, H7⟩; iexists _; iexact H7
      isplitl [HS0]; · iexact HS0
      isplitl [HS1]; · iexact HS1
      iintro ⟨H0, H1, H2, H3, H4, H5, H6, H7, HS0, HS1⟩
      have hrow := held_last m c t h2 _ (held_next m c t h0 X hX)
      isplitl [HS0 HS1 Hg]
      · isplitl [HS0 HS1]
        · isplitl [HS0]
          · iexists _; isplitr
            swap; · iexact HS0
            ipureintro; exact held_next m c t h0 X hX
          rw [amAt_next m c t h0]; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold codesAt
        rw [amAt_next m c t h0, ← hrow]
        iexact H6
      unfold scalesAt
      rw [amAt_next m c t h0]
      iexact H7
    · rw [(dats m 0 c).leavesExact_idle 6 t (idle6_of t h2) (noflush6_of t h2)]
      rw [(dats m 0 c).leavesExact_idle 7 t (idle7_of t h2) (noflush7_of t h2)]
      rw [PhiS_castSucc m c t, PhiS_pos m c _ _ hz]
      rw [amAt_next m c t h0]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_B c (grid0.coords t) _ _ _ _ _ _ _ _ _ _ _ _ _ _ _ _ _ _ _ _ (fun h => h0 ((hcond0_0 t).mp h)) ((hcond0_1 t).mpr (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_next m c t h0 X hX
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%X, %hX, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 84 := N_0; omega)

/-! ## The run and the frame -/

set_option backward.isDefEq.respectTransparency.types false in
set_option maxHeartbeats 800000 in
/-- The run, every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run to the state the pipeline's proof data describes. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the arguments as launched and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The run with the two result arrays named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Proof.GateUpBits

end
-- ==== Proof.GateUpRun.lean ====
module

public import proofs.«01_k».proof.Proof.Gen.GateUpIdeal.Frame
public import Idealize.ShloMosaic.Lib.WritesUnit
public import Idealize.ShloMosaic.Lib.Pipeline.Value
public import proofs.«01_k».proof.Proof.Gen.GateUpIdeal.Skeleton
public import Idealize.ShloMosaic.Lib.ValueIdx
public import Idealize.ShloMosaic.Lib.VecWindow
public import Idealize.ShloMosaic.Lib.Pointwise

/-!
# The gate/up kernel's body, run with its scratch buffers named

The grid is 6 row blocks by 14 column blocks.  At the point `(i, j)` the body computes the hidden block `j` of the rows
`i`, keeps it in slot `j` of the scratch `arg10`, and folds its absolute values, lane by lane, into the scratch `arg11`;
at the last column block it turns the 14 kept blocks into codes (`arg8`) and writes the scale (`arg9`).

Three runs: the first column block (A), the middle ones (B), the last (C).
-/

@[expose] public section

set_option maxRecDepth 16384

noncomputable section

namespace Cert.Proof.GateUp

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 84 := Nat.lt_of_lt_of_eq t.isLt N_0
    have e0 : (grid0.coords t 0).val = t.val / 14 % 6 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 14 :=
  (by decide +kernel : ∀ t : Fin grid0.N, cond0_1 (grid0.coords t) ↔ 1 ≤ t.val % 14)

/-- The condition of the body's `scf.if` 2 (`k0_h3`), from the grid coordinates (the skeleton's scalar
    chain substituted). -/
abbrev cond0_2 (i : grid0.Coords) : Prop := k0_cond3 i = 1#1
/-- It holds at the points ≡ 13 (mod 14) — by arithmetic of the point. -/
theorem hcond0_2 : ∀ t : Fin cfg0.N, cond0_2 (grid0.coords t) ↔ t.val % 14 = 13 :=
  (fun t => by
    have ht : t.val < 84 := Nat.lt_of_lt_of_eq t.isLt N_0
    have e0 : (grid0.coords t 0).val = t.val / 14 % 6 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val % 14 = 13)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Each window's current staging memref at point `t`, spelled as the pipeline passes it (`bodyAt0`), and its wholeness. -/
abbrev ms0_0 (t : Fin cfg0.N) : Memref sig .tc .vmem S896x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S896x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S896x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S14x896x256 .f32 := Memref.whole cc0_scratch0
abbrev scM0_1 : Memref sig .tc .vmem S896x128 .f32 := Memref.whole cc0_scratch1
/-- The scratch `arg11` the kernel carries between points, as a view: what it holds is stated through it. -/
abbrev VS0_1 : View sig .tc .vmem S896x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body leaves -/

/-- The scratch `arg10` with slot `j` replaced by the block `v`. -/
def setSlot (X : Vec F S14x896x256 .f32) (j : ℕ) (v : Vec F S896x256 .f32) : Vec F S14x896x256 .f32 :=
  fun y => if (y 0).val = j then v (ix2 (y 1) (y 2)) else X y

/-- Slot `j` of the scratch `arg10`, as the body loads it. -/
def slot (X : Vec F S14x896x256 .f32) (j : Fin 14) : Vec F S1x896x256 .f32 :=
  fun y => X (ix3 j (y 1) (y 2))

/-- The block of codes the last point stores: column `c` comes from lane `c % 256` of slot `c / 256`. -/
def codes (X : Vec F S14x896x256 .f32) (am : Vec F S896x128 .f32) : Vec F S896x3584 .fp8e4m3 :=
  fun y => k0_pay1 (k0_pay4 am) (slot X ⟨(y 1).val / 256, by have h : (y 1).val < 3584 := (y 1).isLt; omega⟩)
    (ix2 (y 0) ⟨(y 1).val % 256, by omega⟩)

/-! ## Reading back the windows and the scratch -/

/-- A load of all of a whole buffer reads what it holds. -/
theorem ldw {S : Shape} {e : EltTy} {arg : Memref sig .tc .vmem S e} (h : arg.IsWhole) (x : Vec F S e) {off : Fin S.rank → ℕ}
    (ho : off = fun _ => 0) (inb : ∀ a, off a + S.size a ≤ S.size a) :
    View.readAt (Elt F) arg.view (Rect.unit off S.size inb).toLoadRect (h.unread x) = x := by
  rw [View.readAt_eq_ld, h.read_unread, View.ld_unit_zero ho]

theorem hz2 : (![0, 0] : Fin 2 → ℕ) = fun _ => 0 := by decide

/-- The slot a point stores to is the number of its column block. -/
theorem off1_eq : ∀ j : Fin 14, (Scalar.indexCast (BitVec.ofNat 32 j.val)).toNat = j.val := by decide

/-- Storing a block to the point's slot of the scratch. -/
theorem wr10 (arg10 : Memref sig .tc .vmem S14x896x256 .f32) (harg10 : arg10.IsWhole) (X : Vec F S14x896x256 .f32) (i : grid0.Coords)
    (inb : ∀ a, k0_off1 i a + S1x896x256.size a ≤ S14x896x256.size a) (v : Vec F S896x256 .f32) :
    arg10.view.read (Elt F) (arg10.view.writes (Elt F) (harg10.unread X)
      [⟨Rect.unit (s := S14x896x256) (k0_off1 i) S1x896x256.size inb, shapeCast S1x896x256 v shapeCasts_S896x256_S1x896x256⟩])
      = setSlot X (i 1).val v := by
  have he : k0_off1 i = ![(i 1).val, 0, 0] := by
    show ![_, 0, 0] = _
    rw [off1_eq (i 1)]
  funext y
  rw [View.read_writes_cons_unit (off' := ![(i 1).val, 0, 0]) arg10.view _ inb _ _ y he]
  unfold setSlot
  have h1 : (y 1).val < 896 := (y 1).isLt
  have h2 : (y 2).val < 256 := (y 2).isLt
  by_cases hy : (y 0).val = (i 1).val
  · rw [if_pos hy, dif_pos (by
      intro a
      match a with
      | ⟨0, _⟩ => exact ⟨hy.ge, Nat.lt_succ_of_le hy.le⟩
      | ⟨1, _⟩ => exact ⟨Nat.zero_le _, by show (y 1).val < 0 + 896; omega⟩
      | ⟨2, _⟩ => exact ⟨Nat.zero_le _, by show (y 2).val < 0 + 256; omega⟩)]
    show shapeCast S1x896x256 v shapeCasts_S896x256_S1x896x256 _ = _
    have hu : Rect.unitLocal (s := S14x896x256) (off := ![(i 1).val, 0, 0]) (size := S1x896x256.size) y (by
        intro a
        match a with
        | ⟨0, _⟩ => exact ⟨hy.ge, Nat.lt_succ_of_le hy.le⟩
        | ⟨1, _⟩ => exact ⟨Nat.zero_le _, by show (y 1).val < 0 + 896; omega⟩
        | ⟨2, _⟩ => exact ⟨Nat.zero_le _, by show (y 2).val < 0 + 256; omega⟩) = (ix3 (n0 := 1) (n1 := 896) (n2 := 256) 0 (y 1) (y 2)) := by
      funext a
      refine Fin.ext ?_
      rw [Rect.unitLocal_val]
      match a with
      | ⟨0, _⟩ => show (y 0).val - (i 1).val = 0; omega
      | ⟨1, _⟩ => exact Nat.sub_zero _
      | ⟨2, _⟩ => exact Nat.sub_zero _
    exact (congrArg _ hu).trans (by pointwise)
  · rw [if_neg hy, dif_neg (by
      intro h
      have := h 0
      have h0 : (i 1).val ≤ (y 0).val ∧ (y 0).val < (i 1).val + 1 := this
      omega)]
    exact congrFun (harg10.read_unread X) y

/-- Loading a slot of the scratch. -/
theorem ld10 (arg10 : Memref sig .tc .vmem S14x896x256 .f32) (f : arg10.view.ty.Contents (Elt F)) (X : Vec F S14x896x256 .f32)
    (hX : arg10.view.read (Elt F) f = X) (k : Fin 14) {off : Fin 3 → ℕ} (ho : off = ![k.val, 0, 0])
    (inb : ∀ a, off a + S1x896x256.size a ≤ S14x896x256.size a) :
    View.readAt (Elt F) arg10.view (Rect.unit (s := S14x896x256) off S1x896x256.size inb).toLoadRect f = slot X k := by
  subst ho
  rw [View.readAt_eq_ld, hX]
  funext y
  show X _ = X _
  congr 1
  funext a
  refine Fin.ext ?_
  have h0 : (y 0).val < 1 := (y 0).isLt
  match a with
  | ⟨0, _⟩ => show k.val + 1 * (y 0).val = k.val; omega
  | ⟨1, _⟩ => show 0 + 1 * (y 1).val = (y 1).val; omega
  | ⟨2, _⟩ => show 0 + 1 * (y 2).val = (y 2).val; omega

/-- One column block of codes. -/
theorem codes_block (X : Vec F S14x896x256 .f32) (am : Vec F S896x128 .f32) (k : Fin 14) {off : Fin 2 → ℕ} (ho : off = ![0, 256 * k.val])
    (inb : ∀ a, off a + S896x256.size a ≤ S896x3584.size a) (w : Vec F S896x256 .fp8e4m3)
    (hw : w = k0_pay1 (k0_pay4 am) (slot X k)) (x : S896x256.Idx) :
    w x = codes X am ((Rect.unit (s := S896x3584) off S896x256.size inb).emb x) := by
  subst ho hw
  have h1 : (x 1).val < 256 := (x 1).isLt
  have e0 : (((Rect.unit (s := S896x3584) ![0, 256 * k.val] S896x256.size inb).emb x) 0).val = (x 0).val := by
    show 0 + 1 * (x 0).val = _; omega
  have e1 : (((Rect.unit (s := S896x3584) ![0, 256 * k.val] S896x256.size inb).emb x) 1).val = 256 * k.val + (x 1).val := by
    show 256 * k.val + 1 * (x 1).val = _; omega
  unfold codes
  congr 1
  · congr 2
    exact Fin.ext (by show k.val = _ / 256; rw [e1]; omega)
  · funext a
    refine Fin.ext ?_
    match a with
    | ⟨0, _⟩ => exact e0.symm
    | ⟨1, _⟩ => show (x 1).val = _ % 256; rw [e1]; omega

set_option maxHeartbeats 1000000 in
/-- Case A: the first column block. -/
theorem run_A (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : cond0_0 i) (hc1 : ¬cond0_1 i) (hc2 : ¬cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (setSlot X (i 1).val (k0_pay18 x0 x1 x2 x4 x3 x5))
            ∗ owns (c : Thread nD τ) arg11 fullShare (k0_pay21 x0 x1 x2 x4 x3 x5)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    skip
    simp only [E0, E1, E2, E3, E4, E5]
    exact wr10 arg10 harg10 X i _ _
  · iexists _; isplitr; swap; · iexact HS1
    ipureintro
    skip
    simp only [E0, E1, E2, E3, E4, E5, E6]
    exact View.read_writes_full _ _ _ _ _

set_option maxHeartbeats 1000000 in
/-- Case B: a middle column block. -/
theorem run_B (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : ¬cond0_0 i) (hc1 : cond0_1 i) (hc2 : ¬cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (setSlot X (i 1).val (k0_pay18 x0 x1 x2 x4 x3 x5))
            ∗ owns (c : Thread nD τ) arg11 fullShare (k0_pay22 x0 x1 x2 x4 x3 x5 xs1)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr; swap; · iexact HS0
    ipureintro
    skip
    simp only [E0, E1, E2, E3, E4, E5]
    exact wr10 arg10 harg10 X i _ _
  · iexists _; isplitr; swap; · iexact HS1
    ipureintro
    skip
    simp only [E0, E1, E2, E3, E4, E5, E6]
    exact View.read_writes_full _ _ _ _ _

set_option maxHeartbeats 1000000 in
/-- Case C: the last column block. -/
theorem run_C (c : Dev nD) (i : grid0.Coords) (arg2 : Memref sig .tc .vmem S896x8192 .fp8e4m3) (harg2 : arg2.IsWhole) (arg3 : Memref sig .tc .vmem S896x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S896x3584 .fp8e4m3) (harg8 : arg8.IsWhole) (arg9 : Memref sig .tc .vmem S896x1 .f32) (harg9 : arg9.IsWhole) (arg10 : Memref sig .tc .vmem S14x896x256 .f32) (harg10 : arg10.IsWhole) (arg11 : Memref sig .tc .vmem S896x128 .f32) (harg11 : arg11.IsWhole) (hc0 : ¬cond0_0 i) (hc1 : cond0_1 i) (hc2 : cond0_2 i)
    (x0 : Vec F S896x8192 .fp8e4m3) (x1 : Vec F S896x1 .f32) (x2 : Vec F S8192x256 .fp8e4m3) (x3 : Vec F S8192x256 .fp8e4m3) (x4 : Vec F S1x256 .f32) (x5 : Vec F S1x256 .f32)
    (X : Vec F S14x896x256 .f32) (xs1 : Vec F S896x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare X ∗ owns (c : Thread nD τ) arg11 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes (setSlot X (i 1).val (k0_pay18 x0 x1 x2 x4 x3 x5)) (k0_pay22 x0 x1 x2 x4 x3 x5 xs1))
            ∗ owns (c : Thread nD τ) arg9 fullShare (k0_pay3 (k0_pay22 x0 x1 x2 x4 x3 x5 xs1))
            ∗ owns (c : Thread nD τ) arg10 fullShare (setSlot X (i 1).val (k0_pay18 x0 x1 x2 x4 x3 x5))
            ∗ owns (c : Thread nD τ) arg11 fullShare (k0_pay22 x0 x1 x2 x4 x3 x5 xs1)) -∗ K ⟨⟩))
      ⊢ wp frame (wpE (defs₀ (F := F)) Variants.none c none) E (cc0_gateup i arg2 harg2 arg3 harg3 arg4 harg4 arg5 harg5 arg6 harg6 arg7 harg7 arg8 harg8 arg9 harg9 arg10 harg10 arg11 harg11) K := by
  simp only [cc0_gateup_eq_skeleton]; unfold cc0_gateup_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
  sl_exec (disch := first | sl_exact hc0 | sl_exact hc1 | sl_exact hc2)
  sl_step
  have E0 := fun inb => ldw (F := F) harg2 x0 (off := ![0, 0]) hz2 inb
  have E1 := fun inb => ldw (F := F) harg3 x1 (off := ![0, 0]) hz2 inb
  have E2 := fun inb => ldw (F := F) harg4 x2 (off := ![0, 0]) hz2 inb
  have E3 := fun inb => ldw (F := F) harg5 x3 (off := ![0, 0]) hz2 inb
  have E4 := fun inb => ldw (F := F) harg6 x4 (off := ![0, 0]) hz2 inb
  have E5 := fun inb => ldw (F := F) harg7 x5 (off := ![0, 0]) hz2 inb
  have E6 := fun inb => ldw (F := F) harg11 xs1 (off := ![0, 0]) hz2 inb
  have HS : arg10.view.read (Elt F) (arg10.view.writes (Elt F) (harg10.unread X) (run_C.sl.HS0_1 c i arg2 harg2 arg3 harg3 arg4 harg4 arg5 harg5 arg6 harg6 arg7 harg7 x0 x1 x2 x3 x4 x5)) = setSlot X (i 1).val (k0_pay18 x0 x1 x2 x4 x3 x5) := by
    delta run_C.sl.HS0_1
    simp only [E0, E1, E2, E3, E4, E5]
    exact wr10 arg10 harg10 X i _ _
  have H37 : run_C.sl.v37 c arg2 harg2 arg3 harg3 arg4 harg4 arg5 harg5 arg6 harg6 arg7 harg7 arg11 harg11 x0 x1 x2 x3 x4 x5 xs1 = k0_pay22 x0 x1 x2 x4 x3 x5 xs1 := by
    delta run_C.sl.v37 run_C.sl.HS1_1
    simp only [E0, E1, E2, E3, E4, E5, E6]
    exact View.readCov_full _ _ _ _ _
  have H48 : run_C.sl.r c arg2 harg2 arg3 harg3 arg4 harg4 arg5 harg5 arg6 harg6 arg7 harg7 arg11 harg11 x0 x1 x2 x3 x4 x5 xs1 = k0_pay4 (k0_pay22 x0 x1 x2 x4 x3 x5 xs1) := by
    delta run_C.sl.r
    exact congrArg k0_pay4 H37
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_eq_canon _ _ _ ?cv).trans (funext fun y => View.canon_apply_of_pieces _ _ ?_ y (?cv y))
    case cv => exact View.cover_of_tiledL _ S896x256.size (by rfl)
    simp only [List.forall_mem_cons]
    refine ⟨?_, ?_, ?_, ?_, ?_, ?_, ?_, ?_, ?_, ?_, ?_, ?_, ?_, ?_, fun _ h => absurd h List.not_mem_nil⟩
    · exact codes_block _ _ 13 rfl _ _ (congrArg₂ (k0_pay1 (F := F)) H48 (ld10 arg10 _ _ HS 13 rfl _))
    · exact codes_block _ _ 12 rfl _ _ (congrArg₂ (k0_pay1 (F := F)) H48 (ld10 arg10 _ _ HS 12 rfl _))
    · exact codes_block _ _ 11 rfl _ _ (congrArg₂ (k0_pay1 (F := F)) H48 (ld10 arg10 _ _ HS 11 rfl _))
    · exact codes_block _ _ 10 rfl _ _ (congrArg₂ (k0_pay1 (F := F)) H48 (ld10 arg10 _ _ HS 10 rfl _))
    · exact codes_block _ _ 9 rfl _ _ (congrArg₂ (k0_pay1 (F := F)) H48 (ld10 arg10 _ _ HS 9 rfl _))
    · exact codes_block _ _ 8 rfl _ _ (congrArg₂ (k0_pay1 (F := F)) H48 (ld10 arg10 _ _ HS 8 rfl _))
    · exact codes_block _ _ 7 rfl _ _ (congrArg₂ (k0_pay1 (F := F)) H48 (ld10 arg10 _ _ HS 7 rfl _))
    · exact codes_block _ _ 6 rfl _ _ (congrArg₂ (k0_pay1 (F := F)) H48 (ld10 arg10 _ _ HS 6 rfl _))
    · exact codes_block _ _ 5 rfl _ _ (congrArg₂ (k0_pay1 (F := F)) H48 (ld10 arg10 _ _ HS 5 rfl _))
    · exact codes_block _ _ 4 rfl _ _ (congrArg₂ (k0_pay1 (F := F)) H48 (ld10 arg10 _ _ HS 4 rfl _))
    · exact codes_block _ _ 3 rfl _ _ (congrArg₂ (k0_pay1 (F := F)) H48 (ld10 arg10 _ _ HS 3 rfl _))
    · exact codes_block _ _ 2 rfl _ _ (congrArg₂ (k0_pay1 (F := F)) H48 (ld10 arg10 _ _ HS 2 rfl _))
    · exact codes_block _ _ 1 rfl _ _ (congrArg₂ (k0_pay1 (F := F)) (congrArg k0_pay4 H37) (ld10 arg10 _ _ HS 1 rfl _))
    · exact codes_block _ _ 0 rfl _ _ (congrArg₂ (k0_pay1 (F := F)) (congrArg k0_pay4 H37) (ld10 arg10 _ _ HS 0 rfl _))
  isplitl [H7]
  · iexists _; isplitr; swap; · iexact H7
    ipureintro
    refine (View.read_writes_full _ _ _ _ _).trans ?_
    exact congrArg k0_pay3 H37
  isplitl [HS0]
  · iexists _; isplitr; swap; · iexact HS0
    ipureintro
    exact HS
  · iexists _; isplitr; swap; · iexact HS1
    ipureintro
    delta run_C.sl.HS1_1
    simp only [E0, E1, E2, E3, E4, E5, E6]
    exact View.read_writes_full _ _ _ _ _

end Cert.Proof.GateUp

end
-- ==== Proof.GateUpFrame.lean ====
module

public import proofs.«01_k».proof.Proof.GateUpRun
public import proofs.«01_k».proof.Proof.Gen.GateUpIdeal.Points
public import Idealize.ShloMosaic.Lib.Pipeline.Value
public import Idealize.ShloMosaic.Lib.Claim

/-!
# The gate/up kernel's run, with its results named

What the scratch buffers hold after each point, what the last point of a row block writes back, the body's obligation
at every point, and the run of the whole program with the result arrays stated from those blocks.
-/

@[expose] public section

set_option maxRecDepth 16384

noncomputable section

namespace Cert.Proof.GateUp

open Cert.GateUpIdeal Cert.GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

theorem N84 (t : Fin cfg0.N) : t.val < 84 := lt_of_lt_of_eq t.isLt (show cfg0.N = 84 from N_0)

/-- The column block's number at a point. -/
theorem col_eq (t : Fin cfg0.N) : (grid0.coords t 1).val = t.val % 14 := by
  have e1 : (grid0.coords t 1).val = t.val / 1 % 14 := Pipeline.Grid.coords_val t 1 (by decide) rfl
  rw [e1, Nat.div_one]

/-- The hidden block computed at point `t`. -/
def hidAt (c : Dev nD) (t : Fin cfg0.N) : Vec F S896x256 .f32 :=
  k0_pay18 (iblk m c 0 t) (iblk m c 1 t) (iblk m c 2 t) (iblk m c 4 t) (iblk m c 3 t) (iblk m c 5 t)

/-- The lanewise maxima of the row block's absolute values, up to and including the point `n`. -/
def amAt (c : Dev nD) : (n : ℕ) → n < cfg0.N → Vec F S896x128 .f32
  | 0, hn => k0_pay21 (iblk m c 0 ⟨0, hn⟩) (iblk m c 1 ⟨0, hn⟩) (iblk m c 2 ⟨0, hn⟩) (iblk m c 4 ⟨0, hn⟩) (iblk m c 3 ⟨0, hn⟩) (iblk m c 5 ⟨0, hn⟩)
  | n + 1, hn =>
    if (n + 1) % 14 = 0 then k0_pay21 (iblk m c 0 ⟨n + 1, hn⟩) (iblk m c 1 ⟨n + 1, hn⟩) (iblk m c 2 ⟨n + 1, hn⟩) (iblk m c 4 ⟨n + 1, hn⟩) (iblk m c 3 ⟨n + 1, hn⟩) (iblk m c 5 ⟨n + 1, hn⟩)
    else k0_pay22 (iblk m c 0 ⟨n + 1, hn⟩) (iblk m c 1 ⟨n + 1, hn⟩) (iblk m c 2 ⟨n + 1, hn⟩) (iblk m c 4 ⟨n + 1, hn⟩) (iblk m c 3 ⟨n + 1, hn⟩) (iblk m c 5 ⟨n + 1, hn⟩) (amAt c n (Nat.lt_of_succ_lt hn))

theorem amAt_first (c : Dev nD) (t : Fin cfg0.N) (h : t.val % 14 = 0) :
    amAt m c t.val t.isLt = k0_pay21 (iblk m c 0 t) (iblk m c 1 t) (iblk m c 2 t) (iblk m c 4 t) (iblk m c 3 t) (iblk m c 5 t) := by
  obtain ⟨n, hn⟩ := t
  cases n with
  | zero => rfl
  | succ n => exact if_pos h

theorem amAt_next (c : Dev nD) (t : Fin cfg0.N) (h : ¬t.val % 14 = 0) :
    amAt m c t.val t.isLt = k0_pay22 (iblk m c 0 t) (iblk m c 1 t) (iblk m c 2 t) (iblk m c 4 t) (iblk m c 3 t) (iblk m c 5 t) (amAt m c (t.val - 1) (Nat.lt_of_le_of_lt (Nat.sub_le _ _) t.isLt)) := by
  obtain ⟨n, hn⟩ := t
  cases n with
  | zero => exact absurd (Nat.zero_mod _) h
  | succ n => exact if_neg h

/-- After the point `n` the slots of the row block's points so far hold their hidden blocks. -/
def Held (c : Dev nD) (n : ℕ) (X : Vec F S14x896x256 .f32) : Prop :=
  ∀ t : Fin cfg0.N, t.val / 14 = n / 14 → t.val ≤ n → ∀ (a : Fin 896) (b : Fin 256),
    X (ix3 ⟨t.val % 14, Nat.mod_lt _ (by decide)⟩ a b) = hidAt m c t (ix2 a b)

theorem held_first (c : Dev nD) (t : Fin cfg0.N) (h : t.val % 14 = 0) (X : Vec F S14x896x256 .f32) :
    Held m c t.val (setSlot X (grid0.coords t 1).val (hidAt m c t)) := by
  intro t' hq hle a b
  obtain rfl : t' = t := Fin.ext (by omega)
  exact if_pos (col_eq t').symm

theorem held_next (c : Dev nD) (t : Fin cfg0.N) (h : ¬t.val % 14 = 0) (X : Vec F S14x896x256 .f32)
    (hX : Held m c (t.val - 1) X) : Held m c t.val (setSlot X (grid0.coords t 1).val (hidAt m c t)) := by
  intro t' hq hle a b
  by_cases he : t'.val = t.val
  · obtain rfl : t' = t := Fin.ext he
    exact if_pos (col_eq t').symm
  · refine (if_neg ?_).trans (hX t' (by omega) (by omega) a b)
    show ¬ t'.val % 14 = _
    rw [col_eq]; omega

/-- All 14 hidden blocks of point `t`'s row block. -/
def rowX (c : Dev nD) (t : Fin cfg0.N) : Vec F S14x896x256 .f32 := fun y =>
  hidAt m c ⟨t.val / 14 * 14 + (y 0).val, by
    have h0 : (y 0).val < 14 := (y 0).isLt
    have := N84 t
    exact lt_of_lt_of_eq (by omega : _ < 84) (show 84 = cfg0.N from N_0.symm)⟩ (ix2 (y 1) (y 2))

theorem held_last (c : Dev nD) (t : Fin cfg0.N) (h : t.val % 14 = 13) (X : Vec F S14x896x256 .f32) (hX : Held m c t.val X) :
    X = rowX m c t := by
  funext y
  have h0 : (y 0).val < 14 := (y 0).isLt
  have hlt : t.val / 14 * 14 + (y 0).val < cfg0.N := by
    have := N84 t
    exact lt_of_lt_of_eq (by omega : _ < 84) (show 84 = cfg0.N from N_0.symm)
  have := hX ⟨t.val / 14 * 14 + (y 0).val, hlt⟩ (by show (t.val / 14 * 14 + (y 0).val) / 14 = _; omega)
    (by show t.val / 14 * 14 + (y 0).val ≤ _; omega) (y 1) (y 2)
  refine Eq.trans (congrArg X ?_) this
  funext a
  refine Fin.ext ?_
  match a with
  | ⟨0, _⟩ => show (y 0).val = (t.val / 14 * 14 + (y 0).val) % 14; omega
  | ⟨1, _⟩ => rfl
  | ⟨2, _⟩ => rfl

/-- What the region's invariant says before position `n`: before the first point the scratch buffers hold anything;
    afterwards the kept hidden blocks and the running maxima. -/
def PhiS (c : Dev nD) : (n : ℕ) → n ≤ cfg0.N → sProp 𝕄
  | 0, _ => Pipeline.ΦA spec0 c
  | n + 1, hn => iprop(iprop((∃ X, ⌜Held m c n X⌝ ∗ owns (c : Thread nD τ) scM0_0 fullShare X) ∗ owns (c : Thread nD τ) scM0_1 fullShare (amAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ X, ⌜Held m c n X⌝ ∗ owns (c : Thread nD τ) scM0_0 fullShare X) ∗ owns (c : Thread nD τ) scM0_1 fullShare (amAt m c n hn)) ∗ (∃ r, prngReg c r)) := rfl

theorem PhiS_pos (c : Dev nD) (n : ℕ) (h : n ≤ cfg0.N) (hz : n ≠ 0) :
    PhiS m c n h = iprop(iprop((∃ X, ⌜Held m c (n - 1) X⌝ ∗ owns (c : Thread nD τ) scM0_0 fullShare X) ∗ owns (c : Thread nD τ) scM0_1 fullShare (amAt m c (n - 1) (by omega))) ∗ (∃ r, prngReg c r)) := by
  cases n with
  | zero => exact absurd rfl hz
  | succ n => rfl

/-! ## The pipeline's proof data -/

/-- The block of codes of point `t`'s row block. -/
def codesAt (c : Dev nD) (t : Fin cfg0.N) : Vec F S896x3584 .fp8e4m3 := codes (rowX m c t) (amAt m c t.val t.isLt)

/-- The block of row scales of point `t`'s row block. -/
def scalesAt (c : Dev nD) (t : Fin cfg0.N) : Vec F S896x1 .f32 := k0_pay3 (amAt m c t.val t.isLt)

/-- The arrays as the region finds them; after the body each input's buffer at its block, the outputs' at the codes and
    scales; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => scalesAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs are idle -/

theorem idle6_of (t : Fin cfg0.N) (h : ¬t.val % 14 = 13) : cfg0.idle 6 (grid0.coords t) = true := by
  show (!(k0_cond3 (grid0.coords t) == 1#1)) = true
  rw [beq_eq_false_iff_ne.mpr (fun e => h ((hcond0_2 t).mp e))]; rfl
theorem live6_of (t : Fin cfg0.N) (h : t.val % 14 = 13) : cfg0.idle 6 (grid0.coords t) = false := by
  show (!(k0_cond3 (grid0.coords t) == 1#1)) = false
  rw [beq_iff_eq.mpr ((hcond0_2 t).mpr h)]; rfl
theorem noflush6_of (t : Fin cfg0.N) (h : ¬t.val % 14 = 13) : (cfg0.win 6).flush t = false := by
  rw [Bool.eq_false_iff]; exact fun e => h ((flush0_6 t).mp e)
theorem idle7_of (t : Fin cfg0.N) (h : ¬t.val % 14 = 13) : cfg0.idle 7 (grid0.coords t) = true := by
  show (!(k0_cond3 (grid0.coords t) == 1#1)) = true
  rw [beq_eq_false_iff_ne.mpr (fun e => h ((hcond0_2 t).mp e))]; rfl
theorem live7_of (t : Fin cfg0.N) (h : t.val % 14 = 13) : cfg0.idle 7 (grid0.coords t) = false := by
  show (!(k0_cond3 (grid0.coords t) == 1#1)) = false
  rw [beq_iff_eq.mpr ((hcond0_2 t).mpr h)]; rfl
theorem noflush7_of (t : Fin cfg0.N) (h : ¬t.val % 14 = 13) : (cfg0.win 7).flush t = false := by
  rw [Bool.eq_false_iff]; exact fun e => h ((flush0_7 t).mp e)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 84 := N84 t
  by_cases h0 : t.val % 14 = 0
  · have h2 : ¬t.val % 14 = 13 := by omega
    by_cases hz : t.val = 0
    · rw [(dats m 0 c).leavesExact_idle 6 t (idle6_of t h2) (noflush6_of t h2)]
      rw [(dats m 0 c).leavesExact_idle 7 t (idle7_of t h2) (noflush7_of t h2)]
      rw [PhiS_castSucc m c t, PhiS_zero m c _ _ hz, PhiA0_eq]
      rw [amAt_first m c t h0]
      iintro ⟨⟨⟨⟨%X, HS0⟩, ⟨%xs1, HS1⟩⟩, Hg⟩, Ho, ⟨%d0, H0⟩, ⟨%d1, H1⟩, ⟨%d2, H2⟩, ⟨%d3, H3⟩, ⟨%d4, H4⟩, ⟨%d5, H5⟩, H6, H7⟩
      iapply (run_A c (grid0.coords t) _ _ _ _ _ _ _ _ _ _ _ _ _ _ _ _ _ _ _ _ ((hcond0_0 t).mpr h0) (fun h => absurd ((hcond0_1 t).mp h) (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_first m c t h0 X
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [(dats m 0 c).leavesExact_idle 6 t (idle6_of t h2) (noflush6_of t h2)]
      rw [(dats m 0 c).leavesExact_idle 7 t (idle7_of t h2) (noflush7_of t h2)]
      rw [PhiS_castSucc m c t, PhiS_pos m c _ _ hz]
      rw [amAt_first m c t h0]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_A c (grid0.coords t) _ _ _ _ _ _ _ _ _ _ _ _ _ _ _ _ _ _ _ _ ((hcond0_0 t).mpr h0) (fun h => absurd ((hcond0_1 t).mp h) (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_first m c t h0 X
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hz : t.val ≠ 0 := by omega
    by_cases h2 : t.val % 14 = 13
    · rw [show (dats m 0 c).leavesExact 6 t = owns (c : Thread nD τ) (ms0_6 t) fullShare ((dats m 0 c).after 6 t) from by
        unfold Dat.leavesExact; rw [live6_of t h2], after0_6]
      rw [show (dats m 0 c).leavesExact 7 t = owns (c : Thread nD τ) (ms0_7 t) fullShare ((dats m 0 c).after 7 t) from by
        unfold Dat.leavesExact; rw [live7_of t h2], after0_7]
      rw [PhiS_castSucc m c t, PhiS_pos m c _ _ hz]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_C c (grid0.coords t) _ _ _ _ _ _ _ _ _ _ _ _ _ _ _ _ _ _ _ _ (fun h => h0 ((hcond0_0 t).mp h)) ((hcond0_1 t).mpr (by omega)) ((hcond0_2 t).mpr h2) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [H6]; · icases H6 with ⟨%d6, H6⟩; iexists _; iexact H6
      isplitl [H7]; · icases H7 with ⟨%d7, H7⟩; iexists _; iexact H7
      isplitl [HS0]; · iexact HS0
      isplitl [HS1]; · iexact HS1
      iintro ⟨H0, H1, H2, H3, H4, H5, H6, H7, HS0, HS1⟩
      have hrow := held_last m c t h2 _ (held_next m c t h0 X hX)
      isplitl [HS0 HS1 Hg]
      · isplitl [HS0 HS1]
        · isplitl [HS0]
          · iexists _; isplitr
            swap; · iexact HS0
            ipureintro; exact held_next m c t h0 X hX
          rw [amAt_next m c t h0]; iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold codesAt
        rw [amAt_next m c t h0, ← hrow]
        iexact H6
      unfold scalesAt
      rw [amAt_next m c t h0]
      iexact H7
    · rw [(dats m 0 c).leavesExact_idle 6 t (idle6_of t h2) (noflush6_of t h2)]
      rw [(dats m 0 c).leavesExact_idle 7 t (idle7_of t h2) (noflush7_of t h2)]
      rw [PhiS_castSucc m c t, PhiS_pos m c _ _ hz]
      rw [amAt_next m c t h0]
      iintro ⟨⟨⟨⟨%X, %hX, HS0⟩, HS1⟩, Hg⟩, Ho, ⟨%d0, H0⟩, ⟨%d1, H1⟩, ⟨%d2, H2⟩, ⟨%d3, H3⟩, ⟨%d4, H4⟩, ⟨%d5, H5⟩, H6, H7⟩
      iapply (run_B c (grid0.coords t) _ _ _ _ _ _ _ _ _ _ _ _ _ _ _ _ _ _ _ _ (fun h => h0 ((hcond0_0 t).mp h)) ((hcond0_1 t).mpr (by omega)) (fun h => h2 ((hcond0_2 t).mp h)) (iblk m c 0 t) (iblk m c 1 t) (iblk m c 2 t) (iblk m c 3 t) (iblk m c 4 t) (iblk m c 5 t) X _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexists _; isplitr
            swap; · iexact HS0
            ipureintro; exact held_next m c t h0 X hX
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch buffers back, their contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%X, %hX, HS0⟩, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 84 := N_0; omega)

/-! ## The run and the frame -/

set_option backward.isDefEq.respectTransparency.types false in
set_option maxHeartbeats 800000 in
/-- The run, every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run to the state the pipeline's proof data describes. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the arguments as launched and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

/-- The run with the two result arrays named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Proof.GateUp

end
-- ==== Proof.GateUpRefValue.lean ====
module

public import proofs.«01_k».proof.Proof.Gen.GateUpRefIdeal.Value
public import Idealize.ShloMosaic.Lib.Pointwise

/-!
# The gate/up reference, element by element

The reference computes the hidden array `g · logistic g · u` (`hidden`), the scale of each row from the row's largest absolute
value (`rowScale`), and the codes: each element divided by its row's scale and clipped to ±448 (`rowCodes`).
-/

@[expose] public section

set_option maxRecDepth 16384

noncomputable section

open Idealize.ShloMosaic Idealize.ShloMosaic.TcCoe Idealize.SL.Sem

namespace Cert.Proof.GateUp.Ref

open Cert.GateUpRefIdeal Cert.GateUpRefIdeal.Gen

/-- The hidden array of the six arguments. -/
def hidden (a0 : Vec Ideal S5376x8192 .fp8e4m3) (a1 : Vec Ideal S5376x1 .f32) (a2 a3 : Vec Ideal S8192x3584 .fp8e4m3)
    (a4 a5 : Vec Ideal S1x3584 .f32) : FVec Ideal S5376x3584 .f32 :=
  k0_pay2 (F := Ideal) a0 a1 a2 a4 a0 a1 a3 a5

/-- From the column of the rows' largest absolute values, the column of scales. -/
def scaleCol (v23 : FVec Ideal S5376x1 .f32) : FVec Ideal S5376x1 .f32 :=
  have cst_17 : Ideal .f32 := Scalar.ofBits .f32 0x00000000#32
  have v24 : FVec Ideal S5376x1 .f32 := broadcast S5376x1 cst_17
  have v25 : IVec S5376x1 1 := cmpf .oeq v23 v24
  have cst_18 : Ideal .f32 := Scalar.ofBits .f32 0x43E00000#32
  have v26 : FVec Ideal S5376x1 .f32 := broadcast S5376x1 cst_18
  have v27 : FVec Ideal S5376x1 .f32 := divf v23 v26
  have cst_19 : Ideal .f32 := Scalar.ofBits .f32 0x3F800000#32
  have v28 : FVec Ideal S5376x1 .f32 := broadcast S5376x1 cst_19
  have v29 : FVec Ideal S5376x1 .f32 := select v25 v28 v27
  v29

/-- The largest absolute value of each row. -/
def rowMax (h : FVec Ideal S5376x3584 .f32) : FVec Ideal S5376 .f32 :=
  multiReduction .maximumf [1] S5376 (absf h) 0xFF800000#32 reduces_S5376x3584_S5376 (.inl rfl) rfl

/-- The row scales of a hidden array. -/
def rowScale (h : FVec Ideal S5376x3584 .f32) : FVec Ideal S5376x1 .f32 :=
  scaleCol (shapeCast S5376x1 (rowMax h) shapeCasts_S5376_S5376x1)

/-- The codes of a hidden array with given row scales. -/
def rowCodes (h : FVec Ideal S5376x3584 .f32) (s : FVec Ideal S5376x1 .f32) : FVec Ideal S5376x3584 .fp8e4m3 :=
  have v30 : FVec Ideal S5376x3584 .f32 := broadcastTo S5376x3584 s broadcasts_S5376x1_S5376x3584
  have v31 : FVec Ideal S5376x3584 .f32 := divf h v30
  have cst_20 : Ideal .f32 := Scalar.ofBits .f32 0xC3E00000#32
  have cst_21 : Ideal .f32 := Scalar.ofBits .f32 0x43E00000#32
  have v32 : FVec Ideal S5376x3584 .f32 := broadcast S5376x3584 cst_20
  have v33 : FVec Ideal S5376x3584 .f32 := maximumf v32 v31
  have v34 : FVec Ideal S5376x3584 .f32 := broadcast S5376x3584 cst_21
  have v35 : FVec Ideal S5376x3584 .f32 := minimumf v34 v33
  truncf .fp8e4m3 v35 bitsLt_fp8e4m3_f32

theorem hidden_apply (a0 : Vec Ideal S5376x8192 .fp8e4m3) (a1 : Vec Ideal S5376x1 .f32) (a2 a3 : Vec Ideal S8192x3584 .fp8e4m3)
    (a4 a5 : Vec Ideal S1x3584 .f32) (r : Fin 5376) (n : Fin 3584) :
    hidden a0 a1 a2 a3 a4 a5 (ix2 r n)
      = (∑ k : Fin 8192, a0 (ix2 r k) * a2 (ix2 k n)) * a1 (ix2 r 0) * a4 (ix2 0 n) *
          Ideal.logistic ((∑ k : Fin 8192, a0 (ix2 r k) * a2 (ix2 k n)) * a1 (ix2 r 0) * a4 (ix2 0 n)) *
        ((∑ k : Fin 8192, a0 (ix2 r k) * a3 (ix2 k n)) * a1 (ix2 r 0) * a5 (ix2 0 n)) := by
  pointwise [hidden, k0_pay2]

/-- The scale of a row whose largest absolute value is `M`: `M / 448`, or 1 when `M` is 0. -/
def scaleOf (M : EReal) : EReal := if M = 0 then 1 else Ideal.div M (Ideal.ofBits FTy.f32 1138753536#32)

/-- The constant 448. -/
theorem ofBits_448 : Ideal.ofBits FTy.f32 1138753536#32 = ((448 : ℝ) : EReal) := by
  simp [Ideal.ofBits, Ideal.ieee, -EReal.coe_mul]; norm_num

/-- A scale is never zero. -/
theorem scaleOf_ne_zero (M : EReal) : scaleOf M ≠ 0 := by
  unfold scaleOf
  split
  · exact one_ne_zero
  · rename_i h
    have h448 : ((448 : ℝ) : EReal) ≠ 0 := EReal.coe_ne_zero.mpr (by norm_num)
    rw [ofBits_448, Ideal.div, if_neg h448, ← EReal.coe_inv]
    exact mul_ne_zero h (EReal.coe_ne_zero.mpr (by norm_num))

/-- Multiplying by the reciprocal of a nonzero divisor is dividing. -/
theorem mul_recip (a : EReal) {s : EReal} (hs : s ≠ 0) : a * Ideal.div 1 s = Ideal.div a s := by
  simp only [Ideal.div, if_neg hs, one_mul]

theorem scaleCol_apply (v : FVec Ideal S5376x1 .f32) (r : Fin 5376) :
    scaleCol v (ix2 r 0) = scaleOf (v (ix2 r 0)) := by
  unfold scaleOf
  pointwise [scaleCol]

theorem rowMax_red (v : FVec Ideal S5376x3584 .f32) (j : S5376.Idx) :
    multiReduction .maximumf [1] S5376 v 0xFF800000#32 reduces_S5376x3584_S5376 (.inl rfl) rfl j
      = Finset.univ.fold max (FloatOps.ofBits .f32 0xFF800000#32) fun n : Fin 3584 => v (ix2 (j 0) n) := by
  simp only [pointwise]

theorem column_apply (v : FVec Ideal S5376 .f32) (r : Fin 5376) :
    shapeCast S5376x1 v shapeCasts_S5376_S5376x1 (ix2 r 0) = v (ix1 r) := by
  pointwise []

theorem rowScale_apply (h : FVec Ideal S5376x3584 .f32) (r : Fin 5376) :
    rowScale h (ix2 r 0) = scaleOf (Finset.univ.fold max (FloatOps.ofBits (F := Ideal) .f32 0xFF800000#32)
      fun n : Fin 3584 => absf h (ix2 r n)) := by
  unfold rowScale
  rw [scaleCol_apply, column_apply]
  exact congrArg scaleOf (rowMax_red (absf h) (ix1 r))

theorem rowCodes_apply (h : FVec Ideal S5376x3584 .f32) (s : FVec Ideal S5376x1 .f32) (r : Fin 5376) (n : Fin 3584) :
    rowCodes h s (ix2 r n) = min (Ideal.ofBits FTy.f32 1138753536#32) (max (Ideal.ofBits FTy.f32 3286237184#32)
      (Ideal.div (h (ix2 r n)) (s (ix2 r 0)))) := by
  pointwise [rowCodes]

/-- The reference's scales, as a function of the six arguments. -/
def scales (a0 : Vec Ideal S5376x8192 .fp8e4m3) (a1 : Vec Ideal S5376x1 .f32) (a2 a3 : Vec Ideal S8192x3584 .fp8e4m3)
    (a4 a5 : Vec Ideal S1x3584 .f32) : Vec Ideal S5376x1 .f32 := rowScale (hidden a0 a1 a2 a3 a4 a5)

/-- The reference's codes, as a function of the six arguments. -/
def codes (a0 : Vec Ideal S5376x8192 .fp8e4m3) (a1 : Vec Ideal S5376x1 .f32) (a2 a3 : Vec Ideal S8192x3584 .fp8e4m3)
    (a4 a5 : Vec Ideal S1x3584 .f32) : Vec Ideal S5376x3584 .fp8e4m3 :=
  rowCodes (hidden a0 a1 a2 a3 a4 a5) (scales a0 a1 a2 a3 a4 a5)

/-- They are the values the reference's run leaves. -/
theorem scales_eq (a0 : Vec Ideal S5376x8192 .fp8e4m3) (a1 : Vec Ideal S5376x1 .f32) (a2 a3 : Vec Ideal S8192x3584 .fp8e4m3)
    (a4 a5 : Vec Ideal S1x3584 .f32) :
    Cert.GateUpRefIdeal.Value.G7 (F := Ideal) a0 a1 a2 a3 a4 a5 = scales a0 a1 a2 a3 a4 a5 := rfl

theorem codes_eq (a0 : Vec Ideal S5376x8192 .fp8e4m3) (a1 : Vec Ideal S5376x1 .f32) (a2 a3 : Vec Ideal S8192x3584 .fp8e4m3)
    (a4 a5 : Vec Ideal S1x3584 .f32) :
    Cert.GateUpRefIdeal.Value.G6 (F := Ideal) a0 a1 a2 a3 a4 a5 = codes a0 a1 a2 a3 a4 a5 := rfl

theorem scales_congr {a0 b0 : Vec Ideal S5376x8192 .fp8e4m3} {a1 b1 : Vec Ideal S5376x1 .f32} {a2 b2 a3 b3 : Vec Ideal S8192x3584 .fp8e4m3}
    {a4 b4 a5 b5 : Vec Ideal S1x3584 .f32} (e0 : a0 = b0) (e1 : a1 = b1) (e2 : a2 = b2) (e3 : a3 = b3) (e4 : a4 = b4) (e5 : a5 = b5) :
    scales a0 a1 a2 a3 a4 a5 = scales b0 b1 b2 b3 b4 b5 := by
  subst e0 e1 e2 e3 e4 e5; rfl

theorem codes_congr {a0 b0 : Vec Ideal S5376x8192 .fp8e4m3} {a1 b1 : Vec Ideal S5376x1 .f32} {a2 b2 a3 b3 : Vec Ideal S8192x3584 .fp8e4m3}
    {a4 b4 a5 b5 : Vec Ideal S1x3584 .f32} (e0 : a0 = b0) (e1 : a1 = b1) (e2 : a2 = b2) (e3 : a3 = b3) (e4 : a4 = b4) (e5 : a5 = b5) :
    codes a0 a1 a2 a3 a4 a5 = codes b0 b1 b2 b3 b4 b5 := by
  subst e0 e1 e2 e3 e4 e5; rfl

variable (m : (ℓ : Loc nD τ sig) → Buf (Elt Ideal) ℓ) (ρ : Dev nD → PrngReg)

/-- The run of the reference: its results are `codes` and `scales` of the arguments, which are unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (codes_eq _ _ _ _ _ _), (h c).2.1.trans (scales_eq _ _ _ _ _ _), (h c).2.2⟩)
    (Cert.GateUpRefIdeal.Value.run m ρ)

end Cert.Proof.GateUp.Ref

end
-- ==== Proof.GateUpValue.lean ====
module

public import proofs.«01_k».proof.Proof.GateUpFrame
public import proofs.«01_k».proof.Proof.GateUpRefValue
public import Idealize.ShloMosaic.Lib.Pointwise

/-!
# The gate/up projection: the kernel's codes and scales are the reference's

The kernel walks 6 row blocks by 14 column blocks.  At the point `t` it computes the hidden block of rows `896·(t/14)…` and columns
`256·(t%14)…`, keeps it in slot `t % 14`, and folds its absolute values, lane by lane, into running maxima.  At the last point of a
row block it takes the largest of the 128 lanes, which is the largest over the whole row of 3584 (`rowMax_eq`), forms the scales,
multiplies the kept slots by the scales' reciprocals and clips.  The contraction axis is never split, so each hidden element is
the reference's term (`hid_eq`).
-/

@[expose] public section

set_option maxRecDepth 16384

noncomputable section

open Idealize.ShloMosaic Idealize.ShloMosaic.TcCoe Idealize.SL.Sem
open Idealize.ShloMosaic.Pipeline (Dat)

namespace Cert.Proof.GateUp

open Cert.GateUpIdeal Cert.GateUpIdeal.Gen

/-! ## The kernel's payloads, element by element -/

section Payloads

variable (v0 : Vec Ideal S896x8192 .fp8e4m3) (v1 : Vec Ideal S896x1 .f32) (v2 : Vec Ideal S8192x256 .fp8e4m3)
  (v6 : Vec Ideal S1x256 .f32) (v9 : Vec Ideal S8192x256 .fp8e4m3) (v13 : Vec Ideal S1x256 .f32)

/-- One element of a hidden block. -/
theorem pay18_apply (r : Fin 896) (n : Fin 256) :
    k0_pay18 (F := Ideal) v0 v1 v2 v6 v9 v13 (ix2 r n)
      = (∑ k : Fin 8192, v0 (ix2 r k) * v2 (ix2 k n)) * v1 (ix2 r 0) * v6 (ix2 0 n) *
          Ideal.logistic ((∑ k : Fin 8192, v0 (ix2 r k) * v2 (ix2 k n)) * v1 (ix2 r 0) * v6 (ix2 0 n)) *
        ((∑ k : Fin 8192, v0 (ix2 r k) * v9 (ix2 k n)) * v1 (ix2 r 0) * v13 (ix2 0 n)) := by
  pointwise [k0_pay18]

/-- The two lanes of a hidden block folded into one of 128. -/
theorem pay20_apply (r : Fin 896) (l : Fin 128) :
    k0_pay20 (F := Ideal) v0 v1 v2 v6 v9 v13 (ix2 r l)
      = max (FloatOps.absf (k0_pay18 (F := Ideal) v0 v1 v2 v6 v9 v13 (ix2 r ⟨l.val, by have := l.isLt; omega⟩)) : EReal)
          (FloatOps.absf (k0_pay18 (F := Ideal) v0 v1 v2 v6 v9 v13 (ix2 r ⟨128 + l.val, by have := l.isLt; omega⟩))) := by
  pointwise [k0_pay20]

theorem pay21_apply (r : Fin 896) (l : Fin 128) :
    k0_pay21 (F := Ideal) v0 v1 v2 v6 v9 v13 (ix2 r l) = k0_pay20 (F := Ideal) v0 v1 v2 v6 v9 v13 (ix2 r l) := by
  pointwise [k0_pay21]

theorem pay22_apply (am : Vec Ideal S896x128 .f32) (r : Fin 896) (l : Fin 128) :
    k0_pay22 (F := Ideal) v0 v1 v2 v6 v9 v13 am (ix2 r l)
      = max (am (ix2 r l) : EReal) (k0_pay20 (F := Ideal) v0 v1 v2 v6 v9 v13 (ix2 r l)) := by
  pointwise [k0_pay22]

end Payloads

theorem pay3_apply (am : Vec Ideal S896x128 .f32) (r : Fin 896) :
    k0_pay3 (F := Ideal) am (ix2 r 0) = Ref.scaleOf (Finset.univ.fold max (Ideal.ofBits FTy.f32 0xFF800000#32)
      fun l : Fin 128 => am (ix2 r l)) := by
  unfold Ref.scaleOf
  pointwise [k0_pay3]

theorem pay4_apply (am : Vec Ideal S896x128 .f32) (r : Fin 896) :
    k0_pay4 (F := Ideal) am (ix2 r 0) = Ideal.div 1 (k0_pay3 (F := Ideal) am (ix2 r 0)) := by
  pointwise [k0_pay4]

theorem pay1_apply (a : Vec Ideal S896x1 .f32) (v : Vec Ideal S1x896x256 .f32) (r : Fin 896) (n : Fin 256) :
    k0_pay1 (F := Ideal) a v (ix2 r n) = min (Ideal.ofBits FTy.f32 1138753536#32)
      (max (Ideal.ofBits FTy.f32 3286237184#32) (v (ix3 0 r n) * a (ix2 r 0))) := by
  pointwise [k0_pay1]

/-! ## Where the blocks lie -/

/-- The block indices of the windows at each of the 84 points: rows by `t / 14`, columns by `t % 14`. -/
theorem idx : ∀ t : Fin cfg0.N,
    win0_0.index t (0 : Fin 2) = t.val / 14 ∧ win0_0.index t (1 : Fin 2) = 0
    ∧ win0_1.index t (0 : Fin 2) = t.val / 14 ∧ win0_1.index t (1 : Fin 2) = 0
    ∧ win0_2.index t (0 : Fin 2) = 0 ∧ win0_2.index t (1 : Fin 2) = t.val % 14
    ∧ win0_3.index t (0 : Fin 2) = 0 ∧ win0_3.index t (1 : Fin 2) = t.val % 14
    ∧ win0_4.index t (0 : Fin 2) = 0 ∧ win0_4.index t (1 : Fin 2) = t.val % 14
    ∧ win0_5.index t (0 : Fin 2) = 0 ∧ win0_5.index t (1 : Fin 2) = t.val % 14
    ∧ win0_6.index t (0 : Fin 2) = t.val / 14 ∧ win0_6.index t (1 : Fin 2) = 0
    ∧ win0_7.index t (0 : Fin 2) = t.val / 14 ∧ win0_7.index t (1 : Fin 2) = 0 :=
  (by decide +kernel : ∀ t : Fin grid0.N, _)

/-- Row `r` of the row block of point `t`, as a row of the whole array. -/
def row (t : Fin cfg0.N) (r : Fin 896) : Fin 5376 :=
  ⟨t.val / 14 * 896 + r.val, by have h := N84 t; have := r.isLt; omega⟩

/-- Column `n` of the column block of point `t`, as a column of the whole array. -/
def col (t : Fin cfg0.N) (n : Fin 256) : Fin 3584 :=
  ⟨t.val % 14 * 256 + n.val, by have := n.isLt; omega⟩

variable (m : (ℓ : Loc nD τ sig) → Buf (Elt Ideal) ℓ) (ρ : Dev nD → PrngReg)

theorem iblk0_apply (c : Dev nD) (t : Fin cfg0.N) (r : Fin 896) (k : Fin 8192) :
    iblk m c 0 t (ix2 r k) = V m c main_arg0 (ix2 (row t r) k) := by
  obtain ⟨h0, h1, -⟩ := idx t
  show V m c main_arg0 (((cfg0.win 0).blk t).view.emb (ix2 r k)) = _
  congr 1; funext a; apply Fin.ext
  match a with
  | ⟨0, _⟩ => show win0_0.index t (0 : Fin 2) * 896 + 1 * r.val = t.val / 14 * 896 + r.val; rw [h0]; omega
  | ⟨1, _⟩ => show win0_0.index t (1 : Fin 2) * 8192 + 1 * k.val = k.val; rw [h1]; omega

theorem iblk1_apply (c : Dev nD) (t : Fin cfg0.N) (r : Fin 896) :
    iblk m c 1 t (ix2 r 0) = V m c main_arg1 (ix2 (row t r) 0) := by
  obtain ⟨-, -, h0, h1, -⟩ := idx t
  show V m c main_arg1 (((cfg0.win 1).blk t).view.emb (ix2 r 0)) = _
  congr 1; funext a; apply Fin.ext
  match a with
  | ⟨0, _⟩ => show win0_1.index t (0 : Fin 2) * 896 + 1 * r.val = t.val / 14 * 896 + r.val; rw [h0]; omega
  | ⟨1, _⟩ => show win0_1.index t (1 : Fin 2) * 1 + 1 * 0 = 0; rw [h1]

theorem iblk2_apply (c : Dev nD) (t : Fin cfg0.N) (k : Fin 8192) (n : Fin 256) :
    iblk m c 2 t (ix2 k n) = V m c main_arg2 (ix2 k (col t n)) := by
  obtain ⟨-, -, -, -, h0, h1, -⟩ := idx t
  show V m c main_arg2 (((cfg0.win 2).blk t).view.emb (ix2 k n)) = _
  congr 1; funext a; apply Fin.ext
  match a with
  | ⟨0, _⟩ => show win0_2.index t (0 : Fin 2) * 8192 + 1 * k.val = k.val; rw [h0]; omega
  | ⟨1, _⟩ => show win0_2.index t (1 : Fin 2) * 256 + 1 * n.val = t.val % 14 * 256 + n.val; rw [h1]; omega

theorem iblk3_apply (c : Dev nD) (t : Fin cfg0.N) (k : Fin 8192) (n : Fin 256) :
    iblk m c 3 t (ix2 k n) = V m c main_arg3 (ix2 k (col t n)) := by
  obtain ⟨-, -, -, -, -, -, h0, h1, -⟩ := idx t
  show V m c main_arg3 (((cfg0.win 3).blk t).view.emb (ix2 k n)) = _
  congr 1; funext a; apply Fin.ext
  match a with
  | ⟨0, _⟩ => show win0_3.index t (0 : Fin 2) * 8192 + 1 * k.val = k.val; rw [h0]; omega
  | ⟨1, _⟩ => show win0_3.index t (1 : Fin 2) * 256 + 1 * n.val = t.val % 14 * 256 + n.val; rw [h1]; omega

theorem iblk4_apply (c : Dev nD) (t : Fin cfg0.N) (n : Fin 256) :
    iblk m c 4 t (ix2 0 n) = V m c main_arg4 (ix2 0 (col t n)) := by
  obtain ⟨-, -, -, -, -, -, -, -, h0, h1, -⟩ := idx t
  show V m c main_arg4 (((cfg0.win 4).blk t).view.emb (ix2 0 n)) = _
  congr 1; funext a; apply Fin.ext
  match a with
  | ⟨0, _⟩ => show win0_4.index t (0 : Fin 2) * 1 + 1 * 0 = 0; rw [h0]
  | ⟨1, _⟩ => show win0_4.index t (1 : Fin 2) * 256 + 1 * n.val = t.val % 14 * 256 + n.val; rw [h1]; omega

theorem iblk5_apply (c : Dev nD) (t : Fin cfg0.N) (n : Fin 256) :
    iblk m c 5 t (ix2 0 n) = V m c main_arg5 (ix2 0 (col t n)) := by
  obtain ⟨-, -, -, -, -, -, -, -, -, -, h0, h1, -⟩ := idx t
  show V m c main_arg5 (((cfg0.win 5).blk t).view.emb (ix2 0 n)) = _
  congr 1; funext a; apply Fin.ext
  match a with
  | ⟨0, _⟩ => show win0_5.index t (0 : Fin 2) * 1 + 1 * 0 = 0; rw [h0]
  | ⟨1, _⟩ => show win0_5.index t (1 : Fin 2) * 256 + 1 * n.val = t.val % 14 * 256 + n.val; rw [h1]; omega

/-- An index of the codes' block, in the whole array of codes. -/
theorem emb6 (t : Fin cfg0.N) (r : Fin 896) (n : Fin 3584) :
    ((cfg0.win 6).blk t).view.emb (ix2 r n) = ix2 (row t r) n := by
  obtain ⟨-, -, -, -, -, -, -, -, -, -, -, -, h0, h1, -⟩ := idx t
  funext a; apply Fin.ext
  match a with
  | ⟨0, _⟩ => show win0_6.index t (0 : Fin 2) * 896 + 1 * r.val = t.val / 14 * 896 + r.val; rw [h0]; omega
  | ⟨1, _⟩ => show win0_6.index t (1 : Fin 2) * 3584 + 1 * n.val = n.val; rw [h1]; omega

/-- An index of the scales' block, in the whole column of scales. -/
theorem emb7 (t : Fin cfg0.N) (r : Fin 896) :
    ((cfg0.win 7).blk t).view.emb (ix2 r 0) = ix2 (row t r) 0 := by
  obtain ⟨-, -, -, -, -, -, -, -, -, -, -, -, -, -, h0, h1⟩ := idx t
  funext a; apply Fin.ext
  match a with
  | ⟨0, _⟩ => show win0_7.index t (0 : Fin 2) * 896 + 1 * r.val = t.val / 14 * 896 + r.val; rw [h0]; omega
  | ⟨1, _⟩ => show win0_7.index t (1 : Fin 2) * 1 + 1 * 0 = 0; rw [h1]

/-! ## The hidden blocks and the running maxima -/

/-- The reference's hidden array of the kernel's arguments. -/
def H (c : Dev nD) : FVec Ideal Cert.GateUpRefIdeal.S5376x3584 .f32 :=
  Ref.hidden (V m c main_arg0) (V m c main_arg1) (V m c main_arg2) (V m c main_arg3) (V m c main_arg4) (V m c main_arg5)

/-- Each element of a hidden block is the reference's, at its row and column. -/
theorem hid_eq (c : Dev nD) (t : Fin cfg0.N) (r : Fin 896) (n : Fin 256) :
    hidAt m c t (ix2 r n) = H m c (ix2 (row t r) (col t n)) := by
  unfold hidAt H
  rw [pay18_apply]
  refine Eq.trans ?_ (Ref.hidden_apply (V m c main_arg0) (V m c main_arg1) (V m c main_arg2) (V m c main_arg3) (V m c main_arg4) (V m c main_arg5) (row t r) (col t n)).symm
  rw [iblk1_apply, iblk4_apply, iblk5_apply]
  simp only [iblk0_apply, iblk2_apply, iblk3_apply]

/-- The absolute value of a hidden element. -/
def A (c : Dev nD) (t : Fin cfg0.N) (r : Fin 896) (n : Fin 256) : EReal := FloatOps.absf (hidAt m c t (ix2 r n))

/-- Lanes `l` and `128 + l` of a block. -/
def lo (l : Fin 128) : Fin 256 := ⟨l.val, by have := l.isLt; omega⟩
def hi (l : Fin 128) : Fin 256 := ⟨128 + l.val, by have := l.isLt; omega⟩

theorem am_first (c : Dev nD) (t : Fin cfg0.N) (h : t.val % 14 = 0) (r : Fin 896) (l : Fin 128) :
    amAt m c t.val t.isLt (ix2 r l) = max (A m c t r (lo l)) (A m c t r (hi l)) := by
  rw [amAt_first m c t h, pay21_apply, pay20_apply]; rfl

theorem am_next (c : Dev nD) (t : Fin cfg0.N) (h : ¬t.val % 14 = 0) (r : Fin 896) (l : Fin 128) :
    amAt m c t.val t.isLt (ix2 r l)
      = max (amAt m c (t.val - 1) (Nat.lt_of_le_of_lt (Nat.sub_le _ _) t.isLt) (ix2 r l) : EReal) (max (A m c t r (lo l)) (A m c t r (hi l))) := by
  rw [amAt_next m c t h, pay22_apply, pay20_apply]; rfl

/-- A running maximum is at most `z` when every absolute value folded into it so far is. -/
theorem am_le (c : Dev nD) (z : EReal) (r : Fin 896) (l : Fin 128) : ∀ (n : ℕ) (hn : n < cfg0.N),
    (amAt m c n hn (ix2 r l) : EReal) ≤ z ↔ ∀ t : Fin cfg0.N, t.val / 14 = n / 14 → t.val ≤ n →
      A m c t r (lo l) ≤ z ∧ A m c t r (hi l) ≤ z := by
  intro n
  induction n with
  | zero =>
    intro hn
    rw [show amAt m c 0 hn (ix2 r l) = _ from am_first m c ⟨0, hn⟩ rfl r l, max_le_iff]
    constructor
    · intro h t _ ht
      obtain rfl : t = ⟨0, hn⟩ := Fin.ext (Nat.le_zero.mp ht)
      exact h
    · intro h; exact h ⟨0, hn⟩ rfl (le_refl _)
  | succ n ih =>
    intro hn
    by_cases h0 : (n + 1) % 14 = 0
    · rw [show amAt m c (n + 1) hn (ix2 r l) = _ from am_first m c ⟨n + 1, hn⟩ h0 r l, max_le_iff]
      constructor
      · intro h t h1 h2
        obtain rfl : t = ⟨n + 1, hn⟩ := Fin.ext (show t.val = n + 1 by omega)
        exact h
      · intro h; exact h ⟨n + 1, hn⟩ rfl (le_refl _)
    · rw [show amAt m c (n + 1) hn (ix2 r l) = _ from am_next m c ⟨n + 1, hn⟩ h0 r l, max_le_iff, max_le_iff,
        show (amAt m c ((n + 1) - 1) (Nat.lt_of_le_of_lt (Nat.sub_le _ _) hn) (ix2 r l) : EReal) ≤ z ↔ _ from ih (Nat.lt_of_succ_lt hn)]
      constructor
      · rintro ⟨h, h'⟩ t h1 h2
        by_cases e : t.val = n + 1
        · obtain rfl : t = ⟨n + 1, hn⟩ := Fin.ext e
          exact h'
        · exact h t (by omega) (by omega)
      · intro h
        exact ⟨fun t h1 h2 => h t (by omega) (by omega), h ⟨n + 1, hn⟩ rfl (le_refl _)⟩

/-- At the last point of a row block the largest of the 128 lanes is the largest absolute value of the reference's row. -/
theorem rowMax_eq (c : Dev nD) (t : Fin cfg0.N) (ht : t.val % 14 = 13) (r : Fin 896) (b : EReal) :
    (Finset.univ.fold max b fun l : Fin 128 => (amAt m c t.val t.isLt (ix2 r l) : EReal))
      = Finset.univ.fold max b fun n : Fin 3584 => (absf (H m c) (ix2 (row t r) n) : EReal) := by
  refine eq_of_forall_ge_iff fun z => ?_
  rw [Finset.fold_max_le, Finset.fold_max_le]
  refine and_congr_right fun _ => ?_
  have hN := N84 t
  have key : ∀ (s : Fin cfg0.N) (k : Fin 256), s.val / 14 = t.val / 14 →
      A m c s r k = (absf (H m c) (ix2 (row t r) (col s k)) : EReal) := by
    intro s k hs
    have e : row s r = row t r := Fin.ext (show s.val / 14 * 896 + r.val = t.val / 14 * 896 + r.val by rw [hs])
    unfold A
    rw [hid_eq, e]; rfl
  constructor
  · intro h n _
    have hn := n.isLt
    have hs : t.val / 14 * 14 + n.val / 256 < cfg0.N := lt_of_lt_of_eq (by omega : _ < 84) (show 84 = cfg0.N from N_0.symm)
    have hl : n.val % 128 < 128 := Nat.mod_lt _ (by omega)
    have h2 := (am_le m c z r ⟨n.val % 128, hl⟩ t.val t.isLt).mp (h _ (Finset.mem_univ _)) ⟨_, hs⟩
      (show (t.val / 14 * 14 + n.val / 256) / 14 = t.val / 14 by omega) (show t.val / 14 * 14 + n.val / 256 ≤ t.val by omega)
    rw [key ⟨_, hs⟩ _ (show (t.val / 14 * 14 + n.val / 256) / 14 = t.val / 14 by omega),
      key ⟨_, hs⟩ _ (show (t.val / 14 * 14 + n.val / 256) / 14 = t.val / 14 by omega)] at h2
    by_cases hh : n.val % 256 < 128
    · have e : col ⟨_, hs⟩ (lo ⟨n.val % 128, hl⟩) = n := Fin.ext
        (show (t.val / 14 * 14 + n.val / 256) % 14 * 256 + n.val % 128 = n.val by omega)
      rw [e] at h2; exact h2.1
    · have e : col ⟨_, hs⟩ (hi ⟨n.val % 128, hl⟩) = n := Fin.ext
        (show (t.val / 14 * 14 + n.val / 256) % 14 * 256 + (128 + n.val % 128) = n.val by omega)
      rw [e] at h2; exact h2.2
  · intro h l _
    refine (am_le m c z r l t.val t.isLt).mpr fun s hs _ => ?_
    rw [key s _ hs, key s _ hs]
    exact ⟨h _ (Finset.mem_univ _), h _ (Finset.mem_univ _)⟩

/-! ## What a row block writes back -/

/-- The scales of a finished row block are the reference's. -/
theorem scales_at (c : Dev nD) (t : Fin cfg0.N) (ht : t.val % 14 = 13) (r : Fin 896) :
    k0_pay3 (F := Ideal) (amAt m c t.val t.isLt) (ix2 r 0) = Ref.scales (V m c main_arg0) (V m c main_arg1) (V m c main_arg2) (V m c main_arg3) (V m c main_arg4) (V m c main_arg5) (ix2 (row t r) 0) := by
  rw [pay3_apply, rowMax_eq m c t ht]
  exact (Ref.rowScale_apply (H m c) (row t r)).symm

/-- The codes of a finished row block are the reference's. -/
theorem codes_at (c : Dev nD) (t : Fin cfg0.N) (ht : t.val % 14 = 13) (r : Fin 896) (n : Fin 3584) :
    codesAt m c t (ix2 r n) = Ref.codes (V m c main_arg0) (V m c main_arg1) (V m c main_arg2) (V m c main_arg3) (V m c main_arg4) (V m c main_arg5) (ix2 (row t r) n) := by
  have hN := N84 t
  have hn := n.isLt
  have hs : t.val / 14 * 14 + n.val / 256 < cfg0.N := lt_of_lt_of_eq (by omega : _ < 84) (show 84 = cfg0.N from N_0.symm)
  have hk : n.val % 256 < 256 := Nat.mod_lt _ (by omega)
  show k0_pay1 (F := Ideal) (k0_pay4 (amAt m c t.val t.isLt)) (slot (rowX m c t) ⟨n.val / 256, by omega⟩) (ix2 r ⟨n.val % 256, hk⟩) = _
  rw [pay1_apply, pay4_apply, scales_at m c t ht]
  refine Eq.trans ?_ (Ref.rowCodes_apply (H m c) (Ref.scales (V m c main_arg0) (V m c main_arg1) (V m c main_arg2) (V m c main_arg3) (V m c main_arg4) (V m c main_arg5)) (row t r) n).symm
  have e : slot (rowX m c t) ⟨n.val / 256, by omega⟩ (ix3 0 r ⟨n.val % 256, hk⟩) = H m c (ix2 (row t r) n) := by
    show hidAt m c ⟨t.val / 14 * 14 + n.val / 256, hs⟩ (ix2 r ⟨n.val % 256, hk⟩) = _
    rw [hid_eq]
    refine congrArg (H m c) ?_
    funext a; apply Fin.ext
    match a with
    | ⟨0, _⟩ => show (t.val / 14 * 14 + n.val / 256) / 14 * 896 + r.val = t.val / 14 * 896 + r.val; omega
    | ⟨1, _⟩ => show (t.val / 14 * 14 + n.val / 256) % 14 * 256 + n.val % 256 = n.val; omega
  refine congrArg (fun x => min _ (max _ x)) ?_
  have hs0 : Ref.scales (V m c main_arg0) (V m c main_arg1) (V m c main_arg2) (V m c main_arg3) (V m c main_arg4) (V m c main_arg5) (ix2 (row t r) 0) ≠ 0 := fun h0 => by
    rw [← scales_at m c t ht, pay3_apply] at h0
    exact Ref.scaleOf_ne_zero _ h0
  rw [e]
  exact Ref.mul_recip (H m c (ix2 (row t r) n)) hs0

/-- A write-back of the codes' block is the whole of it; a block of an array is read at its places in the array. -/
theorem cut6 (t : Fin cfg0.N) (X : Vec Ideal S896x3584 .fp8e4m3) (r : Fin 896) (n : Fin 3584) :
    (cfg0.win 6).cut (grid0.coords t) X (ix2 r n) = X (ix2 r n) := rfl

theorem read6 (t : Fin cfg0.N) (Y : Vec Ideal S5376x3584 .fp8e4m3) (r : Fin 896) (n : Fin 3584) :
    ((cfg0.win 6).blk t).view.read (Elt Ideal) Y (ix2 r n) = Y (ix2 (row t r) n) :=
  congrArg Y (emb6 t r n)

theorem cut7 (t : Fin cfg0.N) (X : Vec Ideal S896x1 .f32) (r : Fin 896) :
    (cfg0.win 7).cut (grid0.coords t) X (ix2 r 0) = X (ix2 r 0) := rfl

theorem read7 (t : Fin cfg0.N) (Y : Vec Ideal S5376x1 .f32) (r : Fin 896) :
    ((cfg0.win 7).blk t).view.read (Elt Ideal) Y (ix2 r 0) = Y (ix2 (row t r) 0) :=
  congrArg Y (emb7 t r)

theorem block6_ext (t : Fin cfg0.N) (X : Vec Ideal S896x3584 .fp8e4m3) (Y : Vec Ideal S5376x3584 .fp8e4m3)
    (h : ∀ r n, X (ix2 r n) = Y (ix2 (row t r) n)) :
    (cfg0.win 6).cut (grid0.coords t) X = ((cfg0.win 6).blk t).view.read (Elt Ideal) Y := by
  funext j
  obtain ⟨r, n, rfl⟩ : ∃ (r : Fin 896) (n : Fin 3584), j = ix2 r n :=
    ⟨j 0, j 1, by funext a; match a with | ⟨0, _⟩ => rfl | ⟨1, _⟩ => rfl⟩
  exact (cut6 t X r n).trans ((h r n).trans (read6 t Y r n).symm)

theorem block7_ext (t : Fin cfg0.N) (X : Vec Ideal S896x1 .f32) (Y : Vec Ideal S5376x1 .f32)
    (h : ∀ r, X (ix2 r 0) = Y (ix2 (row t r) 0)) :
    (cfg0.win 7).cut (grid0.coords t) X = ((cfg0.win 7).blk t).view.read (Elt Ideal) Y := by
  funext j
  obtain ⟨r, rfl⟩ : ∃ r : Fin 896, j = ix2 r 0 :=
    ⟨j 0, by funext a; match a with | ⟨0, _⟩ => rfl | ⟨1, _⟩ => exact Fin.ext (show (j 1).val = 0 by have : (j 1).val < 1 := (j 1).isLt; omega)⟩
  exact (cut7 t X r).trans ((h r).trans (read7 t Y r).symm)

theorem flushed6_eq (c : Dev nD) (t : Fin cfg0.N) (ht : t.val % 14 = 13) :
    (dats m 0 c).flushed 6 t = ((cfg0.win 6).blk t).view.read (Elt Ideal) (Ref.codes (V m c main_arg0) (V m c main_arg1) (V m c main_arg2) (V m c main_arg3) (V m c main_arg4) (V m c main_arg5)) := by
  show (cfg0.win 6).cut (grid0.coords t) ((dats m 0 c).after 6 t) = _
  rw [after0_6]
  exact block6_ext t (codesAt m c t) (Ref.codes (V m c main_arg0) (V m c main_arg1) (V m c main_arg2) (V m c main_arg3) (V m c main_arg4) (V m c main_arg5)) (codes_at m c t ht)

theorem flushed7_eq (c : Dev nD) (t : Fin cfg0.N) (ht : t.val % 14 = 13) :
    (dats m 0 c).flushed 7 t = ((cfg0.win 7).blk t).view.read (Elt Ideal) (Ref.scales (V m c main_arg0) (V m c main_arg1) (V m c main_arg2) (V m c main_arg3) (V m c main_arg4) (V m c main_arg5)) := by
  show (cfg0.win 7).cut (grid0.coords t) ((dats m 0 c).after 7 t) = _
  rw [after0_7]
  exact block7_ext t (scalesAt m c t) (Ref.scales (V m c main_arg0) (V m c main_arg1) (V m c main_arg2) (V m c main_arg3) (V m c main_arg4) (V m c main_arg5)) (scales_at m c t ht)

/-- Every index of the codes lies in the block of some finished row block. -/
theorem cover6 (i : S5376x3584.Idx) :
    ∃ t : Fin cfg0.N, (cfg0.win 6).flush t = true ∧ i ∈ ((cfg0.win 6).blk t).view.set := by
  have h0 : (i 0).val < 5376 := (i 0).isLt
  have ht : (i 0).val / 896 * 14 + 13 < cfg0.N := lt_of_lt_of_eq (by omega : _ < 84) (show 84 = cfg0.N from N_0.symm)
  refine ⟨⟨_, ht⟩, (flush0_6 _).mpr (show ((i 0).val / 896 * 14 + 13) % 14 = 13 by omega), ?_⟩
  have hi : i = ((cfg0.win 6).blk ⟨_, ht⟩).view.emb (ix2 (⟨(i 0).val % 896, by omega⟩ : Fin 896) (⟨(i 1).val, (i 1).isLt⟩ : Fin 3584)) := by
    rw [emb6]
    funext a; apply Fin.ext
    match a with
    | ⟨0, _⟩ => show (i 0).val = ((i 0).val / 896 * 14 + 13) / 14 * 896 + (i 0).val % 896; omega
    | ⟨1, _⟩ => rfl
  exact (congrArg (· ∈ ((cfg0.win 6).blk ⟨_, ht⟩).view.set) hi).mpr (((cfg0.win 6).blk ⟨_, ht⟩).view.emb_mem_set _)

/-- Every index of the scales lies in the block of some finished row block. -/
theorem cover7 (i : S5376x1.Idx) :
    ∃ t : Fin cfg0.N, (cfg0.win 7).flush t = true ∧ i ∈ ((cfg0.win 7).blk t).view.set := by
  have h0 : (i 0).val < 5376 := (i 0).isLt
  have h1 : (i 1).val < 1 := (i 1).isLt
  have ht : (i 0).val / 896 * 14 + 13 < cfg0.N := lt_of_lt_of_eq (by omega : _ < 84) (show 84 = cfg0.N from N_0.symm)
  refine ⟨⟨_, ht⟩, (flush0_7 _).mpr (show ((i 0).val / 896 * 14 + 13) % 14 = 13 by omega), ?_⟩
  have hi : i = ((cfg0.win 7).blk ⟨_, ht⟩).view.emb (ix2 (⟨(i 0).val % 896, by omega⟩ : Fin 896) 0) := by
    rw [emb7]
    funext a; apply Fin.ext
    match a with
    | ⟨0, _⟩ => show (i 0).val = ((i 0).val / 896 * 14 + 13) / 14 * 896 + (i 0).val % 896; omega
    | ⟨1, _⟩ => show (i 1).val = 0; omega
  exact (congrArg (· ∈ ((cfg0.win 7).blk ⟨_, ht⟩).view.set) hi).mpr (((cfg0.win 7).blk ⟨_, ht⟩).view.emb_mem_set _)

/-- The codes after the run are the reference's function of the arguments. -/
theorem final6 (c : Dev nD) : (dats m 0 c).arrAt 6 cfg0.N = Ref.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (Ref.codes (V m c main_arg0) (V m c main_arg1) (V m c main_arg2) (V m c main_arg3) (V m c main_arg4) (V m c main_arg5)) (fun t h => flushed6_eq m c t ((flush0_6 t).mp h)) cover6).trans
    (by rw [V_main_arg0, V_main_arg1, V_main_arg2, V_main_arg3, V_main_arg4, V_main_arg5])

/-- The scales after the run are the reference's function of the arguments. -/
theorem final7 (c : Dev nD) : (dats m 0 c).arrAt 7 cfg0.N = Ref.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (Ref.scales (V m c main_arg0) (V m c main_arg1) (V m c main_arg2) (V m c main_arg3) (V m c main_arg4) (V m c main_arg5)) (fun t h => flushed7_eq m c t ((flush0_7 t).mp h)) cover7).trans
    (by rw [V_main_arg0, V_main_arg1, V_main_arg2, V_main_arg3, V_main_arg4, V_main_arg5])

/-- The run of the kernel: its results are the reference's functions of the arguments, which are unchanged. -/
theorem run : θ_run defs (onTc (τ := τ) (main (F := Ideal))) ⟨m, fun _ => 0, ρ⟩ fun r => ∀ c : Dev nD,
      r.2.mem ((c : Thread nD τ).loc main_v0_0) = Ref.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = Ref.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (run_blocks m ρ)

end Cert.Proof.GateUp

end
-- ==== Proof.DownValue.lean ====
module

public import proofs.«01_k».proof.Proof.Gen.DownIdeal.Value
public import proofs.«01_k».proof.Proof.Gen.DownRefIdeal.Value
public import Idealize.ShloMosaic.Lib.Pointwise

/-!
# The down projection: the kernel's result is the reference's

The kernel walks a grid of 6 row blocks by 8 column blocks; the point `t` holds rows `896·(t/8)…` and columns
`1024·(t%8)…`, and writes `h + tanh(gate)·(hid·wd)·scales` for its block.  The reference computes the same expression
on the whole arrays at once.  Since the contraction axis is never split, each element is the same term.
-/

@[expose] public section

set_option maxRecDepth 16384

noncomputable section

open Idealize.ShloMosaic Idealize.ShloMosaic.TcCoe Idealize.SL.Sem
open Idealize.ShloMosaic.Pipeline (Dat)

namespace Cert.Proof.Down

open Cert.DownIdeal Cert.DownIdeal.Gen

/-- One element of the block the kernel stores. -/
theorem pay_apply (v0 : FVec Ideal S896x3584 .fp8e4m3) (v1 : FVec Ideal S3584x1024 .fp8e4m3) (v3 : FVec Ideal S896x1 .f32)
    (v6 : FVec Ideal S1x1024 .f32) (v9 : FVec Ideal S896x1024 .f32) (v10 : FVec Ideal S1x1 .f32) (r : Fin 896) (n : Fin 1024) :
    k0_pay1 (F := Ideal) v0 v1 v3 v6 v9 v10 (ix2 r n)
      = v9 (ix2 r n) + Ideal.tanh (v10 (ix2 0 0)) * ((∑ k : Fin 3584, v0 (ix2 r k) * v1 (ix2 k n)) * v3 (ix2 r 0) * v6 (ix2 0 n)) := by
  pointwise [k0_pay1]

/-- One element of the reference's result. -/
theorem ref_apply (v0 : FVec Ideal Cert.DownRefIdeal.S5376x3584 .fp8e4m3) (v1 : FVec Ideal Cert.DownRefIdeal.S5376x1 .f32)
    (v2 : FVec Ideal Cert.DownRefIdeal.S3584x8192 .fp8e4m3) (v3 : FVec Ideal Cert.DownRefIdeal.S1x8192 .f32)
    (v9 : FVec Ideal Cert.DownRefIdeal.S5376x8192 .f32) (v10 : FVec Ideal Cert.DownRefIdeal.S1x1 .f32) (r : Fin 5376) (n : Fin 8192) :
    Cert.DownRefIdeal.Gen.k0_pay1 (F := Ideal) v0 v1 v2 v3 v9 v10 (ix2 r n)
      = v9 (ix2 r n) + Ideal.tanh (v10 (ix2 0 0)) * ((∑ k : Fin 3584, v0 (ix2 r k) * v2 (ix2 k n)) * v1 (ix2 r 0) * v3 (ix2 0 n)) := by
  pointwise [Cert.DownRefIdeal.Gen.k0_pay1]

/-! ## Where the blocks lie -/

/-- The block indices of the windows at each of the 48 points: rows by `t / 8`, columns by `t % 8`. -/
theorem idx : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = t.val % 8
    ∧ win0_4.index t (0 : Fin 2) = 0 ∧ win0_4.index t (1 : Fin 2) = 0
    ∧ win0_5.index t (0 : Fin 2) = t.val / 8 ∧ win0_5.index t (1 : Fin 2) = t.val % 8
    ∧ win0_6.index t (0 : Fin 2) = t.val / 8 ∧ win0_6.index t (1 : Fin 2) = t.val % 8 :=
  (by decide +kernel : ∀ t : Fin grid0.N, _)

/-- Row `r` of the row block of point `t`, as a row of the whole array. -/
def row (t : Fin cfg0.N) (r : Fin 896) : Fin 5376 :=
  ⟨t.val / 8 * 896 + r.val, by have h := lt_of_lt_of_eq t.isLt N_0; have := r.isLt; omega⟩

/-- Column `n` of the column block of point `t`, as a column of the whole array. -/
def col (t : Fin cfg0.N) (n : Fin 1024) : Fin 8192 :=
  ⟨t.val % 8 * 1024 + n.val, by have := n.isLt; omega⟩

variable (m : (ℓ : Loc nD τ sig) → Buf (Elt Ideal) ℓ) (ρ : Dev nD → PrngReg)

theorem iblk0_apply (c : Dev nD) (t : Fin cfg0.N) (r : Fin 896) (k : Fin 3584) :
    iblk m c 0 t (ix2 r k) = V m c main_arg0 (ix2 (row t r) k) := by
  obtain ⟨h0, h1, -⟩ := idx t
  show V m c main_arg0 (((cfg0.win 0).blk t).view.emb (ix2 r k)) = _
  congr 1; funext a; apply Fin.ext
  match a with
  | ⟨0, _⟩ => show win0_0.index t (0 : Fin 2) * 896 + 1 * r.val = t.val / 8 * 896 + r.val; rw [h0]; omega
  | ⟨1, _⟩ => show win0_0.index t (1 : Fin 2) * 3584 + 1 * k.val = k.val; rw [h1]; omega

theorem iblk1_apply (c : Dev nD) (t : Fin cfg0.N) (r : Fin 896) :
    iblk m c 1 t (ix2 r 0) = V m c main_arg1 (ix2 (row t r) 0) := by
  obtain ⟨-, -, h0, h1, -⟩ := idx t
  show V m c main_arg1 (((cfg0.win 1).blk t).view.emb (ix2 r 0)) = _
  congr 1; funext a; apply Fin.ext
  match a with
  | ⟨0, _⟩ => show win0_1.index t (0 : Fin 2) * 896 + 1 * r.val = t.val / 8 * 896 + r.val; rw [h0]; omega
  | ⟨1, _⟩ => show win0_1.index t (1 : Fin 2) * 1 + 1 * 0 = 0; rw [h1]

theorem iblk2_apply (c : Dev nD) (t : Fin cfg0.N) (k : Fin 3584) (n : Fin 1024) :
    iblk m c 2 t (ix2 k n) = V m c main_arg2 (ix2 k (col t n)) := by
  obtain ⟨-, -, -, -, h0, h1, -⟩ := idx t
  show V m c main_arg2 (((cfg0.win 2).blk t).view.emb (ix2 k n)) = _
  congr 1; funext a; apply Fin.ext
  match a with
  | ⟨0, _⟩ => show win0_2.index t (0 : Fin 2) * 3584 + 1 * k.val = k.val; rw [h0]; omega
  | ⟨1, _⟩ => show win0_2.index t (1 : Fin 2) * 1024 + 1 * n.val = t.val % 8 * 1024 + n.val; rw [h1]; omega

theorem iblk3_apply (c : Dev nD) (t : Fin cfg0.N) (n : Fin 1024) :
    iblk m c 3 t (ix2 0 n) = V m c main_arg3 (ix2 0 (col t n)) := by
  obtain ⟨-, -, -, -, -, -, h0, h1, -⟩ := idx t
  show V m c main_arg3 (((cfg0.win 3).blk t).view.emb (ix2 0 n)) = _
  congr 1; funext a; apply Fin.ext
  match a with
  | ⟨0, _⟩ => show win0_3.index t (0 : Fin 2) * 1 + 1 * 0 = 0; rw [h0]
  | ⟨1, _⟩ => show win0_3.index t (1 : Fin 2) * 1024 + 1 * n.val = t.val % 8 * 1024 + n.val; rw [h1]; omega

theorem iblk4_apply (c : Dev nD) (t : Fin cfg0.N) :
    iblk m c 4 t (ix2 0 0) = V m c main_arg4 (ix2 0 0) := by
  obtain ⟨-, -, -, -, -, -, -, -, h0, h1, -⟩ := idx t
  show V m c main_arg4 (((cfg0.win 4).blk t).view.emb (ix2 0 0)) = _
  congr 1; funext a; apply Fin.ext
  match a with
  | ⟨0, _⟩ => show win0_4.index t (0 : Fin 2) * 1 + 1 * 0 = 0; rw [h0]
  | ⟨1, _⟩ => show win0_4.index t (1 : Fin 2) * 1 + 1 * 0 = 0; rw [h1]

theorem iblk5_apply (c : Dev nD) (t : Fin cfg0.N) (r : Fin 896) (n : Fin 1024) :
    iblk m c 5 t (ix2 r n) = V m c main_arg5 (ix2 (row t r) (col t n)) := by
  obtain ⟨-, -, -, -, -, -, -, -, -, -, h0, h1, -⟩ := idx t
  show V m c main_arg5 (((cfg0.win 5).blk t).view.emb (ix2 r n)) = _
  congr 1; funext a; apply Fin.ext
  match a with
  | ⟨0, _⟩ => show win0_5.index t (0 : Fin 2) * 896 + 1 * r.val = t.val / 8 * 896 + r.val; rw [h0]; omega
  | ⟨1, _⟩ => show win0_5.index t (1 : Fin 2) * 1024 + 1 * n.val = t.val % 8 * 1024 + n.val; rw [h1]; omega

/-- An index of the result's block, in the whole result. -/
theorem emb6 (t : Fin cfg0.N) (r : Fin 896) (n : Fin 1024) :
    ((cfg0.win 6).blk t).view.emb (ix2 r n) = ix2 (row t r) (col t n) := by
  obtain ⟨-, -, -, -, -, -, -, -, -, -, -, -, h0, h1⟩ := idx t
  funext a; apply Fin.ext
  match a with
  | ⟨0, _⟩ => show win0_6.index t (0 : Fin 2) * 896 + 1 * r.val = t.val / 8 * 896 + r.val; rw [h0]; omega
  | ⟨1, _⟩ => show win0_6.index t (1 : Fin 2) * 1024 + 1 * n.val = t.val % 8 * 1024 + n.val; rw [h1]; omega

/-! ## What a point writes back, and the result -/

theorem hz : (![0, 0] : Fin 2 → Nat) = fun _ => 0 := funext fun a => by fin_cases a <;> rfl

/-- Whole-block loads read the blocks and the one covering store leaves its payload. -/
theorem out_eq (x0 : Vec Ideal S896x3584 .fp8e4m3) (x1 : Vec Ideal S896x1 .f32) (x2 : Vec Ideal S3584x1024 .fp8e4m3)
    (x3 : Vec Ideal S1x1024 .f32) (x4 : Vec Ideal S1x1 .f32) (x5 : Vec Ideal S896x1024 .f32) :
    out0_6 (F := Ideal) x0 x1 x2 x3 x4 x5 = k0_pay1 x0 x2 x1 x3 x5 x4 := by
  unfold out0_6
  rw [View.canon_unit_zero hz, View.ld_unit_zero (S := S896x3584) hz _ x0, View.ld_unit_zero (S := S896x1) hz _ x1,
    View.ld_unit_zero (S := S3584x1024) hz _ x2, View.ld_unit_zero (S := S1x1024) hz _ x3,
    View.ld_unit_zero (S := S1x1) hz _ x4, View.ld_unit_zero (S := S896x1024) hz _ x5]

/-- The reference's result as a function of the six argument arrays. -/
def G (a0 : Vec Ideal S5376x3584 .fp8e4m3) (a1 : Vec Ideal S5376x1 .f32) (a2 : Vec Ideal S3584x8192 .fp8e4m3)
    (a3 : Vec Ideal S1x8192 .f32) (a4 : Vec Ideal S1x1 .f32) (a5 : Vec Ideal S5376x8192 .f32) : Vec Ideal S5376x8192 .bf16 :=
  Cert.DownRefIdeal.Gen.k0_pay1 (F := Ideal) a0 a1 a2 a3 a5 a4

theorem G_apply (a0 : Vec Ideal S5376x3584 .fp8e4m3) (a1 : Vec Ideal S5376x1 .f32) (a2 : Vec Ideal S3584x8192 .fp8e4m3)
    (a3 : Vec Ideal S1x8192 .f32) (a4 : Vec Ideal S1x1 .f32) (a5 : Vec Ideal S5376x8192 .f32) (r : Fin 5376) (n : Fin 8192) :
    G a0 a1 a2 a3 a4 a5 (ix2 r n)
      = a5 (ix2 r n) + Ideal.tanh (a4 (ix2 0 0)) * ((∑ k : Fin 3584, a0 (ix2 r k) * a2 (ix2 k n)) * a1 (ix2 r 0) * a3 (ix2 0 n)) :=
  ref_apply a0 a1 a2 a3 a5 a4 r n

theorem G_congr {a0 b0 : Vec Ideal S5376x3584 .fp8e4m3} {a1 b1 : Vec Ideal S5376x1 .f32} {a2 b2 : Vec Ideal S3584x8192 .fp8e4m3}
    {a3 b3 : Vec Ideal S1x8192 .f32} {a4 b4 : Vec Ideal S1x1 .f32} {a5 b5 : Vec Ideal S5376x8192 .f32}
    (e0 : a0 = b0) (e1 : a1 = b1) (e2 : a2 = b2) (e3 : a3 = b3) (e4 : a4 = b4) (e5 : a5 = b5) :
    G a0 a1 a2 a3 a4 a5 = G b0 b1 b2 b3 b4 b5 := by
  subst e0 e1 e2 e3 e4 e5; rfl

/-- What point `t` writes back is its block of the reference's result. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4) (V m c main_arg5)) := by
  rw [Cert.DownIdeal.Value.flushed6, out_eq]
  funext j
  obtain ⟨r, n, rfl⟩ : ∃ (r : Fin 896) (n : Fin 1024), j = ix2 r n :=
    ⟨j 0, j 1, by funext a; match a with | ⟨0, _⟩ => rfl | ⟨1, _⟩ => rfl⟩
  show k0_pay1 (F := Ideal) (iblk m c 0 t) (iblk m c 2 t) (iblk m c 1 t) (iblk m c 3 t) (iblk m c 5 t) (iblk m c 4 t) (ix2 r n)
    = G _ _ _ _ _ _ (((cfg0.win 6).blk t).view.emb (ix2 r n))
  rw [emb6, G_apply, pay_apply, iblk1_apply, iblk3_apply, iblk4_apply, iblk5_apply]
  simp only [iblk0_apply, iblk2_apply]

/-- Every index of the result lies in the block of some point. -/
theorem cover (i : S5376x8192.Idx) :
    ∃ t : Fin cfg0.N, (cfg0.win 6).flush t = true ∧ i ∈ ((cfg0.win 6).blk t).view.set := by
  have h0 : (i 0).val < 5376 := (i 0).isLt
  have h1 : (i 1).val < 8192 := (i 1).isLt
  have ht : (i 0).val / 896 * 8 + (i 1).val / 1024 < cfg0.N := lt_of_lt_of_eq (by omega) N_0.symm
  refine ⟨⟨_, ht⟩, flush0_6 _, ?_⟩
  have hi : i = ((cfg0.win 6).blk ⟨_, ht⟩).view.emb
      (ix2 (⟨(i 0).val % 896, by omega⟩ : Fin 896) (⟨(i 1).val % 1024, by omega⟩ : Fin 1024)) := by
    rw [emb6]
    funext a; apply Fin.ext
    match a with
    | ⟨0, _⟩ =>
      show (i 0).val = ((i 0).val / 896 * 8 + (i 1).val / 1024) / 8 * 896 + (i 0).val % 896
      omega
    | ⟨1, _⟩ =>
      show (i 1).val = ((i 0).val / 896 * 8 + (i 1).val / 1024) % 8 * 1024 + (i 1).val % 1024
      omega
  exact (congrArg (· ∈ ((cfg0.win 6).blk ⟨_, ht⟩).view.set) hi).mpr (((cfg0.win 6).blk ⟨_, ht⟩).view.emb_mem_set _)

/-- The result array after the run is the reference's function of the arguments. -/
theorem final (c : Dev nD) : (dats m 0 c).arrAt 6 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  ((dats m 0 c).arrAt_eq_of_cover 6 (G (V m c main_arg0) (V m c main_arg1) (V m c main_arg2) (V m c main_arg3) (V m c main_arg4) (V m c main_arg5))
    (fun t _ => flushed_eq m c t) cover).trans
    (by rw [V_main_arg0, V_main_arg1, V_main_arg2, V_main_arg3, V_main_arg4, V_main_arg5])

/-- The run of the kernel: the result is the reference's function of the arguments, which are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.DownIdeal.Value.run_blocks m ρ)

end Cert.Proof.Down

end
-- ==== Proof.Strips.lean ====
module

public import Idealize.ShloMosaic.Lib.Pointwise
public import Idealize.ShloMosaic.Lib.Exec

/-!
# Reading a kernel's strips of 32 rows, 128 columns at a time

The two kernels that normalize rows walk a block in strips of 32 rows and each strip in 64 chunks of 128 columns.  Here are the facts
that say where a chunk's element lies in the block, and what a sum or a maximum over the chunks and then over the 128 lanes is: the
sum or the maximum over the whole row of 8192.
-/

@[expose] public section

noncomputable section

open Idealize.ShloMosaic Idealize.ShloMosaic.TcCoe

namespace Cert.Proof.Strips

/-- The element of an array at two natural numbers; zero outside the array. -/
def at2 {α : Type} [Zero α] {M N : ℕ} (X : (⟨2, ![M, N]⟩ : Shape).Idx → α) (a b : ℕ) : α :=
  if h : a < M ∧ b < N then X (ix2 ⟨a, h.1⟩ ⟨b, h.2⟩) else 0

theorem at2_eq {α : Type} [Zero α] {M N : ℕ} (X : (⟨2, ![M, N]⟩ : Shape).Idx → α) {a b : ℕ} (ha : a < M) (hb : b < N) :
    at2 X a b = X (ix2 ⟨a, ha⟩ ⟨b, hb⟩) := dif_pos ⟨ha, hb⟩

section Reads

variable {sig : RefSig} {κ : Kind} {sp : Space} {M N : ℕ} {e : EltTy} [Zero (Elt Ideal e)]

/-- A load of part of a block at an offset known in closed form, read at a place. -/
theorem read_chunk {m n : ℕ} (v : View sig κ sp (⟨2, ![M, N]⟩ : Shape) e) {off : Fin 2 → ℕ} [h : ClosedOff off]
    (inb : ∀ a, off a + (![m, n] : Fin 2 → ℕ) a ≤ (⟨2, ![M, N]⟩ : Shape).size a) (X : BufTy.Contents (Elt Ideal) v.ty) (r : Fin m) (l : Fin n) :
    v.readAt (Elt Ideal) (Rect.unit (s := (⟨2, ![M, N]⟩ : Shape)) off ![m, n] inb).toLoadRect X (ix2 r l)
      = at2 (v.read (Elt Ideal) X) (ClosedOff.form off 0 + r.val) (ClosedOff.form off 1 + l.val) := by
  have e0 : off 0 = ClosedOff.form off 0 := congrFun h.eq 0
  have e1 : off 1 = ClosedOff.form off 1 := congrFun h.eq 1
  have h0 : off 0 + m ≤ M := inb 0
  have h1 : off 1 + n ≤ N := inb 1
  have hr := r.isLt
  have hl := l.isLt
  have ha : ClosedOff.form off 0 + r.val < M := by omega
  have hb : ClosedOff.form off 1 + l.val < N := by omega
  rw [at2_eq _ ha hb, View.readAt_apply]
  refine congrArg (v.read (Elt Ideal) X) ?_
  funext a; apply Fin.ext
  match a with
  | ⟨0, _⟩ => show off 0 + 1 * r.val = ClosedOff.form off 0 + r.val; omega
  | ⟨1, _⟩ => show off 1 + 1 * l.val = ClosedOff.form off 1 + l.val; omega

/-- The same at an offset written out. -/
theorem read_lit {m n a b : ℕ} (v : View sig κ sp (⟨2, ![M, N]⟩ : Shape) e)
    (inb : ∀ i, (![a, b] : Fin 2 → ℕ) i + (![m, n] : Fin 2 → ℕ) i ≤ (⟨2, ![M, N]⟩ : Shape).size i)
    (X : BufTy.Contents (Elt Ideal) v.ty) (r : Fin m) (l : Fin n) :
    v.readAt (Elt Ideal) (Rect.unit (s := (⟨2, ![M, N]⟩ : Shape)) ![a, b] ![m, n] inb).toLoadRect X (ix2 r l)
      = at2 (v.read (Elt Ideal) X) (a + r.val) (b + l.val) :=
  letI : ClosedOff (![a, b] : Fin 2 → ℕ) := ⟨![a, b], rfl⟩
  read_chunk v inb X r l

end Reads

end Cert.Proof.Strips
-- ==== Proof.RowNorm.lean ====
module

public import Idealize.ShloMosaic.Lib.Pointwise
public import Idealize.ShloMosaic.Lib.Exec
public import Idealize.ShloMosaic.Lib.Pipeline.Value
public import proofs.«01_k».proof.Proof.GateUpRefValue

/-!
# Normalizing a row of 8192 and quantizing it

A row `v` is divided by the square root of the mean of its squares (plus a small constant) and multiplied by weights `g`; the result
is quantized to a scale and codes.  The reference does this as written.  The kernels multiply by the reciprocal of the root, take the
largest absolute value of `v · g` before that multiplication, and add up squares and maxima lane by lane.  Over the extended reals
both are the same numbers: multiplication is commutative and associative, the reciprocal is never negative, and neither the root nor
the scale is ever zero.
-/

@[expose] public section

noncomputable section

open Idealize.ShloMosaic Idealize.ShloMosaic.TcCoe

namespace Cert.Proof.RowNorm

open Cert.Proof.GateUp.Ref (scaleOf scaleOf_ne_zero)

/-- The constant added to the mean of the squares. -/
abbrev eps : EReal := Ideal.ofBits FTy.f32 925353388#32

/-- Minus infinity, where a maximum starts. -/
theorem ofBits_bot : Ideal.ofBits FTy.f32 4286578688#32 = ⊥ := by
  simp [Ideal.ofBits, Ideal.ieee]

theorem eps_pos : ∃ e : ℝ, 0 < e ∧ eps = (e : EReal) := by
  refine ⟨_, ?_, by simp [eps, Ideal.ofBits, Ideal.ieee, -EReal.coe_mul]; rfl⟩
  norm_num

theorem ofBits_8192 : Ideal.ofBits FTy.f32 1174405120#32 = ((8192 : ℝ) : EReal) := by
  simp [Ideal.ofBits, Ideal.ieee, -EReal.coe_mul]; norm_num

theorem ofBits_8192_inv : Ideal.ofBits FTy.f32 956301312#32 = (((8192 : ℝ)⁻¹ : ℝ) : EReal) := by
  simp [Ideal.ofBits, Ideal.ieee, -EReal.coe_mul]; norm_num

/-- Multiplying by the constant 1/8192 is dividing by 8192. -/
theorem mean_eq (s : EReal) : s * Ideal.ofBits FTy.f32 956301312#32 = Ideal.div s (Ideal.ofBits FTy.f32 1174405120#32) := by
  rw [ofBits_8192, ofBits_8192_inv, Ideal.div, if_neg (EReal.coe_ne_zero.mpr (by norm_num)), EReal.coe_inv]

/-- The root of a nonnegative number plus the small constant is positive. -/
theorem sqrt_pos {s : EReal} (hs : 0 ≤ s) : 0 < Ideal.sqrt (s + eps) := by
  obtain ⟨e, he, h⟩ := eps_pos
  rw [h]
  induction s with
  | bot => exact absurd hs (by simp)
  | top => rw [EReal.top_add_coe]; exact EReal.zero_lt_top
  | coe x =>
    have hx : 0 ≤ x := by exact_mod_cast hs
    rw [← EReal.coe_add]
    show 0 < (if x + e < 0 then (⊥ : EReal) else ((Real.sqrt (x + e) : ℝ) : EReal))
    rw [if_neg (by linarith)]
    exact_mod_cast Real.sqrt_pos.mpr (by linarith)

theorem sq_nonneg (a : EReal) : 0 ≤ a * a := by
  rcases le_total 0 a with h | h
  · exact mul_nonneg h h
  · rw [← neg_mul_neg]
    have h' : 0 ≤ -a := by rwa [EReal.le_neg, neg_zero]
    exact mul_nonneg h' h'

theorem div_nonneg {a b : EReal} (ha : 0 ≤ a) (hb : 0 < b) : 0 ≤ Ideal.div a b := by
  rw [Ideal.div, if_neg hb.ne']
  exact mul_nonneg ha (EReal.inv_nonneg_of_nonneg hb.le)

/-- The absolute value of a product with a nonnegative factor. -/
theorem abs_mul_nonneg (a : EReal) {b : EReal} (hb : 0 ≤ b) : max (a * b) (-(a * b)) = max a (-a) * b := by
  have hm : Monotone fun x : EReal => x * b := fun x y h => mul_le_mul_of_nonneg_right h hb
  rw [← EReal.neg_mul]
  exact (hm.map_max (a := a) (b := -a)).symm

theorem abs_nonneg (a : EReal) : 0 ≤ max a (-a) := by
  rcases le_total 0 a with h | h
  · exact h.trans (le_max_left _ _)
  · exact (show 0 ≤ -a by rwa [EReal.le_neg, neg_zero]).trans (le_max_right _ _)

/-- A maximum over a row scales with a nonnegative factor. -/
theorem fold_mul {N : ℕ} [NeZero N] (f : Fin N → EReal) {b : EReal} (hb : 0 ≤ b) :
    Finset.univ.fold max ⊥ f * b = Finset.univ.fold max ⊥ fun n => f n * b := by
  have hle : ∀ n, f n ≤ Finset.univ.fold max ⊥ f := fun n =>
    ((Finset.fold_max_le (b := ⊥) (f := f) (Finset.univ.fold max ⊥ f)).mp le_rfl).2 n (Finset.mem_univ n)
  have hle' : ∀ n, f n * b ≤ Finset.univ.fold max ⊥ fun n => f n * b := fun n =>
    ((Finset.fold_max_le (b := ⊥) (f := fun n => f n * b) (Finset.univ.fold max ⊥ fun n => f n * b)).mp le_rfl).2 n (Finset.mem_univ n)
  apply le_antisymm
  · obtain ⟨n, -, h⟩ := Finset.exists_mem_eq_sup (Finset.univ : Finset (Fin N)) ⟨0, Finset.mem_univ _⟩ f
    have h' : Finset.univ.fold max ⊥ f = f n := h
    rw [h']
    exact hle' n
  · rw [Finset.fold_max_le]
    exact ⟨bot_le, fun n _ => mul_le_mul_of_nonneg_right (hle n) hb⟩

section Row

variable {N : ℕ} [NeZero N] (v g : Fin N → EReal) (q : EReal)

/-- A normalized element: the element over the root `q`, times its weight. -/
theorem norm_eq {q : EReal} (hq : 0 < q) (a w : EReal) : Ideal.div a q * w = a * w * Ideal.div 1 q := by
  rw [Ideal.div, Ideal.div, if_neg hq.ne', if_neg hq.ne', one_mul, mul_right_comm]

/-- The largest absolute value of a normalized row. -/
theorem amax_eq {q : EReal} (hq : 0 < q) :
    Finset.univ.fold max ⊥ (fun n : Fin N => max (Ideal.div (v n) q * g n) (-(Ideal.div (v n) q * g n)))
      = Finset.univ.fold max ⊥ (fun n : Fin N => max (v n * g n) (-(v n * g n))) * Ideal.div 1 q := by
  rw [fold_mul _ (div_nonneg zero_le_one hq)]
  refine congrArg (fun f => Finset.univ.fold max ⊥ f) (funext fun n => ?_)
  rw [norm_eq hq, abs_mul_nonneg _ (div_nonneg zero_le_one hq)]

/-- A code before clipping: the normalized element over the scale is the product times the factor `1/q / scale`. -/
theorem code_eq {q s : EReal} (hq : 0 < q) (hs : s ≠ 0) (a w : EReal) :
    Ideal.div (Ideal.div a q * w) s = a * w * Ideal.div (Ideal.div 1 q) s := by
  have key : ∀ x : EReal, Ideal.div x s = x * s⁻¹ := fun x => if_neg hs
  rw [norm_eq hq, key, key, mul_assoc]

end Row

section Lanes

/-- The values added lane by lane over 64 chunks, then over the 128 lanes: the sum over the row. -/
theorem sum_lanes (f : ℕ → EReal) :
    ∑ l : Fin 128, ∑ j ∈ Finset.range 64, f (128 * j + l.val) = ∑ n : Fin 8192, f n.val := by
  have h := Fintype.sum_equiv (finProdFinEquiv (m := 64) (n := 128)) (fun x : Fin 64 × Fin 128 => f (128 * x.1.val + x.2.val))
    (fun n : Fin (64 * 128) => f n.val) fun x => congrArg f (by show _ = x.2.val + 128 * x.1.val; omega)
  rw [Fintype.sum_prod_type, Finset.sum_comm] at h
  refine Eq.trans (Finset.sum_congr rfl fun l _ => ?_) h
  exact (Fin.sum_univ_eq_sum_range (fun j => f (128 * j + l.val)) 64).symm

/-- The maximum of zero and the first `n` values. -/
def mx (f : ℕ → EReal) : ℕ → EReal
  | 0 => 0
  | n + 1 => max (mx f n) (f n)

theorem mx_zero (f : ℕ → EReal) : mx f 0 = 0 := rfl
theorem mx_succ (f : ℕ → EReal) (n : ℕ) : mx f (n + 1) = max (mx f n) (f n) := rfl

theorem mx_le (f : ℕ → EReal) (n : ℕ) (z : EReal) : mx f n ≤ z ↔ 0 ≤ z ∧ ∀ j < n, f j ≤ z := by
  induction n with
  | zero => simp [mx_zero]
  | succ n ih =>
    rw [mx_succ, max_le_iff, ih]
    constructor
    · rintro ⟨⟨h0, h⟩, hn⟩
      exact ⟨h0, fun j hj => (Nat.lt_succ_iff_lt_or_eq.mp hj).elim (h j) fun e => e ▸ hn⟩
    · rintro ⟨h0, h⟩
      exact ⟨⟨h0, fun j hj => h j (by omega)⟩, h n (by omega)⟩

/-- Maxima taken lane by lane over 64 chunks, starting at zero, then over the 128 lanes: the maximum over the row. -/
theorem max_lanes (f : ℕ → EReal) (hf : ∀ n, 0 ≤ f n) :
    Finset.univ.fold max ⊥ (fun l : Fin 128 => mx (fun j => f (128 * j + l.val)) 64)
      = Finset.univ.fold max ⊥ fun n : Fin 8192 => f n.val := by
  refine eq_of_forall_ge_iff fun z => ?_
  rw [Finset.fold_max_le, Finset.fold_max_le]
  refine and_congr_right fun _ => ⟨fun h n _ => ?_, fun h l _ => ?_⟩
  · have hn := n.isLt
    have := ((mx_le _ _ _).mp (h ⟨n.val % 128, Nat.mod_lt _ (by norm_num)⟩ (Finset.mem_univ _))).2 (n.val / 128) (by omega)
    have e : 128 * (n.val / 128) + n.val % 128 = n.val := by omega
    simpa only [e] using this
  · have hl := l.isLt
    exact (mx_le _ _ _).mpr ⟨(hf 0).trans (h 0 (Finset.mem_univ _)), fun j hj => h ⟨128 * j + l.val, by omega⟩ (Finset.mem_univ _)⟩

end Lanes

section Pieces

variable {S : Shape} {e : EltTy}

/-- What the stores of a loop leave, when each trip's stores agree with one function of the buffer's index. -/
theorem canon_trips {T : ℕ} (L : ℕ → List (View.Piece (Elt Ideal) S e)) (P : Fin T → List (View.Piece (Elt Ideal) S e))
    (h0 : L 0 = []) (hs : ∀ k : Fin T, L (k.val + 1) = P k ++ L k.val) (G : S.Idx → Elt Ideal e)
    (hG : ∀ k, ∀ p ∈ P k, ∀ x : p.1.shape.Idx, p.2 x = G (p.1.emb x)) (y : S.Idx) (k : Fin T) (hy : ∃ p ∈ P k, y ∈ p.1.set) :
    View.canon (L T) y = G y := by
  have hall : ∀ n ≤ T, ∀ p ∈ L n, ∀ x : p.1.shape.Idx, p.2 x = G (p.1.emb x) := by
    intro n
    induction n with
    | zero => intro _ p hp; rw [h0] at hp; exact absurd hp List.not_mem_nil
    | succ n ih =>
      intro hn p hp
      rw [hs ⟨n, hn⟩] at hp
      exact (List.mem_append.mp hp).elim (hG _ p) (ih (by omega) p)
  have hin : ∀ n ≤ T, k.val < n → ∀ p ∈ P k, p ∈ L n := by
    intro n
    induction n with
    | zero => intro _ h; exact absurd h (Nat.not_lt_zero _)
    | succ n ih =>
      intro hn hk p hp
      rw [hs ⟨n, hn⟩]
      by_cases hkn : k.val = n
      · have : k = ⟨n, hn⟩ := Fin.ext hkn
        exact List.mem_append_left _ (this ▸ hp)
      · exact List.mem_append_right _ (ih (by omega) (by omega) p hp)
  obtain ⟨p, hp, hm⟩ := hy
  exact View.canon_apply_of_pieces G (L T) (hall T le_rfl) y ⟨p, hin T le_rfl k.isLt p hp, hm⟩

/-- Where an element of a strip stored at a closed offset lies. -/
theorem emb_chunk {M N m n : ℕ} {off : Fin 2 → ℕ} [h : ClosedOff off]
    (inb : ∀ a, off a + (![m, n] : Fin 2 → ℕ) a ≤ (⟨2, ![M, N]⟩ : Shape).size a) (x : (⟨2, ![m, n]⟩ : Shape).Idx) :
    ((Rect.unit (s := (⟨2, ![M, N]⟩ : Shape)) off ![m, n] inb).emb x 0).val = ClosedOff.form off 0 + (x 0).val ∧
      ((Rect.unit (s := (⟨2, ![M, N]⟩ : Shape)) off ![m, n] inb).emb x 1).val = ClosedOff.form off 1 + (x 1).val := by
  have e0 : off 0 = ClosedOff.form off 0 := congrFun h.eq 0
  have e1 : off 1 = ClosedOff.form off 1 := congrFun h.eq 1
  exact ⟨by show off 0 + 1 * (x 0).val = _; omega, by show off 1 + 1 * (x 1).val = _; omega⟩

theorem mem_chunk {M N m n : ℕ} {off : Fin 2 → ℕ} [h : ClosedOff off]
    (inb : ∀ a, off a + (![m, n] : Fin 2 → ℕ) a ≤ (⟨2, ![M, N]⟩ : Shape).size a) (y : (⟨2, ![M, N]⟩ : Shape).Idx)
    (h0 : ClosedOff.form off 0 ≤ (y 0).val ∧ (y 0).val < ClosedOff.form off 0 + m)
    (h1 : ClosedOff.form off 1 ≤ (y 1).val ∧ (y 1).val < ClosedOff.form off 1 + n) :
    y ∈ (Rect.unit (s := (⟨2, ![M, N]⟩ : Shape)) off ![m, n] inb).set := by
  have e0 : off 0 = ClosedOff.form off 0 := congrFun h.eq 0
  have e1 : off 1 = ClosedOff.form off 1 := congrFun h.eq 1
  rw [Rect.mem_set_unit]
  intro a
  match a with
  | ⟨0, _⟩ => exact ⟨by show off 0 ≤ (y 0).val; omega, by show (y 0).val < off 0 + m; omega⟩
  | ⟨1, _⟩ => exact ⟨by show off 1 ≤ (y 1).val; omega, by show (y 1).val < off 1 + n; omega⟩

/-- One more strip of 32 rows and 128 columns at the front of a list that covers the columns below it. -/
theorem cover_step {M N : ℕ} {off : Fin 2 → ℕ} [h : ClosedOff off]
    (inb : ∀ a, off a + (![32, 128] : Fin 2 → ℕ) a ≤ (⟨2, ![M, N]⟩ : Shape).size a)
    (w : (⟨2, ![32, 128]⟩ : Shape).Idx → Elt Ideal e) (L : List (View.Piece (Elt Ideal) (⟨2, ![M, N]⟩ : Shape) e))
    (y : (⟨2, ![M, N]⟩ : Shape).Idx) (h0 : ClosedOff.form off 0 ≤ (y 0).val ∧ (y 0).val < ClosedOff.form off 0 + 32)
    (hlt : (y 1).val < ClosedOff.form off 1 + 128) (hL : (y 1).val < ClosedOff.form off 1 → ∃ p ∈ L, y ∈ p.1.set) :
    ∃ p ∈ (⟨Rect.unit (s := (⟨2, ![M, N]⟩ : Shape)) off ![32, 128] inb, w⟩ :: L : List (View.Piece (Elt Ideal) (⟨2, ![M, N]⟩ : Shape) e)),
      y ∈ p.1.set := by
  by_cases hc : (y 1).val < ClosedOff.form off 1
  · obtain ⟨p, hp, hm⟩ := hL hc
    exact ⟨p, List.mem_cons_of_mem _ hp, hm⟩
  · exact ⟨_, List.mem_cons_self, mem_chunk inb y h0 ⟨by omega, hlt⟩⟩

end Pieces

end Cert.Proof.RowNorm

end
-- ==== Proof.OProjStats.lean ====
module

public import proofs.«01_k».proof.Proof.Gen.OProjIdeal.Frame
public import proofs.«01_k».proof.Proof.Strips
public import proofs.«01_k».proof.Proof.RowNorm

/-!
# One strip of the output projection's kernel's statistics loop
-/

@[expose] public section

set_option maxRecDepth 16384

noncomputable section

open Idealize.ShloMosaic Idealize.ShloMosaic.TcCoe Idealize.SL.Sem

namespace Cert.Proof.OProj

open Cert.OProjIdeal Cert.OProjIdeal.Gen Cert.Proof.Strips Cert.Proof.RowNorm

theorem ss_trip (arg9 : Memref sig .tc .vmem S128x8192 .f32) (X9 : BufTy.Contents (Elt Ideal) arg9.view.ty) (k : Fin k0_t1_loop.trips)
    (r : Fin 32) (l : Fin 128) :
    k0_pay181 (F := Ideal) (trip_k0_t1.sl.r_39 arg9 X9 k) (ix2 r l)
      = ∑ j ∈ Finset.range 64, at2 (arg9.view.read (Elt Ideal) X9) (32 * k.val + r.val) (128 * j + l.val) *
          at2 (arg9.view.read (Elt Ideal) X9) (32 * k.val + r.val) (128 * j + l.val) := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay181, k0_pay182, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  rw [read_chunk]
  simp only [read_chunk]
  simp only [Finset.sum_range_succ, Finset.sum_range_zero, zero_add]
  rfl

theorem am_trip (arg9 : Memref sig .tc .vmem S128x8192 .f32) (arg8 : Memref sig .tc .vmem S1x8192 .f32)
    (X8 : BufTy.Contents (Elt Ideal) arg8.view.ty) (X9 : BufTy.Contents (Elt Ideal) arg9.view.ty) (k : Fin k0_t1_loop.trips)
    (r : Fin 32) (l : Fin 128) :
    k0_pay182 (F := Ideal) (trip_k0_t1.sl.r_40 arg8 arg9 X8 X9 k) (ix2 r l)
      = mx (fun j => max (at2 (arg9.view.read (Elt Ideal) X9) (32 * k.val + r.val) (128 * j + l.val) *
            at2 (arg8.view.read (Elt Ideal) X8) 0 (128 * j + l.val))
          (-(at2 (arg9.view.read (Elt Ideal) X9) (32 * k.val + r.val) (128 * j + l.val) *
            at2 (arg8.view.read (Elt Ideal) X8) 0 (128 * j + l.val)))) 64 := by
  pointwise [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay181, k0_pay182, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  simp only [read_chunk, read_lit]
  simp only [mx_succ, mx_zero]
  rfl

end Cert.Proof.OProj

end
-- ==== Proof.OProjEmit.lean ====
module

public import proofs.«01_k».proof.Proof.Gen.OProjIdeal.Frame
public import proofs.«01_k».proof.Proof.Strips
public import proofs.«01_k».proof.Proof.RowNorm
public import Idealize.ShloMosaic.Lib.Pipeline.ReadBack

/-!
# One strip of the output projection's kernel's code loop
-/

@[expose] public section

set_option maxRecDepth 16384

noncomputable section

open Idealize.ShloMosaic Idealize.ShloMosaic.TcCoe Idealize.SL.Sem

namespace Cert.Proof.OProj

open Cert.OProjIdeal Cert.OProjIdeal.Gen Cert.Proof.Strips Cert.Proof.RowNorm

/-- The product of the element at row `a`, column `b`, its weight, and the factor at row `a`, lane `l`, clipped to ±448. -/
def codeOf (A : S128x8192.Idx → Elt Ideal .f32) (B : S1x8192.Idx → Elt Ideal .f32) (C : S128x128.Idx → Elt Ideal .f32) (a b l : ℕ) : EReal :=
  min (Ideal.ofBits FTy.f32 1138753536#32) (max (Ideal.ofBits FTy.f32 3286237184#32) (at2 A a b * at2 B 0 b * at2 C a l))

/-- The code at row `a`, column `b` of a block. -/
def codeAt (A : S128x8192.Idx → Elt Ideal .f32) (B : S1x8192.Idx → Elt Ideal .f32) (C : S128x128.Idx → Elt Ideal .f32) (a b : ℕ) : EReal :=
  codeOf A B C a b (b % 128)

/-- A strip of codes stored at a closed offset agrees with `codeAt`. -/
theorem emit_piece (A : S128x8192.Idx → Elt Ideal .f32) (B : S1x8192.Idx → Elt Ideal .f32) (C : S128x128.Idx → Elt Ideal .f32)
    {off : Fin 2 → ℕ} [h : ClosedOff off] (inb : ∀ a, off a + (![32, 128] : Fin 2 → ℕ) a ≤ S128x8192.size a)
    (w : S32x128.Idx → Elt Ideal .fp8e4m3)
    (hw : ∀ (r : Fin 32) (l : Fin 128), w (ix2 r l)
      = codeOf A B C (ClosedOff.form off 0 + r.val) (ClosedOff.form off 1 + l.val) l.val)
    (h1 : ClosedOff.form off 1 % 128 = 0) (x : S32x128.Idx) :
    w x = (fun y : S128x8192.Idx => codeAt A B C (y 0).val (y 1).val) ((Rect.unit (s := S128x8192) off ![32, 128] inb).emb x) := by
  obtain ⟨r, l, rfl⟩ : ∃ (r : Fin 32) (l : Fin 128), x = ix2 r l :=
    ⟨x 0, x 1, by funext a; match a with | ⟨0, _⟩ => rfl | ⟨1, _⟩ => rfl⟩
  obtain ⟨e0, e1⟩ := emb_chunk inb (ix2 r l)
  have hl := l.isLt
  have hm : (ClosedOff.form off 1 + l.val) % 128 = l.val := by omega
  show w (ix2 r l) = codeAt A B C ((Rect.unit (s := S128x8192) off ![32, 128] inb).emb (ix2 r l) 0).val
    ((Rect.unit (s := S128x8192) off ![32, 128] inb).emb (ix2 r l) 1).val
  rw [e0, e1]
  show w (ix2 r l) = codeAt A B C (ClosedOff.form off 0 + r.val) (ClosedOff.form off 1 + l.val)
  rw [codeAt, hm, hw r l]

/-- One more strip of codes at the front of a list. -/
theorem emit_cons (A : S128x8192.Idx → Elt Ideal .f32) (B : S1x8192.Idx → Elt Ideal .f32) (C : S128x128.Idx → Elt Ideal .f32)
    {off : Fin 2 → ℕ} [h : ClosedOff off] (inb : ∀ a, off a + (![32, 128] : Fin 2 → ℕ) a ≤ S128x8192.size a)
    (w : S32x128.Idx → Elt Ideal .fp8e4m3) (L : List (View.Piece (Elt Ideal) S128x8192 .fp8e4m3))
    (hw : ∀ (r : Fin 32) (l : Fin 128), w (ix2 r l)
      = codeOf A B C (ClosedOff.form off 0 + r.val) (ClosedOff.form off 1 + l.val) l.val)
    (h1 : ClosedOff.form off 1 % 128 = 0) (hL : View.PiecesOf (fun y : S128x8192.Idx => codeAt A B C (y 0).val (y 1).val) L) :
    View.PiecesOf (fun y : S128x8192.Idx => codeAt A B C (y 0).val (y 1).val)
      (⟨Rect.unit (s := S128x8192) off ![32, 128] inb, w⟩ :: L) :=
  ⟨emit_piece A B C inb w hw h1, hL⟩

theorem emit_trip {𝒱 : Variants} {c : Dev nD} {bd : Option 𝒱.V} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (X8 : BufTy.Contents (Elt Ideal) arg8.view.ty) (X9 : BufTy.Contents (Elt Ideal) arg9.view.ty)
    (X14 : BufTy.Contents (Elt Ideal) arg14.view.ty) (k : Fin k0_t2_loop.trips) :
    View.PiecesOf (fun y : S128x8192.Idx => codeAt (arg9.view.read (Elt Ideal) X9) (arg8.view.read (Elt Ideal) X8)
        (arg14.view.read (Elt Ideal) X14) (y 0).val (y 1).val)
      (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 k) := by
  unfold tripL_k0_t2 trip_k0_t2
  dsimp only
  have e : ClosedOff.form (k0_off66 k) 1 = 0 := rfl
  have e' : ClosedOff.form (k0_off67 k) 1 = 0 := rfl
  iterate 64
    refine emit_cons _ _ _ _ _ _ (fun r l => ?_) (by simp [ClosedOff.form]) ?_
    · pointwise [k0_pay4, k0_pay5, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.cst_53, trip_k0_t2.sl.cst_139]
      simp only [read_chunk, read_lit, e, e', Nat.zero_add]
      rfl
  exact True.intro

theorem emit_cover {𝒱 : Variants} {c : Dev nD} {bd : Option 𝒱.V} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (X8 : BufTy.Contents (Elt Ideal) arg8.view.ty) (X9 : BufTy.Contents (Elt Ideal) arg9.view.ty)
    (X14 : BufTy.Contents (Elt Ideal) arg14.view.ty) (k : Fin k0_t2_loop.trips) (y : S128x8192.Idx)
    (h0 : 32 * k.val ≤ (y 0).val ∧ (y 0).val < 32 * k.val + 32) :
    ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 k, y ∈ p.1.set := by
  unfold tripL_k0_t2 trip_k0_t2
  dsimp only
  have h : (y 1).val < 8192 := (y 1).isLt
  repeat refine cover_step _ _ _ y h0 h fun h => ?_
  exact absurd h (Nat.not_lt_zero _)

end Cert.Proof.OProj

end
-- ==== Proof.OProjRun.lean ====
module

public import proofs.«01_k».proof.Proof.Gen.OProjIdeal.Value
public import proofs.«01_k».proof.Proof.OProjStats
public import proofs.«01_k».proof.Proof.OProjEmit

/-!
# What one grid point of the output projection's kernel leaves

The point first stores its rows of the residual sum `h`; everything after reads them.
The first loop leaves, per row and lane, the sum of the squares (`ssLane`) and the largest product (`amLane`) of the 64 chunks.  From
these come the row's root, its scale and its factor; the second loop leaves the codes.
-/

@[expose] public section

set_option maxRecDepth 16384

noncomputable section

open Idealize.ShloMosaic Idealize.ShloMosaic.TcCoe Idealize.SL.Sem

namespace Cert.Proof.OProj

open Cert.OProjIdeal Cert.OProjIdeal.Gen Cert.Proof.Strips Cert.Proof.RowNorm
open Cert.Proof.GateUp.Ref (scaleOf scaleOf_ne_zero)

/-- The sum of the squares of row `a` in lane `l`. -/
def ssLane (A : S128x8192.Idx → Elt Ideal .f32) (a l : ℕ) : EReal :=
  ∑ j ∈ Finset.range 64, at2 A a (128 * j + l) * at2 A a (128 * j + l)

/-- The largest absolute product of row `a` in lane `l`. -/
def amLane (A : S128x8192.Idx → Elt Ideal .f32) (B : S1x8192.Idx → Elt Ideal .f32) (a l : ℕ) : EReal :=
  mx (fun j => max (at2 A a (128 * j + l) * at2 B 0 (128 * j + l)) (-(at2 A a (128 * j + l) * at2 B 0 (128 * j + l)))) 64

theorem hz : (![0, 0] : Fin 2 → Nat) = fun _ => 0 := funext fun a => by fin_cases a <;> rfl

theorem trips1 : k0_t1_loop.trips = 4 := by decide +kernel
theorem trips2 : k0_t2_loop.trips = 4 := by decide +kernel

/-- A strip of statistics agrees with a function of row and lane. -/
theorem stat_piece (G : ℕ → ℕ → EReal) (k : Fin k0_t1_loop.trips) (inb : ∀ a, k0_off65 k a + (![32, 128] : Fin 2 → ℕ) a ≤ S128x128.size a)
    (w : S32x128.Idx → Elt Ideal .f32) (hw : ∀ (r : Fin 32) (l : Fin 128), w (ix2 r l) = G (32 * k.val + r.val) l.val) (x : S32x128.Idx) :
    w x = (fun y : S128x128.Idx => G (y 0).val (y 1).val) ((Rect.unit (s := S128x128) (k0_off65 k) ![32, 128] inb).emb x) := by
  obtain ⟨r, l, rfl⟩ : ∃ (r : Fin 32) (l : Fin 128), x = ix2 r l :=
    ⟨x 0, x 1, by funext a; match a with | ⟨0, _⟩ => rfl | ⟨1, _⟩ => rfl⟩
  obtain ⟨e0, e1⟩ := emb_chunk inb (ix2 r l)
  show w (ix2 r l) = G ((Rect.unit (s := S128x128) (k0_off65 k) ![32, 128] inb).emb (ix2 r l) 0).val
    ((Rect.unit (s := S128x128) (k0_off65 k) ![32, 128] inb).emb (ix2 r l) 1).val
  rw [e0, e1, hw]
  show G (32 * k.val + r.val) l.val = G (32 * k.val + r.val) (0 + l.val)
  rw [Nat.zero_add]

theorem stat_mem (k : Fin k0_t1_loop.trips) (inb : ∀ a, k0_off65 k a + (![32, 128] : Fin 2 → ℕ) a ≤ S128x128.size a) (y : S128x128.Idx)
    (h0 : 32 * k.val ≤ (y 0).val ∧ (y 0).val < 32 * k.val + 32) :
    y ∈ (Rect.unit (s := S128x128) (k0_off65 k) ![32, 128] inb).set :=
  mem_chunk inb y h0 ⟨Nat.zero_le _, by show (y 1).val < 0 + 128; have h : (y 1).val < 128 := (y 1).isLt; omega⟩

theorem ss_canon {𝒱 : Variants} {c : Dev nD} {bd : Option 𝒱.V} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (X8 : BufTy.Contents (Elt Ideal) arg8.view.ty) (X9 : BufTy.Contents (Elt Ideal) arg9.view.ty) (y : S128x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k0_t1_loop.trips).1 y
      = ssLane (arg9.view.read (Elt Ideal) X9) (y 0).val (y 1).val := by
  have hy : (y 0).val < 128 := (y 0).isLt
  refine canon_trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 n).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k).1) rfl
    (fun k => congrArg Prod.fst (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k))
    (fun y => ssLane (arg9.view.read (Elt Ideal) X9) (y 0).val (y 1).val) ?_ y ⟨(y 0).val / 32, by rw [trips1]; omega⟩ ?_
  · intro k
    unfold tripL_k0_t1 trip_k0_t1
    dsimp only
    intro p hp x
    obtain rfl := List.mem_singleton.mp hp
    exact stat_piece (ssLane (arg9.view.read (Elt Ideal) X9)) k (k0_off65_inb k) _ (ss_trip arg9 X9 k) x
  · unfold tripL_k0_t1 trip_k0_t1
    dsimp only
    exact ⟨_, List.mem_singleton.mpr rfl, stat_mem _ (k0_off65_inb _) y (by dsimp only; omega)⟩

theorem am_canon {𝒱 : Variants} {c : Dev nD} {bd : Option 𝒱.V} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (X8 : BufTy.Contents (Elt Ideal) arg8.view.ty) (X9 : BufTy.Contents (Elt Ideal) arg9.view.ty) (y : S128x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k0_t1_loop.trips).2 y
      = amLane (arg9.view.read (Elt Ideal) X9) (arg8.view.read (Elt Ideal) X8) (y 0).val (y 1).val := by
  have hy : (y 0).val < 128 := (y 0).isLt
  refine canon_trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 n).2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k).2) rfl
    (fun k => congrArg Prod.snd (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 k))
    (fun y => amLane (arg9.view.read (Elt Ideal) X9) (arg8.view.read (Elt Ideal) X8) (y 0).val (y 1).val) ?_ y ⟨(y 0).val / 32, by rw [trips1]; omega⟩ ?_
  · intro k
    unfold tripL_k0_t1 trip_k0_t1
    dsimp only
    intro p hp x
    obtain rfl := List.mem_singleton.mp hp
    exact stat_piece (amLane (arg9.view.read (Elt Ideal) X9) (arg8.view.read (Elt Ideal) X8)) k (k0_off65_inb k) _ (am_trip arg9 arg8 X8 X9 k) x
  · unfold tripL_k0_t1 trip_k0_t1
    dsimp only
    exact ⟨_, List.mem_singleton.mpr rfl, stat_mem _ (k0_off65_inb _) y (by dsimp only; omega)⟩

theorem codes_canon {𝒱 : Variants} {c : Dev nD} {bd : Option 𝒱.V} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (X8 : BufTy.Contents (Elt Ideal) arg8.view.ty) (X9 : BufTy.Contents (Elt Ideal) arg9.view.ty)
    (X14 : BufTy.Contents (Elt Ideal) arg14.view.ty) (y : S128x8192.Idx) :
    View.canon (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 k0_t2_loop.trips) y
      = codeAt (arg9.view.read (Elt Ideal) X9) (arg8.view.read (Elt Ideal) X8) (arg14.view.read (Elt Ideal) X14) (y 0).val (y 1).val := by
  have hy : (y 0).val < 128 := (y 0).isLt
  exact canon_trips (fun n => pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 n)
    (fun k => tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 k) rfl
    (fun k => pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X8 X9 X14 k)
    (fun y => codeAt (arg9.view.read (Elt Ideal) X9) (arg8.view.read (Elt Ideal) X8) (arg14.view.read (Elt Ideal) X14) (y 0).val (y 1).val)
    (fun k => (emit_trip X8 X9 X14 k).mem) y ⟨(y 0).val / 32, by rw [trips2]; omega⟩ (emit_cover X8 X9 X14 _ y (by dsimp only; omega))

/-- A load of a whole buffer reads what its stores left. -/
theorem readCov_whole {sp : Space} {e : EltTy} {M N : ℕ} (v : View sig .tc sp (⟨2, ![M, N]⟩ : Shape) e)
    (L : List (View.Piece (Elt Ideal) (⟨2, ![M, N]⟩ : Shape) e)) (inb : ∀ a, (![0, 0] : Fin 2 → ℕ) a + (⟨2, ![M, N]⟩ : Shape).size a ≤ (⟨2, ![M, N]⟩ : Shape).size a) :
    v.readCov L (Rect.unit (s := (⟨2, ![M, N]⟩ : Shape)) ![0, 0] (⟨2, ![M, N]⟩ : Shape).size inb).toLoadRect = View.canon L :=
  (View.readCov_eq_canon' v L _).trans (View.ld_unit_zero hz inb (View.canon L))

/-- The sums of squares of a block, as an array. -/
def ssArr (A : S128x8192.Idx → Elt Ideal .f32) : FVec Ideal S128x128 .f32 := fun y => ssLane A (y 0).val (y 1).val

/-- The largest products of a block, as an array. -/
def amArr (A : S128x8192.Idx → Elt Ideal .f32) (B : S1x8192.Idx → Elt Ideal .f32) : FVec Ideal S128x128 .f32 :=
  fun y => amLane A B (y 0).val (y 1).val

/-- The factor one, as a kernel constant. -/
abbrev one : Ideal .f32 := FloatOps.ofBits FTy.f32 1065353216#32

/-- The factors of a block. -/
def facArr (L : Vec Ideal S128x1 .i32) (A : S128x8192.Idx → Elt Ideal .f32) (B : S1x8192.Idx → Elt Ideal .f32) : FVec Ideal S128x128 .f32 :=
  k0_pay3 (F := Ideal) (k0_pay183 (F := Ideal) L) (k0_pay184 (F := Ideal) (ssArr A)) one (amArr A B)

/-- The codes of a block. -/
def codeArr (L : Vec Ideal S128x1 .i32) (A : S128x8192.Idx → Elt Ideal .f32) (B : S1x8192.Idx → Elt Ideal .f32) : FVec Ideal S128x8192 .fp8e4m3 :=
  fun y => codeAt A B (facArr L A B) (y 0).val (y 1).val

/-- The scales of a block. -/
def scaleArr (L : Vec Ideal S128x1 .i32) (A : S128x8192.Idx → Elt Ideal .f32) (B : S1x8192.Idx → Elt Ideal .f32) : FVec Ideal S128x1 .f32 :=
  k0_pay2 (F := Ideal) (k0_pay183 (F := Ideal) L) (k0_pay184 (F := Ideal) (ssArr A)) one (amArr A B)

/-- The residual sums of a block. -/
def hArr (x0 : Vec Ideal S128x1024 .fp8e4m3) (x1 : Vec Ideal S128x1 .f32) (x3 : Vec Ideal S128x8192 .bf16) (x4 : Vec Ideal S1024x8192 .fp8e4m3) (x5 : Vec Ideal S1x8192 .f32) (x6 : Vec Ideal S1x1 .f32) : FVec Ideal S128x8192 .f32 :=
  k0_pay180 (F := Ideal) x0 x4 x3 x6 x1 x5

/-- A load of a whole argument window is the argument. -/
theorem whole_read {sp : Space} {e : EltTy} {M N : ℕ} {m : Memref sig .tc sp (⟨2, ![M, N]⟩ : Shape) e} (hm : m.IsWhole)
    (x : (⟨2, ![M, N]⟩ : Shape).Idx → Elt Ideal e)
    (inb : ∀ a, (![0, 0] : Fin 2 → ℕ) a + (⟨2, ![M, N]⟩ : Shape).size a ≤ (⟨2, ![M, N]⟩ : Shape).size a) :
    View.readAt (Elt Ideal) m.view (Rect.unit (s := (⟨2, ![M, N]⟩ : Shape)) ![0, 0] (⟨2, ![M, N]⟩ : Shape).size inb).toLoadRect (hm.unread x) = x := by
  rw [View.readAt_eq_ld, hm.read_unread, View.ld_unit_zero hz]

theorem h_congr {x0 y0 : Vec Ideal S128x1024 .fp8e4m3} {x1 y1 : Vec Ideal S128x1 .f32} {x3 y3 : Vec Ideal S128x8192 .bf16}
    {x4 y4 : Vec Ideal S1024x8192 .fp8e4m3} {x5 y5 : Vec Ideal S1x8192 .f32} {x6 y6 : Vec Ideal S1x1 .f32}
    (e0 : y0 = x0) (e1 : y1 = x1) (e3 : y3 = x3) (e4 : y4 = x4) (e5 : y5 = x5) (e6 : y6 = x6) :
    k0_pay180 (F := Ideal) y0 y4 y3 y6 y1 y5 = hArr x0 x1 x3 x4 x5 x6 := by
  subst e0 e1 e3 e4 e5 e6; rfl

theorem h_pieces {c : Dev nD} {arg1 : Memref sig .tc .vmem S128x1024 .fp8e4m3} {harg1 : arg1.IsWhole} {arg2 : Memref sig .tc .vmem S128x1 .f32} {harg2 : arg2.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} (x0 : Vec Ideal S128x1024 .fp8e4m3) (x1 : Vec Ideal S128x1 .f32) (x3 : Vec Ideal S128x8192 .bf16) (x4 : Vec Ideal S1024x8192 .fp8e4m3) (x5 : Vec Ideal S1x8192 .f32) (x6 : Vec Ideal S1x1 .f32) :
    View.canon (kernelRun0_A.sl.H8_1 (F := Ideal) c arg1 harg1 arg2 harg2 arg4 harg4 arg5 harg5 arg6 harg6 arg7 harg7 x0 x1 x3 x4 x5 x6) = hArr x0 x1 x3 x4 x5 x6 := by
  unfold kernelRun0_A.sl.H8_1
  rw [View.canon_unit_zero hz]
  exact h_congr (whole_read harg1 x0 _) (whole_read harg2 x1 _) (whole_read harg4 x3 _) (whole_read harg5 x4 _) (whole_read harg6 x5 _) (whole_read harg7 x6 _)

theorem h_read {c : Dev nD} {arg1 : Memref sig .tc .vmem S128x1024 .fp8e4m3} {harg1 : arg1.IsWhole} {arg2 : Memref sig .tc .vmem S128x1 .f32} {harg2 : arg2.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg9 : Memref sig .tc .vmem S128x8192 .f32} (x0 : Vec Ideal S128x1024 .fp8e4m3) (x1 : Vec Ideal S128x1 .f32) (x3 : Vec Ideal S128x8192 .bf16) (x4 : Vec Ideal S1024x8192 .fp8e4m3) (x5 : Vec Ideal S1x8192 .f32) (x6 : Vec Ideal S1x1 .f32) :
    arg9.view.read (Elt Ideal) (arg9.view.writes (Elt Ideal) arg9.view.junk (kernelRun0_A.sl.H8_1 (F := Ideal) c arg1 harg1 arg2 harg2 arg4 harg4 arg5 harg5 arg6 harg6 arg7 harg7 x0 x1 x3 x4 x5 x6)) = hArr x0 x1 x3 x4 x5 x6 :=
  (View.read_writes_junk_eq_canon _ _).trans (h_pieces x0 x1 x3 x4 x5 x6)

theorem ss_read {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x7 : Vec Ideal S1x8192 .f32) (X9 : BufTy.Contents (Elt Ideal) arg9.view.ty) {A : S128x8192.Idx → Elt Ideal .f32}
    (hA : arg9.view.read (Elt Ideal) X9 = A) (inb : ∀ a, (![0, 0] : Fin 2 → ℕ) a + S128x128.size a ≤ S128x128.size a) :
    arg12.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg8.unread x7) X9 k0_t1_loop.trips).1
      (Rect.unit (s := S128x128) ![0, 0] S128x128.size inb).toLoadRect = ssArr A := by
  refine (readCov_whole arg12.view _ inb).trans (funext fun y => (ss_canon _ _ y).trans ?_)
  rw [hA]; rfl

theorem am_read {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x7 : Vec Ideal S1x8192 .f32) (X9 : BufTy.Contents (Elt Ideal) arg9.view.ty) {A : S128x8192.Idx → Elt Ideal .f32}
    (hA : arg9.view.read (Elt Ideal) X9 = A) (inb : ∀ a, (![0, 0] : Fin 2 → ℕ) a + S128x128.size a ≤ S128x128.size a) :
    arg13.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg8.unread x7) X9 k0_t1_loop.trips).2
      (Rect.unit (s := S128x128) ![0, 0] S128x128.size inb).toLoadRect = amArr A x7 := by
  refine (readCov_whole arg13.view _ inb).trans (funext fun y => (am_canon _ _ y).trans ?_)
  rw [hA, harg8.read_unread]; rfl

theorem live_read {c : Dev nD} {arg3 : Memref sig .tc .vmem S128x1 .i32} {harg3 : arg3.IsWhole} (x2 : Vec Ideal S128x1 .i32) :
    kernelRun0_A.sl.r (F := Ideal) c arg3 harg3 x2 = k0_pay183 (F := Ideal) x2 := by
  unfold kernelRun0_A.sl.r
  exact congrArg (k0_pay183 (F := Ideal)) (whole_read harg3 x2 _)

theorem root_read {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    kernelRun0_A.sl.r_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x3 x4 x5 x6 x7 = k0_pay184 (F := Ideal) (ssArr (hArr x0 x1 x3 x4 x5 x6)) := by
  unfold kernelRun0_A.sl.r_1
  exact congrArg (k0_pay184 (F := Ideal)) (ss_read x7 _ (h_read x0 x1 x3 x4 x5 x6) _)

theorem scale_congr {l l' : IVec S128x1 1} {r r' : FVec Ideal S128x1 .f32} {a a' : FVec Ideal S128x128 .f32} (hl : l = l') (hr : r = r') (ha : a = a') :
    k0_pay2 (F := Ideal) l r one a = k0_pay2 (F := Ideal) l' r' one a' := by
  subst hl hr ha; rfl

theorem fac_congr {l l' : IVec S128x1 1} {r r' : FVec Ideal S128x1 .f32} {a a' : FVec Ideal S128x128 .f32} (hl : l = l') (hr : r = r') (ha : a = a') :
    k0_pay3 (F := Ideal) l r one a = k0_pay3 (F := Ideal) l' r' one a' := by
  subst hl hr ha; rfl

theorem fac_read {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    arg14.view.read (Elt Ideal) (arg14.view.writes (Elt Ideal) arg14.view.junk (kernelRun0_A.sl.HS2_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)) = facArr x2 (hArr x0 x1 x3 x4 x5 x6) x7 := by
  rw [View.read_writes_junk_eq_canon]
  unfold kernelRun0_A.sl.HS2_1
  rw [View.canon_unit_zero hz]
  exact fac_congr (live_read x2) (root_read x0 x1 x2 x3 x4 x5 x6 x7) (am_read x7 _ (h_read x0 x1 x3 x4 x5 x6) _)

theorem codes_pieces {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg8.unread x7) (arg9.view.writes (Elt Ideal) arg9.view.junk (kernelRun0_A.sl.H8_1 (F := Ideal) c arg1 harg1 arg2 harg2 arg4 harg4 arg5 harg5 arg6 harg6 arg7 harg7 x0 x1 x3 x4 x5 x6))
        (arg14.view.writes (Elt Ideal) arg14.view.junk (kernelRun0_A.sl.HS2_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7)) k0_t2_loop.trips) = codeArr x2 (hArr x0 x1 x3 x4 x5 x6) x7 := by
  refine funext fun y => (codes_canon _ _ _ y).trans ?_
  rw [h_read, harg8.read_unread, fac_read]; rfl

theorem run8 {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).1 = hArr x0 x1 x3 x4 x5 x6 := by
  unfold kernelRun0_A
  dsimp only
  exact h_pieces x0 x1 x3 x4 x5 x6

theorem run9 {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.1 = codeArr x2 (hArr x0 x1 x3 x4 x5 x6) x7 := by
  unfold kernelRun0_A
  dsimp only
  exact codes_pieces x0 x1 x2 x3 x4 x5 x6 x7

theorem run10 {c : Dev nD} {i : grid0.Coords} {arg1 : Memref sig .tc .vmem S128x1024 .fp8e4m3} {harg1 : arg1.IsWhole} {arg2 : Memref sig .tc .vmem S128x1 .f32} {harg2 : arg2.IsWhole} {arg3 : Memref sig .tc .vmem S128x1 .i32} {harg3 : arg3.IsWhole} {arg4 : Memref sig .tc .vmem S128x8192 .bf16} {harg4 : arg4.IsWhole} {arg5 : Memref sig .tc .vmem S1024x8192 .fp8e4m3} {harg5 : arg5.IsWhole} {arg6 : Memref sig .tc .vmem S1x8192 .f32} {harg6 : arg6.IsWhole} {arg7 : Memref sig .tc .vmem S1x1 .f32} {harg7 : arg7.IsWhole} {arg8 : Memref sig .tc .vmem S1x8192 .f32} {harg8 : arg8.IsWhole} {arg9 : Memref sig .tc .vmem S128x8192 .f32} {harg9 : arg9.IsWhole} {arg10 : Memref sig .tc .vmem S128x8192 .fp8e4m3} {harg10 : arg10.IsWhole} {arg11 : Memref sig .tc .vmem S128x1 .f32} {harg11 : arg11.IsWhole} {arg12 : Memref sig .tc .vmem S128x128 .f32} {harg12 : arg12.IsWhole} {arg13 : Memref sig .tc .vmem S128x128 .f32} {harg13 : arg13.IsWhole} {arg14 : Memref sig .tc .vmem S128x128 .f32} {harg14 : arg14.IsWhole} (x0 : Vec Ideal S128x1024 .fp8e4m3) (x1 : Vec Ideal S128x1 .f32) (x2 : Vec Ideal S128x1 .i32) (x3 : Vec Ideal S128x8192 .bf16) (x4 : Vec Ideal S1024x8192 .fp8e4m3) (x5 : Vec Ideal S1x8192 .f32) (x6 : Vec Ideal S1x1 .f32) (x7 : Vec Ideal S1x8192 .f32) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1 = scaleArr x2 (hArr x0 x1 x3 x4 x5 x6) x7 := by
  unfold kernelRun0_A
  dsimp only
  unfold kernelRun0_A.sl.H10_1
  rw [View.canon_unit_zero hz]
  exact scale_congr (live_read x2) (root_read x0 x1 x2 x3 x4 x5 x6 x7) (am_read x7 _ (h_read x0 x1 x3 x4 x5 x6) _)

end Cert.Proof.OProj

end
-- ==== Proof.OProjRefValue.lean ====
module

public import proofs.«01_k».proof.Proof.Gen.OProjRefIdeal.Value
public import proofs.«01_k».proof.Proof.RowNorm

/-!
# The output projection's reference, element by element
-/

@[expose] public section

set_option maxRecDepth 16384

noncomputable section

open Idealize.ShloMosaic Idealize.ShloMosaic.TcCoe Idealize.SL.Sem

namespace Cert.Proof.OProj.Ref

open Cert.OProjRefIdeal Cert.OProjRefIdeal.Gen Cert.Proof.RowNorm
open Cert.Proof.GateUp.Ref (scaleOf scaleOf_ne_zero)

variable (a0 : Vec Ideal S5376x1024 .fp8e4m3) (a1 : Vec Ideal S5376x1 .f32) (a2 : Vec Ideal S5376x1 .i32) (a3 : Vec Ideal S5376x8192 .bf16)
  (a4 : Vec Ideal S1024x8192 .fp8e4m3) (a5 : Vec Ideal S1x8192 .f32) (a6 : Vec Ideal S1x1 .f32) (a7 : Vec Ideal S1x8192 .f32)

theorem g8 : Cert.OProjRefIdeal.Value.G8 (F := Ideal) a0 a1 a2 a3 a4 a5 a6 a7 = k0_pay3 a0 a1 a4 a5 a3 a6 := rfl

theorem hz : (![0, 0] : Fin 2 → Nat) = fun _ => 0 := funext fun a => by fin_cases a <;> rfl

theorem pay6_eq : k0_pay6 (F := Ideal) a0 a1 a2 a3 a4 a5 a6 a7 = k0_pay5 a0 a1 a4 a5 a3 a6 a2 a7 := by
  unfold k0_pay6 r0_0 r0_1 r0_2 r0_3 r0_4 r0_5
  rw [View.ld_unit_zero (S := S5376x1024) hz _ a0, View.ld_unit_zero (S := S5376x1) hz _ a1, View.ld_unit_zero (S := S1024x8192) hz _ a4,
    View.ld_unit_zero (S := S1x8192) hz _ a5, View.ld_unit_zero (S := S5376x8192) hz _ a3, View.ld_unit_zero (S := S1x1) hz _ a6,
    View.ld_unit_zero (S := S5376x1) hz _ a2, View.ld_unit_zero (S := S1x8192) hz _ a7]

theorem g9 : Cert.OProjRefIdeal.Value.G9 (F := Ideal) a0 a1 a2 a3 a4 a5 a6 a7
    = k0_pay2 (k0_pay4 a0 a1 a4 a5 a3 a6 a2 a7) (k0_pay5 a0 a1 a4 a5 a3 a6 a2 a7) := by delta Cert.OProjRefIdeal.Value.G9; rw [pay6_eq]

theorem g10 : Cert.OProjRefIdeal.Value.G10 (F := Ideal) a0 a1 a2 a3 a4 a5 a6 a7 = k0_pay1 (k0_pay5 a0 a1 a4 a5 a3 a6 a2 a7) := by delta Cert.OProjRefIdeal.Value.G10; rw [pay6_eq]

/-- The residual sum: the row of the stream plus the gated, rescaled product. -/
theorem pay3_apply (r : Fin 5376) (n : Fin 8192) :
    k0_pay3 (F := Ideal) a0 a1 a4 a5 a3 a6 (ix2 r n)
      = a3 (ix2 r n) + Ideal.tanh (a6 (ix2 0 0)) * ((∑ k : Fin 1024, a0 (ix2 r k) * a4 (ix2 k n)) * a1 (ix2 r 0) * a5 (ix2 0 n)) := by
  pointwise [k0_pay3]

/-- A normalized array whose rows with a zero mark are zero. -/
def normRows (h : FVec Ideal S5376x8192 .f32) (v16 : Vec Ideal S5376x1 .i32) (v19 : Vec Ideal S1x8192 .f32) : FVec Ideal S5376x8192 .f32 :=
  have v17 : IVec S5376x1 32 := broadcast S5376x1 0#32
  have v18 : IVec S5376x1 1 := cmpi .eq v16 v17
  have v20 : FVec Ideal S5376x8192 .f32 := mulf h h
  have v21 : FVec Ideal S5376 .f32 := multiReduction .add [1] S5376 v20 0x00000000#32 reduces_S5376x8192_S5376 (.inl rfl) rfl
  have v22 : FVec Ideal S5376x1 .f32 := shapeCast S5376x1 v21 shapeCasts_S5376_S5376x1
  have cst_16 : Ideal .f32 := Scalar.ofBits .f32 0x46000000#32
  have v23 : FVec Ideal S5376x1 .f32 := broadcast S5376x1 cst_16
  have v24 : FVec Ideal S5376x1 .f32 := divf v22 v23
  have cst_17 : Ideal .f32 := Scalar.ofBits .f32 0x3727C5AC#32
  have v25 : FVec Ideal S5376x1 .f32 := broadcast S5376x1 cst_17
  have v26 : FVec Ideal S5376x1 .f32 := addf v24 v25
  have v27 : FVec Ideal S5376x1 .f32 := sqrt v26
  have v28 : FVec Ideal S5376x8192 .f32 := broadcastTo S5376x8192 v27 broadcasts_S5376x1_S5376x8192
  have v29 : FVec Ideal S5376x8192 .f32 := divf h v28
  have v30 : FVec Ideal S5376x8192 .f32 := broadcastTo S5376x8192 v19 broadcasts_S1x8192_S5376x8192
  have v31 : FVec Ideal S5376x8192 .f32 := mulf v29 v30
  have cst_18 : Ideal .f32 := Scalar.ofBits .f32 0x00000000#32
  have v32 : IVec S5376x1 1 := shapeCast S5376x1 v18 shapeCasts_S5376x1_S5376x1
  have v33 : IVec S5376x8192 1 := broadcastTo S5376x8192 v32 broadcasts_S5376x1_S5376x8192
  have v34 : FVec Ideal S5376x8192 .f32 := broadcast S5376x8192 cst_18
  select v33 v34 v31

theorem pay4_eq : k0_pay4 (F := Ideal) a0 a1 a4 a5 a3 a6 a2 a7 = normRows (k0_pay3 (F := Ideal) a0 a1 a4 a5 a3 a6) a2 a7 := rfl

theorem select_zero (x : BitVec 32) (a b : EReal) :
    Scalar.select (IntOp.cmpi CmpIPredicate.eq x 0#32) a b = if x = 0#32 then a else b := by
  by_cases h : x = 0#32
  · subst h; rfl
  · have h' : (x == 0#32) = false := beq_eq_false_iff_ne.mpr h
    simp [Scalar.select, IntOp.cmpi, h, h']

theorem normRows_apply (h : FVec Ideal S5376x8192 .f32) (e : Vec Ideal S5376x1 .i32) (g : Vec Ideal S1x8192 .f32) (r : Fin 5376) (n : Fin 8192) :
    normRows h e g (ix2 r n) = if e (ix2 r 0) = 0#32 then 0 else Ideal.div (h (ix2 r n))
      (Ideal.sqrt (Ideal.div (∑ k : Fin 8192, h (ix2 r k) * h (ix2 r k)) (Ideal.ofBits FTy.f32 1174405120#32) + eps)) * g (ix2 0 n) := by
  rw [← select_zero]
  pointwise [normRows]

/-- From the column of the rows' largest absolute values, the column of scales. -/
def scaleCol (v17 : FVec Ideal S5376x1 .f32) : FVec Ideal S5376x1 .f32 :=
  have cst_6 : Ideal .f32 := Scalar.ofBits .f32 0x00000000#32
  have v18 : FVec Ideal S5376x1 .f32 := broadcast S5376x1 cst_6
  have v19 : IVec S5376x1 1 := cmpf .oeq v17 v18
  have cst_7 : Ideal .f32 := Scalar.ofBits .f32 0x43E00000#32
  have v20 : FVec Ideal S5376x1 .f32 := broadcast S5376x1 cst_7
  have v21 : FVec Ideal S5376x1 .f32 := divf v17 v20
  have cst_8 : Ideal .f32 := Scalar.ofBits .f32 0x3F800000#32
  have v22 : FVec Ideal S5376x1 .f32 := broadcast S5376x1 cst_8
  have v23 : FVec Ideal S5376x1 .f32 := select v19 v22 v21
  v23

/-- The largest absolute value of each row. -/
def rowMax (h : FVec Ideal S5376x8192 .f32) : FVec Ideal S5376 .f32 :=
  multiReduction .maximumf [1] S5376 (absf h) 0xFF800000#32 reduces_S5376x8192_S5376 (.inl rfl) rfl

/-- The row scales of a normalized array. -/
def rowScale (h : FVec Ideal S5376x8192 .f32) : FVec Ideal S5376x1 .f32 :=
  scaleCol (shapeCast S5376x1 (rowMax h) shapeCasts_S5376_S5376x1)

/-- The codes of a normalized array with given row scales. -/
def rowCodes (h : FVec Ideal S5376x8192 .f32) (s : FVec Ideal S5376x1 .f32) : FVec Ideal S5376x8192 .fp8e4m3 :=
  have v24 : FVec Ideal S5376x8192 .f32 := broadcastTo S5376x8192 s broadcasts_S5376x1_S5376x8192
  have v25 : FVec Ideal S5376x8192 .f32 := divf h v24
  have cst_9 : Ideal .f32 := Scalar.ofBits .f32 0xC3E00000#32
  have cst_10 : Ideal .f32 := Scalar.ofBits .f32 0x43E00000#32
  have v26 : FVec Ideal S5376x8192 .f32 := broadcast S5376x8192 cst_9
  have v27 : FVec Ideal S5376x8192 .f32 := maximumf v26 v25
  have v28 : FVec Ideal S5376x8192 .f32 := broadcast S5376x8192 cst_10
  have v29 : FVec Ideal S5376x8192 .f32 := minimumf v28 v27
  truncf .fp8e4m3 v29 bitsLt_fp8e4m3_f32

theorem pay1_eq (h : FVec Ideal S5376x8192 .f32) : k0_pay1 (F := Ideal) (absf h) = rowScale h := rfl

theorem pay2_eq (h : FVec Ideal S5376x8192 .f32) : k0_pay2 (F := Ideal) h (absf h) = rowCodes h (rowScale h) := rfl

theorem g9_eq : k0_pay2 (F := Ideal) (k0_pay4 a0 a1 a4 a5 a3 a6 a2 a7) (k0_pay5 a0 a1 a4 a5 a3 a6 a2 a7)
    = rowCodes (normRows (k0_pay3 (F := Ideal) a0 a1 a4 a5 a3 a6) a2 a7) (rowScale (normRows (k0_pay3 (F := Ideal) a0 a1 a4 a5 a3 a6) a2 a7)) := rfl

theorem g10_eq : k0_pay1 (F := Ideal) (k0_pay5 a0 a1 a4 a5 a3 a6 a2 a7)
    = rowScale (normRows (k0_pay3 (F := Ideal) a0 a1 a4 a5 a3 a6) a2 a7) := rfl

theorem scaleCol_apply (v : FVec Ideal S5376x1 .f32) (r : Fin 5376) : scaleCol v (ix2 r 0) = scaleOf (v (ix2 r 0)) := by
  unfold scaleOf
  pointwise [scaleCol]

theorem rowMax_red (v : FVec Ideal S5376x8192 .f32) (j : S5376.Idx) :
    multiReduction .maximumf [1] S5376 v 0xFF800000#32 reduces_S5376x8192_S5376 (.inl rfl) rfl j
      = Finset.univ.fold max (FloatOps.ofBits .f32 0xFF800000#32) fun n : Fin 8192 => v (ix2 (j 0) n) := by
  simp only [pointwise]

theorem column_apply (v : FVec Ideal S5376 .f32) (r : Fin 5376) :
    shapeCast S5376x1 v shapeCasts_S5376_S5376x1 (ix2 r 0) = v (ix1 r) := by
  pointwise []

theorem rowScale_apply (h : FVec Ideal S5376x8192 .f32) (r : Fin 5376) :
    rowScale h (ix2 r 0) = scaleOf (Finset.univ.fold max ⊥ fun n : Fin 8192 => max (h (ix2 r n)) (-(h (ix2 r n)))) := by
  unfold rowScale
  rw [scaleCol_apply, column_apply, ← ofBits_bot]
  exact congrArg scaleOf (rowMax_red (absf h) (ix1 r))

theorem rowCodes_apply (h : FVec Ideal S5376x8192 .f32) (s : FVec Ideal S5376x1 .f32) (r : Fin 5376) (n : Fin 8192) :
    rowCodes h s (ix2 r n) = min (Ideal.ofBits FTy.f32 1138753536#32) (max (Ideal.ofBits FTy.f32 3286237184#32)
      (Ideal.div (h (ix2 r n)) (s (ix2 r 0)))) := by
  pointwise [rowCodes]

end Cert.Proof.OProj.Ref

end
-- ==== Proof.OProjMath.lean ====
module

public import proofs.«01_k».proof.Proof.OProjRun
public import proofs.«01_k».proof.Proof.OProjRefValue

/-!
# A block of the output projection's kernel is a block of the reference

The residual sums are the same expression.  On a live row the kernel scales each product by `1/q`, where the reference divides by the
root `q`, as in the query projection.  On an empty row the reference normalizes to zero; there the kernel's factor is zero, and so are
its codes, and both scales are one.
-/

@[expose] public section

set_option maxRecDepth 16384

noncomputable section

open Idealize.ShloMosaic Idealize.ShloMosaic.TcCoe Idealize.SL.Sem

namespace Cert.Proof.OProj

open Cert.OProjIdeal Cert.OProjIdeal.Gen Cert.Proof.Strips Cert.Proof.RowNorm
open Cert.Proof.GateUp.Ref (scaleOf scaleOf_ne_zero)

/-! ## The kernel's expressions at an index -/

theorem select_nonzero (x : BitVec 32) (a b : EReal) :
    Scalar.select (IntOp.cmpi CmpIPredicate.ne x 0#32) a b = if x = 0#32 then b else a := by
  by_cases h : x = 0#32
  · subst h; rfl
  · have h' : (x != 0#32) = true := bne_iff_ne.mpr h
    simp [Scalar.select, IntOp.cmpi, h, h']

theorem pay180_apply (x0 : Vec Ideal S128x1024 .fp8e4m3) (x4 : Vec Ideal S1024x8192 .fp8e4m3) (x3 : Vec Ideal S128x8192 .bf16)
    (x6 : Vec Ideal S1x1 .f32) (x1 : Vec Ideal S128x1 .f32) (x5 : Vec Ideal S1x8192 .f32) (r : Fin 128) (n : Fin 8192) :
    k0_pay180 (F := Ideal) x0 x4 x3 x6 x1 x5 (ix2 r n)
      = x3 (ix2 r n) + Ideal.tanh (x6 (ix2 0 0)) * ((∑ k : Fin 1024, x0 (ix2 r k) * x4 (ix2 k n)) * x1 (ix2 r 0) * x5 (ix2 0 n)) := by
  pointwise [k0_pay180]

theorem pay184_apply (v : FVec Ideal S128x128 .f32) (r : Fin 128) :
    k0_pay184 (F := Ideal) v (ix2 r 0)
      = Ideal.sqrt ((∑ l : Fin 128, v (ix2 r l)) * Ideal.ofBits FTy.f32 956301312#32 + eps) := by
  pointwise [k0_pay184]

/-- The column of the factors `1/q`, zero on empty rows. -/
theorem rms_apply (L : Vec Ideal S128x1 .i32) (q : FVec Ideal S128x1 .f32) (r : Fin 128) :
    k0_pay1 (F := Ideal) (k0_pay183 (F := Ideal) L) q one (ix2 r 0)
      = if L (ix2 r 0) = 0#32 then 0 else Ideal.div 1 (q (ix2 r 0)) := by
  rw [← select_nonzero]
  pointwise [k0_pay1, k0_pay183, one]

/-- The largest value of each row. -/
def laneMax (w : FVec Ideal S128x128 .f32) : FVec Ideal S128 .f32 :=
  multiReduction .maximumf [1] S128 w 0xFF800000#32 reduces_S128x128_S128 (.inl rfl) rfl

/-- From the columns of the rows' largest products and of the factors, the column of scales. -/
def blockScale (L : Vec Ideal S128x1 .i32) (v35 b : FVec Ideal S128x1 .f32) : FVec Ideal S128x1 .f32 :=
  have v36 : FVec Ideal S128x1 .f32 := mulf v35 b
  have cst_27 : Ideal .f32 := Scalar.ofBits .f32 0x00000000#32
  have v37 : FVec Ideal S128x1 .f32 := broadcast S128x1 cst_27
  have v38 : FVec Ideal S128x1 .f32 := select (k0_pay183 (F := Ideal) L) v36 v37
  have cst_28 : Ideal .f32 := Scalar.ofBits .f32 0x00000000#32
  have v39 : FVec Ideal S128x1 .f32 := broadcast S128x1 cst_28
  have v40 : IVec S128x1 1 := cmpf .oeq v38 v39
  have cst_29 : Ideal .f32 := Scalar.ofBits .f32 0x43E00000#32
  have v41 : FVec Ideal S128x1 .f32 := broadcast S128x1 cst_29
  have v42 : FVec Ideal S128x1 .f32 := divf v38 v41
  have cst_30 : Ideal .f32 := Scalar.ofBits .f32 0x3F800000#32
  have v43 : FVec Ideal S128x1 .f32 := broadcast S128x1 cst_30
  select v40 v43 v42

theorem pay2_eq (L : Vec Ideal S128x1 .i32) (q : FVec Ideal S128x1 .f32) (w : FVec Ideal S128x128 .f32) :
    k0_pay2 (F := Ideal) (k0_pay183 (F := Ideal) L) q one w
      = blockScale L (shapeCast S128x1 (laneMax w) shapeCasts_S128_S128x1) (k0_pay1 (F := Ideal) (k0_pay183 (F := Ideal) L) q one) := rfl

theorem blockScale_apply (L : Vec Ideal S128x1 .i32) (a b : FVec Ideal S128x1 .f32) (r : Fin 128) :
    blockScale L a b (ix2 r 0) = scaleOf (if L (ix2 r 0) = 0#32 then 0 else a (ix2 r 0) * b (ix2 r 0)) := by
  rw [← select_nonzero]
  unfold scaleOf
  pointwise [blockScale, k0_pay183]

theorem laneMax_red (w : FVec Ideal S128x128 .f32) (j : S128.Idx) :
    multiReduction .maximumf [1] S128 w 0xFF800000#32 reduces_S128x128_S128 (.inl rfl) rfl j
      = Finset.univ.fold max (FloatOps.ofBits .f32 0xFF800000#32) fun l : Fin 128 => w (ix2 (j 0) l) := by
  simp only [pointwise]

theorem column_apply (v : FVec Ideal S128 .f32) (r : Fin 128) :
    shapeCast S128x1 v shapeCasts_S128_S128x1 (ix2 r 0) = v (ix1 r) := by
  pointwise []

theorem pay2_apply (L : Vec Ideal S128x1 .i32) (q : FVec Ideal S128x1 .f32) (w : FVec Ideal S128x128 .f32) (r : Fin 128) :
    k0_pay2 (F := Ideal) (k0_pay183 (F := Ideal) L) q one w (ix2 r 0)
      = scaleOf (if L (ix2 r 0) = 0#32 then 0 else (Finset.univ.fold max ⊥ fun l : Fin 128 => w (ix2 r l))
          * k0_pay1 (F := Ideal) (k0_pay183 (F := Ideal) L) q one (ix2 r 0)) := by
  rw [pay2_eq, blockScale_apply, column_apply, ← ofBits_bot]
  exact congrArg (fun z => scaleOf (if L (ix2 r 0) = 0#32 then 0 else z * k0_pay1 (F := Ideal) (k0_pay183 (F := Ideal) L) q one (ix2 r 0)))
    (laneMax_red w (ix1 r))

/-- A column over another, broadcast along the lanes. -/
def spread (a b : FVec Ideal S128x1 .f32) : FVec Ideal S128x128 .f32 :=
  have v46 : FVec Ideal S128x1 .f32 := divf a b
  have v47 : FVec Ideal S128x1 .f32 := shapeCast S128x1 v46 shapeCasts_S128x1_S128x1
  have v48 : FVec Ideal S128x128 .f32 := broadcastTo S128x128 v47 broadcasts_S128x1_S128x128
  shapeCast S128x128 v48 shapeCasts_S128x128_S128x128

theorem pay3_eq (l : IVec S128x1 1) (q : FVec Ideal S128x1 .f32) (w : FVec Ideal S128x128 .f32) :
    k0_pay3 (F := Ideal) l q one w = spread (k0_pay1 (F := Ideal) l q one) (k0_pay2 (F := Ideal) l q one w) := rfl

theorem spread_apply (a b : FVec Ideal S128x1 .f32) (r : Fin 128) (l : Fin 128) :
    spread a b (ix2 r l) = Ideal.div (a (ix2 r 0)) (b (ix2 r 0)) := by
  pointwise [spread]

/-! ## Rows of a block -/

variable (L : Vec Ideal S128x1 .i32) (A : S128x8192.Idx → Elt Ideal .f32) (B : S1x8192.Idx → Elt Ideal .f32)

/-- The root of a row's mean square. -/
def root (r : Fin 128) : EReal :=
  Ideal.sqrt (Ideal.div (∑ k : Fin 8192, (A (ix2 r k) : EReal) * A (ix2 r k)) (Ideal.ofBits FTy.f32 1174405120#32) + eps)

/-- A normalized element, zero on an empty row. -/
def normAt (r : Fin 128) (n : Fin 8192) : EReal :=
  if L (ix2 r 0) = 0#32 then 0 else Ideal.div (A (ix2 r n)) (root A r) * B (ix2 0 n)

theorem pos_8192 : (0 : EReal) < Ideal.ofBits FTy.f32 1174405120#32 := by
  rw [ofBits_8192]; exact EReal.coe_pos.mpr (by norm_num)

theorem root_pos (r : Fin 128) : 0 < root A r :=
  sqrt_pos (div_nonneg (Finset.sum_nonneg fun _ _ => sq_nonneg _) pos_8192)

theorem at2_row (r : Fin 128) (n : Fin 8192) : at2 A r.val n.val = A (ix2 r n) := at2_eq A r.isLt n.isLt

theorem at2_wt (n : Fin 8192) : at2 B 0 n.val = B (ix2 0 n) := at2_eq B (by norm_num) n.isLt

theorem ss_sum (r : Fin 128) : ∑ l : Fin 128, ssArr A (ix2 r l) = ∑ n : Fin 8192, (A (ix2 r n) : EReal) * A (ix2 r n) := by
  refine (sum_lanes fun n => at2 A r.val n * at2 A r.val n).trans ?_
  exact Finset.sum_congr rfl fun n _ => congrArg₂ (fun a b : EReal => a * b) (at2_row A r n) (at2_row A r n)

theorem am_max (r : Fin 128) : (Finset.univ.fold max ⊥ fun l : Fin 128 => amArr A B (ix2 r l))
    = Finset.univ.fold max ⊥ fun n : Fin 8192 => max ((A (ix2 r n) : EReal) * B (ix2 0 n)) (-((A (ix2 r n) : EReal) * B (ix2 0 n))) := by
  refine (max_lanes (fun n => max (at2 A r.val n * at2 B 0 n) (-(at2 A r.val n * at2 B 0 n))) fun n => abs_nonneg _).trans ?_
  exact congrArg (fun f => Finset.univ.fold max ⊥ f) (funext fun n : Fin 8192 =>
    congrArg (fun z : EReal => max z (-z)) (congrArg₂ (fun a b : EReal => a * b) (at2_row A r n) (at2_wt B n)))

theorem root_eq (r : Fin 128) : k0_pay184 (F := Ideal) (ssArr A) (ix2 r 0) = root A r := by
  rw [pay184_apply, ss_sum, mean_eq]; rfl

theorem rms_eq (r : Fin 128) : k0_pay1 (F := Ideal) (k0_pay183 (F := Ideal) L) (k0_pay184 (F := Ideal) (ssArr A)) one (ix2 r 0)
    = if L (ix2 r 0) = 0#32 then 0 else Ideal.div 1 (root A r) := by
  rw [rms_apply, root_eq]

/-- The maximum of the absolute values of a row of zeros is zero. -/
theorem fold_zero : (Finset.univ.fold max (⊥ : EReal) fun _ : Fin 8192 => max (0 : EReal) (-0)) = 0 := by
  apply le_antisymm
  · rw [Finset.fold_max_le]
    exact ⟨bot_le, fun _ _ => by simp⟩
  · rw [Finset.le_fold_max]
    exact Or.inr ⟨0, Finset.mem_univ _, le_max_left _ _⟩

theorem scale_eq (r : Fin 128) : scaleArr L A B (ix2 r 0)
    = scaleOf (Finset.univ.fold max ⊥ fun n : Fin 8192 => max (normAt L A B r n) (-(normAt L A B r n))) := by
  unfold scaleArr
  rw [pay2_apply, am_max, rms_eq]
  unfold normAt
  by_cases h : L (ix2 r 0) = 0#32
  · simp only [if_pos h]
    exact congrArg scaleOf fold_zero.symm
  · simp only [if_neg h]
    exact congrArg scaleOf (amax_eq (fun n : Fin 8192 => A (ix2 r n)) (fun n => B (ix2 0 n)) (root_pos A r)).symm

theorem scale_ne (r : Fin 128) : scaleArr L A B (ix2 r 0) ≠ 0 := by
  rw [scale_eq]; exact scaleOf_ne_zero _

theorem fac_eq (r : Fin 128) (l : Fin 128) : facArr L A B (ix2 r l)
    = Ideal.div (if L (ix2 r 0) = 0#32 then 0 else Ideal.div 1 (root A r)) (scaleArr L A B (ix2 r 0)) := by
  unfold facArr
  rw [pay3_eq, spread_apply, rms_eq]; rfl

/-- Zero over a nonzero scale. -/
theorem zero_div {s : EReal} (hs : s ≠ 0) : Ideal.div 0 s = 0 := by
  rw [Ideal.div, if_neg hs, zero_mul]

theorem code_block (r : Fin 128) (n : Fin 8192) : codeArr L A B (ix2 r n)
    = min (Ideal.ofBits FTy.f32 1138753536#32) (max (Ideal.ofBits FTy.f32 3286237184#32)
        (Ideal.div (normAt L A B r n) (scaleArr L A B (ix2 r 0)))) := by
  have key : Ideal.div (normAt L A B r n) (scaleArr L A B (ix2 r 0))
      = A (ix2 r n) * B (ix2 0 n) * facArr L A B (ix2 r ⟨n.val % 128, Nat.mod_lt _ (by norm_num)⟩) := by
    rw [fac_eq]
    unfold normAt
    by_cases h : L (ix2 r 0) = 0#32
    · rw [if_pos h, if_pos h, zero_div (scale_ne L A B r), mul_zero]
    · rw [if_neg h, if_neg h, code_eq (root_pos A r) (scale_ne L A B r)]
  rw [key]
  show codeAt A B (facArr L A B) r.val n.val = _
  unfold codeAt codeOf
  rw [at2_row, at2_wt, at2_eq (facArr L A B) r.isLt (Nat.mod_lt n.val (by norm_num))]

/-! ## Against the reference -/

variable (H : FVec Ideal Cert.OProjRefIdeal.S5376x8192 .f32) (e : Vec Ideal Cert.OProjRefIdeal.S5376x1 .i32) (ρ : Fin 128 → Fin 5376)

theorem norm_ref (hA : ∀ r n, A (ix2 r n) = H (ix2 (ρ r) n)) (hL : ∀ r, L (ix2 r 0) = e (ix2 (ρ r) 0)) (r : Fin 128) (n : Fin 8192) :
    Ref.normRows H e B (ix2 (ρ r) n) = normAt L A B r n := by
  rw [Ref.normRows_apply]
  unfold normAt root
  simp only [hA, hL]

theorem scale_ref (hA : ∀ r n, A (ix2 r n) = H (ix2 (ρ r) n)) (hL : ∀ r, L (ix2 r 0) = e (ix2 (ρ r) 0)) (r : Fin 128) :
    scaleArr L A B (ix2 r 0) = Ref.rowScale (Ref.normRows H e B) (ix2 (ρ r) 0) := by
  rw [scale_eq, Ref.rowScale_apply]
  simp only [norm_ref L A B H e ρ hA hL]

theorem codes_ref (hA : ∀ r n, A (ix2 r n) = H (ix2 (ρ r) n)) (hL : ∀ r, L (ix2 r 0) = e (ix2 (ρ r) 0)) (r : Fin 128) (n : Fin 8192) :
    codeArr L A B (ix2 r n) = Ref.rowCodes (Ref.normRows H e B) (Ref.rowScale (Ref.normRows H e B)) (ix2 (ρ r) n) := by
  rw [code_block, Ref.rowCodes_apply, norm_ref L A B H e ρ hA hL, scale_ref L A B H e ρ hA hL]

theorem h_ref (x0 : Vec Ideal S128x1024 .fp8e4m3) (x1 : Vec Ideal S128x1 .f32) (x3 : Vec Ideal S128x8192 .bf16) (x4 : Vec Ideal S1024x8192 .fp8e4m3)
    (x5 : Vec Ideal S1x8192 .f32) (x6 : Vec Ideal S1x1 .f32)
    (a0 : Vec Ideal Cert.OProjRefIdeal.S5376x1024 .fp8e4m3) (a1 : Vec Ideal Cert.OProjRefIdeal.S5376x1 .f32) (a3 : Vec Ideal Cert.OProjRefIdeal.S5376x8192 .bf16)
    (h0 : ∀ r k, x0 (ix2 r k) = a0 (ix2 (ρ r) k)) (h1 : ∀ r, x1 (ix2 r 0) = a1 (ix2 (ρ r) 0)) (h3 : ∀ r n, x3 (ix2 r n) = a3 (ix2 (ρ r) n))
    (r : Fin 128) (n : Fin 8192) :
    hArr x0 x1 x3 x4 x5 x6 (ix2 r n) = Cert.OProjRefIdeal.Gen.k0_pay3 (F := Ideal) a0 a1 x4 x5 a3 x6 (ix2 (ρ r) n) := by
  rw [Ref.pay3_apply]
  unfold hArr
  rw [pay180_apply]
  simp only [h0, h1, h3]

end Cert.Proof.OProj

end
-- ==== Proof.OProjValue.lean ====
module

public import proofs.«01_k».proof.Proof.OProjMath

/-!
# The output projection: the kernel's results are the reference's

The kernel walks 42 blocks of 128 rows; each leaves its rows' residual sums, codes and scales.
-/

@[expose] public section

set_option maxRecDepth 16384

noncomputable section

open Idealize.ShloMosaic Idealize.ShloMosaic.TcCoe Idealize.SL.Sem
open Idealize.ShloMosaic.Pipeline (Dat)

namespace Cert.Proof.OProj

open Cert.OProjIdeal Cert.OProjIdeal.Gen

/-- The block indices of the windows at each of the 42 points: rows by `t`, everything else whole. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row `r` of the block of point `t`, as a row of the whole array. -/
def row (t : Fin cfg0.N) (r : Fin 128) : Fin 5376 :=
  ⟨t.val * 128 + r.val, by have h := lt_of_lt_of_eq t.isLt N_0; have := r.isLt; omega⟩

variable (m : (ℓ : Loc nD τ sig) → Buf (Elt Ideal) ℓ) (ρ : Dev nD → PrngReg)

theorem iblk0_apply (c : Dev nD) (t : Fin cfg0.N) (r : Fin 128) (k : Fin 1024) :
    iblk m c 0 t (ix2 r k) = V m c main_arg0 (ix2 (row t r) k) := by
  obtain ⟨h0, h1, -⟩ := idx t
  show V m c main_arg0 (((cfg0.win 0).blk t).view.emb (ix2 r k)) = _
  congr 1; funext a; apply Fin.ext
  match a with
  | ⟨0, _⟩ => show win0_0.index t (0 : Fin 2) * 128 + 1 * r.val = t.val * 128 + r.val; rw [h0]; omega
  | ⟨1, _⟩ => show win0_0.index t (1 : Fin 2) * 1024 + 1 * k.val = k.val; rw [h1]; omega

theorem iblk1_apply (c : Dev nD) (t : Fin cfg0.N) (r : Fin 128) (k : Fin 1) :
    iblk m c 1 t (ix2 r k) = V m c main_arg1 (ix2 (row t r) k) := by
  obtain ⟨-, -, h0, h1, -⟩ := idx t
  show V m c main_arg1 (((cfg0.win 1).blk t).view.emb (ix2 r k)) = _
  congr 1; funext a; apply Fin.ext
  match a with
  | ⟨0, _⟩ => show win0_1.index t (0 : Fin 2) * 128 + 1 * r.val = t.val * 128 + r.val; rw [h0]; omega
  | ⟨1, _⟩ => show win0_1.index t (1 : Fin 2) * 1 + 1 * k.val = k.val; rw [h1]; omega

theorem iblk2_apply (c : Dev nD) (t : Fin cfg0.N) (r : Fin 128) (k : Fin 1) :
    iblk m c 2 t (ix2 r k) = V m c main_arg2 (ix2 (row t r) k) := by
  obtain ⟨-, -, -, -, h0, h1, -⟩ := idx t
  show V m c main_arg2 (((cfg0.win 2).blk t).view.emb (ix2 r k)) = _
  congr 1; funext a; apply Fin.ext
  match a with
  | ⟨0, _⟩ => show win0_2.index t (0 : Fin 2) * 128 + 1 * r.val = t.val * 128 + r.val; rw [h0]; omega
  | ⟨1, _⟩ => show win0_2.index t (1 : Fin 2) * 1 + 1 * k.val = k.val; rw [h1]; omega

theorem iblk3_apply (c : Dev nD) (t : Fin cfg0.N) (r : Fin 128) (k : Fin 8192) :
    iblk m c 3 t (ix2 r k) = V m c main_arg3 (ix2 (row t r) k) := by
  obtain ⟨-, -, -, -, -, -, h0, h1, -⟩ := idx t
  show V m c main_arg3 (((cfg0.win 3).blk t).view.emb (ix2 r k)) = _
  congr 1; funext a; apply Fin.ext
  match a with
  | ⟨0, _⟩ => show win0_3.index t (0 : Fin 2) * 128 + 1 * r.val = t.val * 128 + r.val; rw [h0]; omega
  | ⟨1, _⟩ => show win0_3.index t (1 : Fin 2) * 8192 + 1 * k.val = k.val; rw [h1]; omega

theorem iblk4_eq (c : Dev nD) (t : Fin cfg0.N) : iblk m c 4 t = V m c main_arg4 := by
  obtain ⟨-, -, -, -, -, -, -, -, h0, h1, -⟩ := idx t
  funext x
  show V m c main_arg4 (((cfg0.win 4).blk t).view.emb x) = _
  congr 1; funext a; apply Fin.ext
  match a with
  | ⟨0, _⟩ => show win0_4.index t (0 : Fin 2) * 1024 + 1 * (x 0).val = (x 0).val; rw [h0]; omega
  | ⟨1, _⟩ => show win0_4.index t (1 : Fin 2) * 8192 + 1 * (x 1).val = (x 1).val; rw [h1]; omega

theorem iblk5_eq (c : Dev nD) (t : Fin cfg0.N) : iblk m c 5 t = V m c main_arg5 := by
  obtain ⟨-, -, -, -, -, -, -, -, -, -, h0, h1, -⟩ := idx t
  funext x
  show V m c main_arg5 (((cfg0.win 5).blk t).view.emb x) = _
  congr 1; funext a; apply Fin.ext
  match a with
  | ⟨0, _⟩ => show win0_5.index t (0 : Fin 2) * 1 + 1 * (x 0).val = (x 0).val; rw [h0]; omega
  | ⟨1, _⟩ => show win0_5.index t (1 : Fin 2) * 8192 + 1 * (x 1).val = (x 1).val; rw [h1]; omega

theorem iblk6_eq (c : Dev nD) (t : Fin cfg0.N) : iblk m c 6 t = V m c main_arg6 := by
  obtain ⟨-, -, -, -, -, -, -, -, -, -, -, -, h0, h1, -⟩ := idx t
  funext x
  show V m c main_arg6 (((cfg0.win 6).blk t).view.emb x) = _
  congr 1; funext a; apply Fin.ext
  match a with
  | ⟨0, _⟩ => show win0_6.index t (0 : Fin 2) * 1 + 1 * (x 0).val = (x 0).val; rw [h0]; omega
  | ⟨1, _⟩ => show win0_6.index t (1 : Fin 2) * 1 + 1 * (x 1).val = (x 1).val; rw [h1]; omega

theorem iblk7_eq (c : Dev nD) (t : Fin cfg0.N) : iblk m c 7 t = V m c main_arg7 := by
  obtain ⟨-, -, -, -, -, -, -, -, -, -, -, -, -, -, h0, h1, -⟩ := idx t
  funext x
  show V m c main_arg7 (((cfg0.win 7).blk t).view.emb x) = _
  congr 1; funext a; apply Fin.ext
  match a with
  | ⟨0, _⟩ => show win0_7.index t (0 : Fin 2) * 1 + 1 * (x 0).val = (x 0).val; rw [h0]; omega
  | ⟨1, _⟩ => show win0_7.index t (1 : Fin 2) * 8192 + 1 * (x 1).val = (x 1).val; rw [h1]; omega

theorem emb8 (t : Fin cfg0.N) (r : Fin 128) (n : Fin 8192) : ((cfg0.win 8).blk t).view.emb (ix2 r n) = ix2 (row t r) n := by
  obtain ⟨-, -, -, -, -, -, -, -, -, -, -, -, -, -, -, -, h0, h1, -⟩ := idx t
  funext a; apply Fin.ext
  match a with
  | ⟨0, _⟩ => show win0_8.index t (0 : Fin 2) * 128 + 1 * r.val = t.val * 128 + r.val; rw [h0]; omega
  | ⟨1, _⟩ => show win0_8.index t (1 : Fin 2) * 8192 + 1 * n.val = n.val; rw [h1]; omega

theorem emb9 (t : Fin cfg0.N) (r : Fin 128) (n : Fin 8192) : ((cfg0.win 9).blk t).view.emb (ix2 r n) = ix2 (row t r) n := by
  obtain ⟨-, -, -, -, -, -, -, -, -, -, -, -, -, -, -, -, -, -, h0, h1, -⟩ := idx t
  funext a; apply Fin.ext
  match a with
  | ⟨0, _⟩ => show win0_9.index t (0 : Fin 2) * 128 + 1 * r.val = t.val * 128 + r.val; rw [h0]; omega
  | ⟨1, _⟩ => show win0_9.index t (1 : Fin 2) * 8192 + 1 * n.val = n.val; rw [h1]; omega

theorem emb10 (t : Fin cfg0.N) (r : Fin 128) (n : Fin 1) : ((cfg0.win 10).blk t).view.emb (ix2 r n) = ix2 (row t r) n := by
  obtain ⟨-, -, -, -, -, -, -, -, -, -, -, -, -, -, -, -, -, -, -, -, h0, h1⟩ := idx t
  funext a; apply Fin.ext
  match a with
  | ⟨0, _⟩ => show win0_10.index t (0 : Fin 2) * 128 + 1 * r.val = t.val * 128 + r.val; rw [h0]; omega
  | ⟨1, _⟩ => show win0_10.index t (1 : Fin 2) * 1 + 1 * n.val = n.val; rw [h1]; omega

/-- The reference's residual sums as a function of the arguments. -/
def G8 (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) : Vec Ideal S5376x8192 .f32 :=
  Cert.OProjRefIdeal.Gen.k0_pay3 (F := Ideal) a0 a1 a4 a5 a3 a6

theorem G8_eq (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) :
    G8 a0 a1 a2 a3 a4 a5 a6 a7 = Cert.OProjRefIdeal.Gen.k0_pay3 (F := Ideal) a0 a1 a4 a5 a3 a6 := rfl

theorem G8_congr {a0 b0 : Vec Ideal S5376x1024 .fp8e4m3} {a1 b1 : Vec Ideal S5376x1 .f32} {a2 b2 : Vec Ideal S5376x1 .i32} {a3 b3 : Vec Ideal S5376x8192 .bf16} {a4 b4 : Vec Ideal S1024x8192 .fp8e4m3} {a5 b5 : Vec Ideal S1x8192 .f32} {a6 b6 : Vec Ideal S1x1 .f32} {a7 b7 : Vec Ideal S1x8192 .f32}
    (e0 : a0 = b0) (e1 : a1 = b1) (e2 : a2 = b2) (e3 : a3 = b3) (e4 : a4 = b4) (e5 : a5 = b5) (e6 : a6 = b6) (e7 : a7 = b7) : G8 a0 a1 a2 a3 a4 a5 a6 a7 = G8 b0 b1 b2 b3 b4 b5 b6 b7 := by
  subst e0 e1 e2 e3 e4 e5 e6 e7; rfl

/-- The reference's codes as a function of the arguments. -/
def G9 (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) : Vec Ideal S5376x8192 .fp8e4m3 :=
  Ref.rowCodes (Ref.normRows (Cert.OProjRefIdeal.Gen.k0_pay3 (F := Ideal) a0 a1 a4 a5 a3 a6) a2 a7) (Ref.rowScale (Ref.normRows (Cert.OProjRefIdeal.Gen.k0_pay3 (F := Ideal) a0 a1 a4 a5 a3 a6) a2 a7))

theorem G9_eq (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) :
    G9 a0 a1 a2 a3 a4 a5 a6 a7 = Ref.rowCodes (Ref.normRows (Cert.OProjRefIdeal.Gen.k0_pay3 (F := Ideal) a0 a1 a4 a5 a3 a6) a2 a7) (Ref.rowScale (Ref.normRows (Cert.OProjRefIdeal.Gen.k0_pay3 (F := Ideal) a0 a1 a4 a5 a3 a6) a2 a7)) := rfl

theorem G9_congr {a0 b0 : Vec Ideal S5376x1024 .fp8e4m3} {a1 b1 : Vec Ideal S5376x1 .f32} {a2 b2 : Vec Ideal S5376x1 .i32} {a3 b3 : Vec Ideal S5376x8192 .bf16} {a4 b4 : Vec Ideal S1024x8192 .fp8e4m3} {a5 b5 : Vec Ideal S1x8192 .f32} {a6 b6 : Vec Ideal S1x1 .f32} {a7 b7 : Vec Ideal S1x8192 .f32}
    (e0 : a0 = b0) (e1 : a1 = b1) (e2 : a2 = b2) (e3 : a3 = b3) (e4 : a4 = b4) (e5 : a5 = b5) (e6 : a6 = b6) (e7 : a7 = b7) : G9 a0 a1 a2 a3 a4 a5 a6 a7 = G9 b0 b1 b2 b3 b4 b5 b6 b7 := by
  subst e0 e1 e2 e3 e4 e5 e6 e7; rfl

/-- The reference's scales as a function of the arguments. -/
def G10 (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) : Vec Ideal S5376x1 .f32 :=
  Ref.rowScale (Ref.normRows (Cert.OProjRefIdeal.Gen.k0_pay3 (F := Ideal) a0 a1 a4 a5 a3 a6) a2 a7)

theorem G10_eq (a0 : Vec Ideal S5376x1024 .fp8e4m3) (a1 : Vec Ideal S5376x1 .f32) (a2 : Vec Ideal S5376x1 .i32) (a3 : Vec Ideal S5376x8192 .bf16) (a4 : Vec Ideal S1024x8192 .fp8e4m3) (a5 : Vec Ideal S1x8192 .f32) (a6 : Vec Ideal S1x1 .f32) (a7 : Vec Ideal S1x8192 .f32) :
    G10 a0 a1 a2 a3 a4 a5 a6 a7 = Ref.rowScale (Ref.normRows (Cert.OProjRefIdeal.Gen.k0_pay3 (F := Ideal) a0 a1 a4 a5 a3 a6) a2 a7) := rfl

theorem G10_congr {a0 b0 : Vec Ideal S5376x1024 .fp8e4m3} {a1 b1 : Vec Ideal S5376x1 .f32} {a2 b2 : Vec Ideal S5376x1 .i32} {a3 b3 : Vec Ideal S5376x8192 .bf16} {a4 b4 : Vec Ideal S1024x8192 .fp8e4m3} {a5 b5 : Vec Ideal S1x8192 .f32} {a6 b6 : Vec Ideal S1x1 .f32} {a7 b7 : Vec Ideal S1x8192 .f32}
    (e0 : a0 = b0) (e1 : a1 = b1) (e2 : a2 = b2) (e3 : a3 = b3) (e4 : a4 = b4) (e5 : a5 = b5) (e6 : a6 = b6) (e7 : a7 = b7) : G10 a0 a1 a2 a3 a4 a5 a6 a7 = G10 b0 b1 b2 b3 b4 b5 b6 b7 := by
  subst e0 e1 e2 e3 e4 e5 e6 e7; rfl

/-- The residual sums of a block are the reference's. -/
theorem hblk (c : Dev nD) (t : Fin cfg0.N) (r : Fin 128) (n : Fin 8192) :
    hArr (iblk m c 0 t) (iblk m c 1 t) (iblk m c 3 t) (V m c main_arg4) (V m c main_arg5) (V m c main_arg6) (ix2 r n)
      = Cert.OProjRefIdeal.Gen.k0_pay3 (F := Ideal) (V m c main_arg0) (V m c main_arg1) (V m c main_arg4) (V m c main_arg5) (V m c main_arg3) (V m c main_arg6)
          (ix2 (row t r) n) :=
  h_ref (row t) _ _ _ _ _ _ _ _ _ (iblk0_apply m c t) (fun r => iblk1_apply m c t r 0) (iblk3_apply m c t) r n

/-- A block that agrees with its rows of an array is what a read of the block's place in the array gives. -/
theorem block8 (t : Fin cfg0.N) (Y : Vec Ideal S128x8192 .f32) (X : Vec Ideal S5376x8192 .f32)
    (h : ∀ (r : Fin 128) (n : Fin 8192), Y (ix2 r n) = X (ix2 (row t r) n)) :
    (cfg0.win 8).cut (grid0.coords t) Y = ((cfg0.win 8).blk t).view.read (Elt Ideal) X := by
  funext j
  obtain ⟨r, n, rfl⟩ : ∃ (r : Fin 128) (n : Fin 8192), j = ix2 r n :=
    ⟨j 0, j 1, by funext a; match a with | ⟨0, _⟩ => rfl | ⟨1, _⟩ => rfl⟩
  show Y (ix2 r n) = X (((cfg0.win 8).blk t).view.emb (ix2 r n))
  rw [emb8, h]

theorem flushed8_eq (c : Dev nD) (t : Fin cfg0.N) :
    (dats m 0 c).flushed 8 t = ((cfg0.win 8).blk t).view.read (Elt Ideal) (G8 (V m c main_arg0) (V m c main_arg1) (V m c main_arg2) (V m c main_arg3) (V m c main_arg4) (V m c main_arg5) (V m c main_arg6) (V m c main_arg7)) := by
  rw [Cert.OProjIdeal.Value.flushed8_A]
  unfold out0_A_8
  rw [View.read_writes_junk_eq_canon, run8, iblk4_eq, iblk5_eq, iblk6_eq]
  exact block8 t _ _ fun r n => (hblk m c t r n).trans (congrFun (G8_eq (V m c main_arg0) (V m c main_arg1) (V m c main_arg2) (V m c main_arg3) (V m c main_arg4) (V m c main_arg5) (V m c main_arg6) (V m c main_arg7)).symm _)

theorem cover8 (i : S5376x8192.Idx) : ∃ t : Fin cfg0.N, (cfg0.win 8).flush t = true ∧ i ∈ ((cfg0.win 8).blk t).view.set := by
  have h0 : (i 0).val < 5376 := (i 0).isLt
  have ht : (i 0).val / 128 < cfg0.N := lt_of_lt_of_eq (by omega) N_0.symm
  refine ⟨⟨_, ht⟩, flush0_8 _, ?_⟩
  have hi : i = ((cfg0.win 8).blk ⟨_, ht⟩).view.emb (ix2 (⟨(i 0).val % 128, by omega⟩ : Fin 128) (⟨(i 1).val, (i 1).isLt⟩ : Fin 8192)) := by
    rw [emb8]
    funext a; apply Fin.ext
    match a with
    | ⟨0, _⟩ => show (i 0).val = (i 0).val / 128 * 128 + (i 0).val % 128; omega
    | ⟨1, _⟩ => rfl
  exact (congrArg (· ∈ ((cfg0.win 8).blk ⟨_, ht⟩).view.set) hi).mpr (((cfg0.win 8).blk ⟨_, ht⟩).view.emb_mem_set _)

theorem final8 (c : Dev nD) : (dats m 0 c).arrAt 8 cfg0.N
    = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 8 (G8 (V m c main_arg0) (V m c main_arg1) (V m c main_arg2) (V m c main_arg3) (V m c main_arg4) (V m c main_arg5) (V m c main_arg6) (V m c main_arg7))
    (fun t _ => flushed8_eq m c t) cover8).trans
    (by rw [V_main_arg0, V_main_arg1, V_main_arg2, V_main_arg3, V_main_arg4, V_main_arg5, V_main_arg6, V_main_arg7])

/-- A block that agrees with its rows of an array is what a read of the block's place in the array gives. -/
theorem block9 (t : Fin cfg0.N) (Y : Vec Ideal S128x8192 .fp8e4m3) (X : Vec Ideal S5376x8192 .fp8e4m3)
    (h : ∀ (r : Fin 128) (n : Fin 8192), Y (ix2 r n) = X (ix2 (row t r) n)) :
    (cfg0.win 9).cut (grid0.coords t) Y = ((cfg0.win 9).blk t).view.read (Elt Ideal) X := by
  funext j
  obtain ⟨r, n, rfl⟩ : ∃ (r : Fin 128) (n : Fin 8192), j = ix2 r n :=
    ⟨j 0, j 1, by funext a; match a with | ⟨0, _⟩ => rfl | ⟨1, _⟩ => rfl⟩
  show Y (ix2 r n) = X (((cfg0.win 9).blk t).view.emb (ix2 r n))
  rw [emb9, h]

theorem flushed9_eq (c : Dev nD) (t : Fin cfg0.N) :
    (dats m 0 c).flushed 9 t = ((cfg0.win 9).blk t).view.read (Elt Ideal) (G9 (V m c main_arg0) (V m c main_arg1) (V m c main_arg2) (V m c main_arg3) (V m c main_arg4) (V m c main_arg5) (V m c main_arg6) (V m c main_arg7)) := by
  rw [Cert.OProjIdeal.Value.flushed9_A]
  unfold out0_A_9
  rw [View.read_writes_junk_eq_canon, run9, iblk4_eq, iblk5_eq, iblk6_eq, iblk7_eq]
  exact block9 t _ _ fun r n => (codes_ref _ _ _ _ _ (row t) (hblk m c t) (fun r => iblk2_apply m c t r 0) r n).trans (congrFun (G9_eq (V m c main_arg0) (V m c main_arg1) (V m c main_arg2) (V m c main_arg3) (V m c main_arg4) (V m c main_arg5) (V m c main_arg6) (V m c main_arg7)).symm _)

theorem cover9 (i : S5376x8192.Idx) : ∃ t : Fin cfg0.N, (cfg0.win 9).flush t = true ∧ i ∈ ((cfg0.win 9).blk t).view.set := by
  have h0 : (i 0).val < 5376 := (i 0).isLt
  have ht : (i 0).val / 128 < cfg0.N := lt_of_lt_of_eq (by omega) N_0.symm
  refine ⟨⟨_, ht⟩, flush0_9 _, ?_⟩
  have hi : i = ((cfg0.win 9).blk ⟨_, ht⟩).view.emb (ix2 (⟨(i 0).val % 128, by omega⟩ : Fin 128) (⟨(i 1).val, (i 1).isLt⟩ : Fin 8192)) := by
    rw [emb9]
    funext a; apply Fin.ext
    match a with
    | ⟨0, _⟩ => show (i 0).val = (i 0).val / 128 * 128 + (i 0).val % 128; omega
    | ⟨1, _⟩ => rfl
  exact (congrArg (· ∈ ((cfg0.win 9).blk ⟨_, ht⟩).view.set) hi).mpr (((cfg0.win 9).blk ⟨_, ht⟩).view.emb_mem_set _)

theorem final9 (c : Dev nD) : (dats m 0 c).arrAt 9 cfg0.N
    = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 9 (G9 (V m c main_arg0) (V m c main_arg1) (V m c main_arg2) (V m c main_arg3) (V m c main_arg4) (V m c main_arg5) (V m c main_arg6) (V m c main_arg7))
    (fun t _ => flushed9_eq m c t) cover9).trans
    (by rw [V_main_arg0, V_main_arg1, V_main_arg2, V_main_arg3, V_main_arg4, V_main_arg5, V_main_arg6, V_main_arg7])

/-- A block that agrees with its rows of an array is what a read of the block's place in the array gives. -/
theorem block10 (t : Fin cfg0.N) (Y : Vec Ideal S128x1 .f32) (X : Vec Ideal S5376x1 .f32)
    (h : ∀ (r : Fin 128) (n : Fin 1), Y (ix2 r n) = X (ix2 (row t r) n)) :
    (cfg0.win 10).cut (grid0.coords t) Y = ((cfg0.win 10).blk t).view.read (Elt Ideal) X := by
  funext j
  obtain ⟨r, n, rfl⟩ : ∃ (r : Fin 128) (n : Fin 1), j = ix2 r n :=
    ⟨j 0, j 1, by funext a; match a with | ⟨0, _⟩ => rfl | ⟨1, _⟩ => rfl⟩
  show Y (ix2 r n) = X (((cfg0.win 10).blk t).view.emb (ix2 r n))
  rw [emb10, h]

theorem flushed10_eq (c : Dev nD) (t : Fin cfg0.N) :
    (dats m 0 c).flushed 10 t = ((cfg0.win 10).blk t).view.read (Elt Ideal) (G10 (V m c main_arg0) (V m c main_arg1) (V m c main_arg2) (V m c main_arg3) (V m c main_arg4) (V m c main_arg5) (V m c main_arg6) (V m c main_arg7)) := by
  rw [Cert.OProjIdeal.Value.flushed10_A]
  unfold out0_A_10
  rw [View.read_writes_junk_eq_canon, run10, iblk4_eq, iblk5_eq, iblk6_eq, iblk7_eq]
  exact block10 t _ _ fun r n => by
    obtain rfl : n = 0 := Subsingleton.elim _ _
    exact (scale_ref _ _ _ _ _ (row t) (hblk m c t) (fun r => iblk2_apply m c t r 0) r).trans (congrFun (G10_eq (V m c main_arg0) (V m c main_arg1) (V m c main_arg2) (V m c main_arg3) (V m c main_arg4) (V m c main_arg5) (V m c main_arg6) (V m c main_arg7)).symm _)

theorem cover10 (i : S5376x1.Idx) : ∃ t : Fin cfg0.N, (cfg0.win 10).flush t = true ∧ i ∈ ((cfg0.win 10).blk t).view.set := by
  have h0 : (i 0).val < 5376 := (i 0).isLt
  have ht : (i 0).val / 128 < cfg0.N := lt_of_lt_of_eq (by omega) N_0.symm
  refine ⟨⟨_, ht⟩, flush0_10 _, ?_⟩
  have hi : i = ((cfg0.win 10).blk ⟨_, ht⟩).view.emb (ix2 (⟨(i 0).val % 128, by omega⟩ : Fin 128) (⟨(i 1).val, (i 1).isLt⟩ : Fin 1)) := by
    rw [emb10]
    funext a; apply Fin.ext
    match a with
    | ⟨0, _⟩ => show (i 0).val = (i 0).val / 128 * 128 + (i 0).val % 128; omega
    | ⟨1, _⟩ => rfl
  exact (congrArg (· ∈ ((cfg0.win 10).blk ⟨_, ht⟩).view.set) hi).mpr (((cfg0.win 10).blk ⟨_, ht⟩).view.emb_mem_set _)

theorem final10 (c : Dev nD) : (dats m 0 c).arrAt 10 cfg0.N
    = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((dats m 0 c).arrAt_eq_of_cover 10 (G10 (V m c main_arg0) (V m c main_arg1) (V m c main_arg2) (V m c main_arg3) (V m c main_arg4) (V m c main_arg5) (V m c main_arg6) (V m c main_arg7))
    (fun t _ => flushed10_eq m c t) cover10).trans
    (by rw [V_main_arg0, V_main_arg1, V_main_arg2, V_main_arg3, V_main_arg4, V_main_arg5, V_main_arg6, V_main_arg7])

/-- The run of the kernel: the results are the reference's functions of the arguments, which are unchanged. -/
theorem run : θ_run defs (onTc (τ := τ) (main (F := Ideal))) ⟨m, fun _ => 0, ρ⟩ fun r => ∀ c : Dev nD,
      r.2.mem ((c : Thread nD τ).loc main_v0_0) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_2) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c), (h c).2.2.1.trans (final10 m c), (h c).2.2.2⟩)
    (Cert.OProjIdeal.Value.run_blocks m ρ)

end Cert.Proof.OProj

end
-- ==== Proof.TextQStats.lean ====
module

public import proofs.«01_k».proof.Proof.Gen.TextQIdeal.Frame
public import proofs.«01_k».proof.Proof.Strips
public import proofs.«01_k».proof.Proof.RowNorm

/-!
# One strip of the query kernel's statistics loop
-/

@[expose] public section

set_option maxRecDepth 16384

noncomputable section

open Idealize.ShloMosaic Idealize.ShloMosaic.TcCoe Idealize.SL.Sem

namespace Cert.Proof.TextQ

open Cert.TextQIdeal Cert.TextQIdeal.Gen Cert.Proof.Strips Cert.Proof.RowNorm

theorem ss_trip (arg1 : Memref sig .tc .vmem S256x8192 .bf16) (X1 : BufTy.Contents (Elt Ideal) arg1.view.ty) (k : Fin k0_t1_loop.trips)
    (r : Fin 32) (l : Fin 128) :
    k0_pay177 (F := Ideal) (trip_k0_t1.sl.r_39 arg1 X1 k) (ix2 r l)
      = ∑ j ∈ Finset.range 64, at2 (arg1.view.read (Elt Ideal) X1) (32 * k.val + r.val) (128 * j + l.val) *
          at2 (arg1.view.read (Elt Ideal) X1) (32 * k.val + r.val) (128 * j + l.val) := by
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  rw [read_chunk]
  simp only [read_chunk]
  simp only [Finset.sum_range_succ, Finset.sum_range_zero, zero_add]
  rfl

theorem am_trip (arg1 : Memref sig .tc .vmem S256x8192 .bf16) (arg2 : Memref sig .tc .vmem S1x8192 .f32)
    (X1 : BufTy.Contents (Elt Ideal) arg1.view.ty) (X2 : BufTy.Contents (Elt Ideal) arg2.view.ty) (k : Fin k0_t1_loop.trips)
    (r : Fin 32) (l : Fin 128) :
    k0_pay178 (F := Ideal) (trip_k0_t1.sl.r_40 arg1 arg2 X1 X2 k) (ix2 r l)
      = mx (fun j => max (at2 (arg1.view.read (Elt Ideal) X1) (32 * k.val + r.val) (128 * j + l.val) *
            at2 (arg2.view.read (Elt Ideal) X2) 0 (128 * j + l.val))
          (-(at2 (arg1.view.read (Elt Ideal) X1) (32 * k.val + r.val) (128 * j + l.val) *
            at2 (arg2.view.read (Elt Ideal) X2) 0 (128 * j + l.val)))) 64 := by
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  simp only [read_chunk, read_lit]
  simp only [mx_succ, mx_zero]
  rfl

end Cert.Proof.TextQ

end
-- ==== Proof.TextQEmit.lean ====
module

public import proofs.«01_k».proof.Proof.Gen.TextQIdeal.Frame
public import proofs.«01_k».proof.Proof.Strips
public import proofs.«01_k».proof.Proof.RowNorm
public import Idealize.ShloMosaic.Lib.Pipeline.ReadBack

/-!
# One strip of the query kernel's code loop
-/

@[expose] public section

set_option maxRecDepth 16384

noncomputable section

open Idealize.ShloMosaic Idealize.ShloMosaic.TcCoe Idealize.SL.Sem

namespace Cert.Proof.TextQ

open Cert.TextQIdeal Cert.TextQIdeal.Gen Cert.Proof.Strips Cert.Proof.RowNorm

/-- The product of the element at row `a`, column `b`, its weight, and the factor at row `a`, lane `l`, clipped to ±448. -/
def codeOf (A : S256x8192.Idx → Elt Ideal .bf16) (B : S1x8192.Idx → Elt Ideal .f32) (C : S256x128.Idx → Elt Ideal .f32) (a b l : ℕ) : EReal :=
  min (Ideal.ofBits FTy.f32 1138753536#32) (max (Ideal.ofBits FTy.f32 3286237184#32) (at2 A a b * at2 B 0 b * at2 C a l))

/-- The code at row `a`, column `b` of a block. -/
def codeAt (A : S256x8192.Idx → Elt Ideal .bf16) (B : S1x8192.Idx → Elt Ideal .f32) (C : S256x128.Idx → Elt Ideal .f32) (a b : ℕ) : EReal :=
  codeOf A B C a b (b % 128)

/-- A strip of codes stored at a closed offset agrees with `codeAt`. -/
theorem emit_piece (A : S256x8192.Idx → Elt Ideal .bf16) (B : S1x8192.Idx → Elt Ideal .f32) (C : S256x128.Idx → Elt Ideal .f32)
    {off : Fin 2 → ℕ} [h : ClosedOff off] (inb : ∀ a, off a + (![32, 128] : Fin 2 → ℕ) a ≤ S256x8192.size a)
    (w : S32x128.Idx → Elt Ideal .fp8e4m3)
    (hw : ∀ (r : Fin 32) (l : Fin 128), w (ix2 r l)
      = codeOf A B C (ClosedOff.form off 0 + r.val) (ClosedOff.form off 1 + l.val) l.val)
    (h1 : ClosedOff.form off 1 % 128 = 0) (x : S32x128.Idx) :
    w x = (fun y : S256x8192.Idx => codeAt A B C (y 0).val (y 1).val) ((Rect.unit (s := S256x8192) off ![32, 128] inb).emb x) := by
  obtain ⟨r, l, rfl⟩ : ∃ (r : Fin 32) (l : Fin 128), x = ix2 r l :=
    ⟨x 0, x 1, by funext a; match a with | ⟨0, _⟩ => rfl | ⟨1, _⟩ => rfl⟩
  obtain ⟨e0, e1⟩ := emb_chunk inb (ix2 r l)
  have hl := l.isLt
  have hm : (ClosedOff.form off 1 + l.val) % 128 = l.val := by omega
  show w (ix2 r l) = codeAt A B C ((Rect.unit (s := S256x8192) off ![32, 128] inb).emb (ix2 r l) 0).val
    ((Rect.unit (s := S256x8192) off ![32, 128] inb).emb (ix2 r l) 1).val
  rw [e0, e1]
  show w (ix2 r l) = codeAt A B C (ClosedOff.form off 0 + r.val) (ClosedOff.form off 1 + l.val)
  rw [codeAt, hm, hw r l]

/-- One more strip of codes at the front of a list. -/
theorem emit_cons (A : S256x8192.Idx → Elt Ideal .bf16) (B : S1x8192.Idx → Elt Ideal .f32) (C : S256x128.Idx → Elt Ideal .f32)
    {off : Fin 2 → ℕ} [h : ClosedOff off] (inb : ∀ a, off a + (![32, 128] : Fin 2 → ℕ) a ≤ S256x8192.size a)
    (w : S32x128.Idx → Elt Ideal .fp8e4m3) (L : List (View.Piece (Elt Ideal) S256x8192 .fp8e4m3))
    (hw : ∀ (r : Fin 32) (l : Fin 128), w (ix2 r l)
      = codeOf A B C (ClosedOff.form off 0 + r.val) (ClosedOff.form off 1 + l.val) l.val)
    (h1 : ClosedOff.form off 1 % 128 = 0) (hL : View.PiecesOf (fun y : S256x8192.Idx => codeAt A B C (y 0).val (y 1).val) L) :
    View.PiecesOf (fun y : S256x8192.Idx => codeAt A B C (y 0).val (y 1).val)
      (⟨Rect.unit (s := S256x8192) off ![32, 128] inb, w⟩ :: L) :=
  ⟨emit_piece A B C inb w hw h1, hL⟩

theorem emit_trip {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (X1 : BufTy.Contents (Elt Ideal) arg1.view.ty) (X2 : BufTy.Contents (Elt Ideal) arg2.view.ty)
    (X11 : BufTy.Contents (Elt Ideal) arg11.view.ty) (k : Fin k0_t2_loop.trips) :
    View.PiecesOf (fun y : S256x8192.Idx => codeAt (arg1.view.read (Elt Ideal) X1) (arg2.view.read (Elt Ideal) X2)
        (arg11.view.read (Elt Ideal) X11) (y 0).val (y 1).val)
      (tripL_k0_t2 (F := Ideal) 𝒱 c bd i arg1 harg1 arg2 harg2 arg3 harg3 arg4 harg4 arg5 harg5 arg6 harg6 arg7 harg7 arg8 harg8 arg9 harg9 arg10 harg10 arg11 harg11 X1 X2 X11 k) := by
  unfold tripL_k0_t2 trip_k0_t2
  dsimp only
  have e : ClosedOff.form (k0_off66 k) 1 = 0 := rfl
  have e' : ClosedOff.form (k0_off67 k) 1 = 0 := rfl
  iterate 64
    refine emit_cons _ _ _ _ _ _ (fun r l => ?_) (by simp [ClosedOff.form]) ?_
    · pointwise [k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay182, k0_pay183, trip_k0_t2.sl.r, trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_20, trip_k0_t2.sl.r_21, trip_k0_t2.sl.r_22, trip_k0_t2.sl.cst_99, trip_k0_t2.sl.cst_190]
      simp only [read_chunk, read_lit, e, e', Nat.zero_add]
      rfl
  exact True.intro

theorem emit_cover {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (X1 : BufTy.Contents (Elt Ideal) arg1.view.ty) (X2 : BufTy.Contents (Elt Ideal) arg2.view.ty)
    (X11 : BufTy.Contents (Elt Ideal) arg11.view.ty) (k : Fin k0_t2_loop.trips) (y : S256x8192.Idx)
    (h0 : 32 * k.val ≤ (y 0).val ∧ (y 0).val < 32 * k.val + 32) :
    ∃ p ∈ tripL_k0_t2 (F := Ideal) 𝒱 c bd i arg1 harg1 arg2 harg2 arg3 harg3 arg4 harg4 arg5 harg5 arg6 harg6 arg7 harg7 arg8 harg8 arg9 harg9 arg10 harg10 arg11 harg11 X1 X2 X11 k, y ∈ p.1.set := by
  unfold tripL_k0_t2 trip_k0_t2
  dsimp only
  have h : (y 1).val < 8192 := (y 1).isLt
  repeat refine cover_step _ _ _ y h0 h fun h => ?_
  exact absurd h (Nat.not_lt_zero _)

end Cert.Proof.TextQ

end
-- ==== Proof.TextQRun.lean ====
module

public import proofs.«01_k».proof.Proof.Gen.TextQIdeal.Value
public import proofs.«01_k».proof.Proof.TextQStats
public import proofs.«01_k».proof.Proof.TextQEmit

/-!
# What one grid point of the query kernel leaves

The first loop leaves, per row and lane, the sum of the squares (`ssLane`) and the largest product (`amLane`) of the 64 chunks.  From
these come the row's root, its scale and its factor; the second loop leaves the codes.
-/

@[expose] public section

set_option maxRecDepth 16384

noncomputable section

open Idealize.ShloMosaic Idealize.ShloMosaic.TcCoe Idealize.SL.Sem

namespace Cert.Proof.TextQ

open Cert.TextQIdeal Cert.TextQIdeal.Gen Cert.Proof.Strips Cert.Proof.RowNorm
open Cert.Proof.GateUp.Ref (scaleOf scaleOf_ne_zero)

/-- The sum of the squares of row `a` in lane `l`. -/
def ssLane (A : S256x8192.Idx → Elt Ideal .bf16) (a l : ℕ) : EReal :=
  ∑ j ∈ Finset.range 64, at2 A a (128 * j + l) * at2 A a (128 * j + l)

/-- The largest absolute product of row `a` in lane `l`. -/
def amLane (A : S256x8192.Idx → Elt Ideal .bf16) (B : S1x8192.Idx → Elt Ideal .f32) (a l : ℕ) : EReal :=
  mx (fun j => max (at2 A a (128 * j + l) * at2 B 0 (128 * j + l)) (-(at2 A a (128 * j + l) * at2 B 0 (128 * j + l)))) 64

theorem hz : (![0, 0] : Fin 2 → Nat) = fun _ => 0 := funext fun a => by fin_cases a <;> rfl

theorem trips1 : k0_t1_loop.trips = 8 := by decide +kernel
theorem trips2 : k0_t2_loop.trips = 8 := by decide +kernel

/-- A strip of statistics agrees with a function of row and lane. -/
theorem stat_piece (G : ℕ → ℕ → EReal) (k : Fin k0_t1_loop.trips) (inb : ∀ a, k0_off65 k a + (![32, 128] : Fin 2 → ℕ) a ≤ S256x128.size a)
    (w : S32x128.Idx → Elt Ideal .f32) (hw : ∀ (r : Fin 32) (l : Fin 128), w (ix2 r l) = G (32 * k.val + r.val) l.val) (x : S32x128.Idx) :
    w x = (fun y : S256x128.Idx => G (y 0).val (y 1).val) ((Rect.unit (s := S256x128) (k0_off65 k) ![32, 128] inb).emb x) := by
  obtain ⟨r, l, rfl⟩ : ∃ (r : Fin 32) (l : Fin 128), x = ix2 r l :=
    ⟨x 0, x 1, by funext a; match a with | ⟨0, _⟩ => rfl | ⟨1, _⟩ => rfl⟩
  obtain ⟨e0, e1⟩ := emb_chunk inb (ix2 r l)
  show w (ix2 r l) = G ((Rect.unit (s := S256x128) (k0_off65 k) ![32, 128] inb).emb (ix2 r l) 0).val
    ((Rect.unit (s := S256x128) (k0_off65 k) ![32, 128] inb).emb (ix2 r l) 1).val
  rw [e0, e1, hw]
  show G (32 * k.val + r.val) l.val = G (32 * k.val + r.val) (0 + l.val)
  rw [Nat.zero_add]

theorem stat_mem (k : Fin k0_t1_loop.trips) (inb : ∀ a, k0_off65 k a + (![32, 128] : Fin 2 → ℕ) a ≤ S256x128.size a) (y : S256x128.Idx)
    (h0 : 32 * k.val ≤ (y 0).val ∧ (y 0).val < 32 * k.val + 32) :
    y ∈ (Rect.unit (s := S256x128) (k0_off65 k) ![32, 128] inb).set :=
  mem_chunk inb y h0 ⟨Nat.zero_le _, by show (y 1).val < 0 + 128; have h : (y 1).val < 128 := (y 1).isLt; omega⟩

theorem ss_canon {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (X1 : BufTy.Contents (Elt Ideal) arg1.view.ty) (X2 : BufTy.Contents (Elt Ideal) arg2.view.ty) (y : S256x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 X1 X2 k0_t1_loop.trips).1 y
      = ssLane (arg1.view.read (Elt Ideal) X1) (y 0).val (y 1).val := by
  have hy : (y 0).val < 256 := (y 0).isLt
  refine canon_trips (fun n => (pb_k0_t1 (F := Ideal) 𝒱 c bd i arg1 harg1 arg2 harg2 arg3 harg3 arg4 harg4 arg5 harg5 arg6 harg6 arg7 harg7 arg8 harg8 arg9 harg9 arg10 harg10 arg11 harg11 X1 X2 n).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 X1 X2 k).1) rfl
    (fun k => congrArg Prod.fst (pb_k0_t1_succ (F := Ideal) 𝒱 c bd i arg1 harg1 arg2 harg2 arg3 harg3 arg4 harg4 arg5 harg5 arg6 harg6 arg7 harg7 arg8 harg8 arg9 harg9 arg10 harg10 arg11 harg11 X1 X2 k))
    (fun y => ssLane (arg1.view.read (Elt Ideal) X1) (y 0).val (y 1).val) ?_ y ⟨(y 0).val / 32, by rw [trips1]; omega⟩ ?_
  · intro k
    unfold tripL_k0_t1 trip_k0_t1
    dsimp only
    intro p hp x
    obtain rfl := List.mem_singleton.mp hp
    exact stat_piece (ssLane (arg1.view.read (Elt Ideal) X1)) k (k0_off65_inb k) _ (ss_trip arg1 X1 k) x
  · unfold tripL_k0_t1 trip_k0_t1
    dsimp only
    exact ⟨_, List.mem_singleton.mpr rfl, stat_mem _ (k0_off65_inb _) y (by dsimp only; omega)⟩

theorem am_canon {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (X1 : BufTy.Contents (Elt Ideal) arg1.view.ty) (X2 : BufTy.Contents (Elt Ideal) arg2.view.ty) (y : S256x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 X1 X2 k0_t1_loop.trips).2 y
      = amLane (arg1.view.read (Elt Ideal) X1) (arg2.view.read (Elt Ideal) X2) (y 0).val (y 1).val := by
  have hy : (y 0).val < 256 := (y 0).isLt
  refine canon_trips (fun n => (pb_k0_t1 (F := Ideal) 𝒱 c bd i arg1 harg1 arg2 harg2 arg3 harg3 arg4 harg4 arg5 harg5 arg6 harg6 arg7 harg7 arg8 harg8 arg9 harg9 arg10 harg10 arg11 harg11 X1 X2 n).2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 X1 X2 k).2) rfl
    (fun k => congrArg Prod.snd (pb_k0_t1_succ (F := Ideal) 𝒱 c bd i arg1 harg1 arg2 harg2 arg3 harg3 arg4 harg4 arg5 harg5 arg6 harg6 arg7 harg7 arg8 harg8 arg9 harg9 arg10 harg10 arg11 harg11 X1 X2 k))
    (fun y => amLane (arg1.view.read (Elt Ideal) X1) (arg2.view.read (Elt Ideal) X2) (y 0).val (y 1).val) ?_ y ⟨(y 0).val / 32, by rw [trips1]; omega⟩ ?_
  · intro k
    unfold tripL_k0_t1 trip_k0_t1
    dsimp only
    intro p hp x
    obtain rfl := List.mem_singleton.mp hp
    exact stat_piece (amLane (arg1.view.read (Elt Ideal) X1) (arg2.view.read (Elt Ideal) X2)) k (k0_off65_inb k) _ (am_trip arg1 arg2 X1 X2 k) x
  · unfold tripL_k0_t1 trip_k0_t1
    dsimp only
    exact ⟨_, List.mem_singleton.mpr rfl, stat_mem _ (k0_off65_inb _) y (by dsimp only; omega)⟩

theorem codes_canon {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (X1 : BufTy.Contents (Elt Ideal) arg1.view.ty) (X2 : BufTy.Contents (Elt Ideal) arg2.view.ty)
    (X11 : BufTy.Contents (Elt Ideal) arg11.view.ty) (y : S256x8192.Idx) :
    View.canon (pb_k0_t2 (F := Ideal) 𝒱 c bd i arg1 harg1 arg2 harg2 arg3 harg3 arg4 harg4 arg5 harg5 arg6 harg6 arg7 harg7 arg8 harg8 arg9 harg9 arg10 harg10 arg11 harg11 X1 X2 X11 k0_t2_loop.trips) y
      = codeAt (arg1.view.read (Elt Ideal) X1) (arg2.view.read (Elt Ideal) X2) (arg11.view.read (Elt Ideal) X11) (y 0).val (y 1).val := by
  have hy : (y 0).val < 256 := (y 0).isLt
  exact canon_trips (fun n => pb_k0_t2 (F := Ideal) 𝒱 c bd i arg1 harg1 arg2 harg2 arg3 harg3 arg4 harg4 arg5 harg5 arg6 harg6 arg7 harg7 arg8 harg8 arg9 harg9 arg10 harg10 arg11 harg11 X1 X2 X11 n)
    (fun k => tripL_k0_t2 (F := Ideal) 𝒱 c bd i arg1 harg1 arg2 harg2 arg3 harg3 arg4 harg4 arg5 harg5 arg6 harg6 arg7 harg7 arg8 harg8 arg9 harg9 arg10 harg10 arg11 harg11 X1 X2 X11 k) rfl
    (fun k => pb_k0_t2_succ (F := Ideal) 𝒱 c bd i arg1 harg1 arg2 harg2 arg3 harg3 arg4 harg4 arg5 harg5 arg6 harg6 arg7 harg7 arg8 harg8 arg9 harg9 arg10 harg10 arg11 harg11 X1 X2 X11 k)
    (fun y => codeAt (arg1.view.read (Elt Ideal) X1) (arg2.view.read (Elt Ideal) X2) (arg11.view.read (Elt Ideal) X11) (y 0).val (y 1).val)
    (fun k => (emit_trip X1 X2 X11 k).mem) y ⟨(y 0).val / 32, by rw [trips2]; omega⟩ (emit_cover X1 X2 X11 _ y (by dsimp only; omega))

/-- A load of a whole buffer reads what its stores left. -/
theorem readCov_whole {sp : Space} {e : EltTy} {M N : ℕ} (v : View sig .tc sp (⟨2, ![M, N]⟩ : Shape) e)
    (L : List (View.Piece (Elt Ideal) (⟨2, ![M, N]⟩ : Shape) e)) (inb : ∀ a, (![0, 0] : Fin 2 → ℕ) a + (⟨2, ![M, N]⟩ : Shape).size a ≤ (⟨2, ![M, N]⟩ : Shape).size a) :
    v.readCov L (Rect.unit (s := (⟨2, ![M, N]⟩ : Shape)) ![0, 0] (⟨2, ![M, N]⟩ : Shape).size inb).toLoadRect = View.canon L :=
  (View.readCov_eq_canon' v L _).trans (View.ld_unit_zero hz inb (View.canon L))

/-- The sums of squares of a block, as an array. -/
def ssArr (A : S256x8192.Idx → Elt Ideal .bf16) : FVec Ideal S256x128 .f32 := fun y => ssLane A (y 0).val (y 1).val

/-- The largest products of a block, as an array. -/
def amArr (A : S256x8192.Idx → Elt Ideal .bf16) (B : S1x8192.Idx → Elt Ideal .f32) : FVec Ideal S256x128 .f32 :=
  fun y => amLane A B (y 0).val (y 1).val

/-- The factors of a block. -/
def facArr (A : S256x8192.Idx → Elt Ideal .bf16) (B : S1x8192.Idx → Elt Ideal .f32) : FVec Ideal S256x128 .f32 :=
  k0_pay181 (F := Ideal) (ssArr A) (amArr A B)

/-- The codes of a block. -/
def codeArr (A : S256x8192.Idx → Elt Ideal .bf16) (B : S1x8192.Idx → Elt Ideal .f32) : FVec Ideal S256x8192 .fp8e4m3 :=
  fun y => codeAt A B (facArr A B) (y 0).val (y 1).val

/-- The scales of a block. -/
def scaleArr (A : S256x8192.Idx → Elt Ideal .bf16) (B : S1x8192.Idx → Elt Ideal .f32) : FVec Ideal S256x1 .f32 :=
  k0_pay180 (F := Ideal) (ssArr A) (amArr A B)

theorem ss_read {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (inb) :
    arg9.view.readCov (pb_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) k0_t1_loop.trips).1
      (Rect.unit (s := S256x128) ![0, 0] S256x128.size inb).toLoadRect = ssArr x0 := by
  refine (readCov_whole arg9.view _ inb).trans (funext fun y => (ss_canon _ _ y).trans ?_)
  rw [harg1.read_unread]; rfl

theorem am_read {𝒱 : Variants} {c : Dev nD} {bd : Option 𝒱.V} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (inb) :
    arg10.view.readCov (pb_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) k0_t1_loop.trips).2
      (Rect.unit (s := S256x128) ![0, 0] S256x128.size inb).toLoadRect = amArr x0 x1 := by
  refine (readCov_whole arg10.view _ inb).trans (funext fun y => (am_canon _ _ y).trans ?_)
  rw [harg1.read_unread, harg2.read_unread]; rfl

theorem fac_read {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) :
    arg11.view.read (Elt Ideal) (arg11.view.writes (Elt Ideal) arg11.view.junk (kernelRun0_A.sl.HS2_1 (F := Ideal) c i arg1 harg1 arg2 harg2 arg3 harg3 arg4 harg4 arg5 harg5 arg6 harg6 arg7 harg7 arg8 harg8 arg9 harg9 arg10 harg10 arg11 harg11 x0 x1)) = facArr x0 x1 := by
  rw [View.read_writes_junk_eq_canon]
  unfold kernelRun0_A.sl.HS2_1
  rw [View.canon_unit_zero hz]
  exact congrArg₂ (k0_pay181 (F := Ideal)) (ss_read x0 x1 _) (am_read x0 x1 _)

theorem codes_pieces {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) :
    View.canon (pb_k0_t2 (F := Ideal) Variants.none c none i arg1 harg1 arg2 harg2 arg3 harg3 arg4 harg4 arg5 harg5 arg6 harg6 arg7 harg7 arg8 harg8 arg9 harg9 arg10 harg10 arg11 harg11 (harg1.unread x0) (harg2.unread x1)
        (arg11.view.writes (Elt Ideal) arg11.view.junk (kernelRun0_A.sl.HS2_1 (F := Ideal) c i arg1 harg1 arg2 harg2 arg3 harg3 arg4 harg4 arg5 harg5 arg6 harg6 arg7 harg7 arg8 harg8 arg9 harg9 arg10 harg10 arg11 harg11 x0 x1)) k0_t2_loop.trips) = codeArr x0 x1 := by
  refine funext fun y => (codes_canon _ _ _ y).trans ?_
  rw [harg1.read_unread, harg2.read_unread, fac_read]; rfl

theorem run5 {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (x2 : Vec Ideal S8192x1024 .fp8e4m3) (x3 : Vec Ideal S1x1024 .f32) (x4 : Vec Ideal S1x128 .f32) :
    View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4).1 = codeArr x0 x1 := by
  unfold kernelRun0_A
  dsimp only
  exact codes_pieces x0 x1

theorem run6 {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (x2 : Vec Ideal S8192x1024 .fp8e4m3) (x3 : Vec Ideal S1x1024 .f32) (x4 : Vec Ideal S1x128 .f32) :
    View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4).2.1 = scaleArr x0 x1 := by
  unfold kernelRun0_A
  dsimp only
  unfold kernelRun0_A.sl.H6_1
  rw [View.canon_unit_zero hz]
  exact congrArg₂ (k0_pay180 (F := Ideal)) (ss_read x0 x1 _) (am_read x0 x1 _)

end Cert.Proof.TextQ

end
-- ==== Proof.TextQHeads.lean ====
module

public import proofs.«01_k».proof.Proof.TextQRun

/-!
# The query heads one grid point leaves

Each of the eight stores of queries holds one head: a slice of 128 columns of the rescaled product, normalized by its own rows' roots.
-/

@[expose] public section

set_option maxRecDepth 16384

noncomputable section

open Idealize.ShloMosaic Idealize.ShloMosaic.TcCoe Idealize.SL.Sem

namespace Cert.Proof.TextQ

open Cert.TextQIdeal Cert.TextQIdeal.Gen Cert.Proof.Strips Cert.Proof.RowNorm

/-- A head normalized: every element over the root of its row's mean square, times its column's weight. -/
def headNorm (v38 : FVec Ideal S256x128 .f32) (v51 : Vec Ideal S1x128 .f32) : FVec Ideal S256x128 .bf16 :=
  have v39 : FVec Ideal S256x128 .f32 := mulf v38 v38
  have v40 : FVec Ideal S256 .f32 := multiReduction .add [1] S256 v39 0x00000000#32 reduces_S256x128_S256 (.inl rfl) rfl
  have v41 : FVec Ideal S256x1 .f32 := shapeCast S256x1 v40 shapeCasts_S256_S256x1
  have cst_27 : Ideal .f32 := Scalar.ofBits .f32 0x43000000#32
  have v42 : FVec Ideal S256x1 .f32 := broadcast S256x1 cst_27
  have v43 : FVec Ideal S256x1 .f32 := divf v41 v42
  have cst_28 : Ideal .f32 := Scalar.ofBits .f32 0x3727C5AC#32
  have v44 : FVec Ideal S256x1 .f32 := broadcast S256x1 cst_28
  have v45 : FVec Ideal S256x1 .f32 := addf v43 v44
  have v46 : FVec Ideal S256x1 .f32 := sqrt v45
  have cst_29 : Ideal .f32 := Scalar.ofBits .f32 0x3F800000#32
  have v47 : FVec Ideal S256x1 .f32 := broadcast S256x1 cst_29
  have v48 : FVec Ideal S256x1 .f32 := divf v47 v46
  have v49 : FVec Ideal S256x128 .f32 := broadcastTo S256x128 v48 broadcasts_S256x1_S256x128
  have v50 : FVec Ideal S256x128 .f32 := mulf v38 v49
  have v52 : FVec Ideal S256x128 .f32 := broadcastTo S256x128 v51 broadcasts_S1x128_S256x128
  have v53 : FVec Ideal S256x128 .f32 := mulf v50 v52
  truncf .bf16 v53 bitsLt_bf16_f32

/-- The head at a column offset. -/
def headOf (off : Fin 2 → ℕ) (h : S256x1024.Slices off S256x128) (V : FVec Ideal S256x1024 .f32) (qn : Vec Ideal S1x128 .f32) :
    FVec Ideal S256x128 .bf16 :=
  headNorm (extractStridedSlice S256x128 off V h) qn

theorem headNorm_apply (v : FVec Ideal S256x128 .f32) (qn : Vec Ideal S1x128 .f32) (r : Fin 256) (l : Fin 128) :
    headNorm v qn (ix2 r l) = v (ix2 r l) * Ideal.div 1 (Ideal.sqrt (Ideal.div (∑ x : Fin 128, v (ix2 r x) * v (ix2 r x))
      (Ideal.ofBits FTy.f32 1124073472#32) + eps)) * qn (ix2 0 l) := by
  pointwise [headNorm]

/-- The normalized query at row `a`, column `b`. -/
def headAt (V : S256x1024.Idx → EReal) (qn : S1x128.Idx → EReal) (a : Fin 256) (b : Fin 1024) : EReal :=
  V (ix2 a b) * Ideal.div 1 (Ideal.sqrt (Ideal.div
    (∑ x : Fin 128, V (ix2 a ⟨b.val / 128 * 128 + x.val, by omega⟩) * V (ix2 a ⟨b.val / 128 * 128 + x.val, by omega⟩))
      (Ideal.ofBits FTy.f32 1124073472#32) + eps)) * qn (ix2 0 ⟨b.val % 128, Nat.mod_lt _ (by norm_num)⟩)

theorem slice_apply (off : Fin 2 → ℕ) (b : ℕ) (h0 : off 0 = 0) (h1 : off 1 = b) (h : S256x1024.Slices off S256x128)
    (V : FVec Ideal S256x1024 .f32) (r : Fin 256) (l : Fin 128) (hb : b + l.val < 1024) :
    extractStridedSlice S256x128 off V h (ix2 r l) = V (ix2 r ⟨b + l.val, hb⟩) :=
  extractStridedSlice_apply off V h _ _ fun a => by
    match a with
    | ⟨0, _⟩ => show r.val = off 0 + r.val; omega
    | ⟨1, _⟩ => show b + l.val = off 1 + l.val; omega

/-- A head at a multiple of 128 columns is `headAt` there. -/
theorem headOf_apply (off : Fin 2 → ℕ) (b : ℕ) (h0 : off 0 = 0) (h1 : off 1 = b) (hb : b % 128 = 0) (hlt : b + 128 ≤ 1024)
    (h : S256x1024.Slices off S256x128) (V : FVec Ideal S256x1024 .f32) (qn : Vec Ideal S1x128 .f32) (r : Fin 256) (l : Fin 128) :
    headOf off h V qn (ix2 r l) = headAt V qn r ⟨b + l.val, by omega⟩ := by
  have hl := l.isLt
  have hd : (b + l.val) / 128 * 128 = b := by omega
  have hm : (b + l.val) % 128 = l.val := by omega
  unfold headOf headAt
  have hs : ∀ x : Fin 128, extractStridedSlice S256x128 off V h (ix2 r x) = V (ix2 r ⟨b + x.val, by omega⟩) :=
    fun x => slice_apply off b h0 h1 h V r x (by omega)
  rw [headNorm_apply]
  simp only [hd, hm, hs]

/-- One more head at the front of a list. -/
theorem head_cons (V : FVec Ideal S256x1024 .f32) (qn : Vec Ideal S1x128 .f32) (off : Fin 2 → ℕ) (b : ℕ) (h0 : off 0 = 0) (h1 : off 1 = b)
    (hb : b % 128 = 0) (hlt : b + 128 ≤ 1024) (h : S256x1024.Slices off S256x128)
    (inb : ∀ a, off a + (![256, 128] : Fin 2 → ℕ) a ≤ S256x1024.size a) (w : S256x128.Idx → Elt Ideal .bf16)
    (L : List (View.Piece (Elt Ideal) S256x1024 .bf16)) (hw : w = headOf off h V qn)
    (hL : View.PiecesOf (fun y : S256x1024.Idx => headAt V qn (y 0) (y 1)) L) :
    View.PiecesOf (fun y : S256x1024.Idx => headAt V qn (y 0) (y 1)) (⟨Rect.unit (s := S256x1024) off ![256, 128] inb, w⟩ :: L) := by
  refine ⟨fun x => ?_, hL⟩
  obtain ⟨r, l, rfl⟩ : ∃ (r : Fin 256) (l : Fin 128), x = ix2 r l :=
    ⟨x 0, x 1, by funext a; match a with | ⟨0, _⟩ => rfl | ⟨1, _⟩ => rfl⟩
  show w (ix2 r l) = headAt V qn ((Rect.unit (s := S256x1024) off ![256, 128] inb).emb (ix2 r l) 0)
    ((Rect.unit (s := S256x1024) off ![256, 128] inb).emb (ix2 r l) 1)
  rw [hw, headOf_apply off b h0 h1 hb hlt]
  congr 1
  · apply Fin.ext; show r.val = off 0 + 1 * r.val; omega
  · apply Fin.ext; show b + l.val = off 1 + 1 * l.val; omega

theorem head_cover {off : Fin 2 → ℕ} (b : ℕ) (h0 : off 0 = 0) (h1 : off 1 = b)
    (inb : ∀ a, off a + (![256, 128] : Fin 2 → ℕ) a ≤ S256x1024.size a) (w : S256x128.Idx → Elt Ideal .bf16)
    (L : List (View.Piece (Elt Ideal) S256x1024 .bf16)) (y : S256x1024.Idx) (hlt : (y 1).val < b + 128)
    (hL : (y 1).val < b → ∃ p ∈ L, y ∈ p.1.set) :
    ∃ p ∈ (⟨Rect.unit (s := S256x1024) off ![256, 128] inb, w⟩ :: L : List (View.Piece (Elt Ideal) S256x1024 .bf16)), y ∈ p.1.set := by
  letI : ClosedOff off := ⟨off, rfl⟩
  by_cases hc : (y 1).val < b
  · obtain ⟨p, hp, hm⟩ := hL hc
    exact ⟨p, List.mem_cons_of_mem _ hp, hm⟩
  · have hy : (y 0).val < 256 := (y 0).isLt
    exact ⟨_, List.mem_cons_self, mem_chunk inb y ⟨by show off 0 ≤ _; omega, by show _ < off 0 + 256; omega⟩
      ⟨by show off 1 ≤ _; omega, by show _ < off 1 + 128; omega⟩⟩

theorem pay184_congr {s s' : FVec Ideal S256x1 .f32} {d d' : Vec Ideal S256x8192 .fp8e4m3} {w w' : Vec Ideal S8192x1024 .fp8e4m3}
    {t t' : Vec Ideal S1x1024 .f32} (hs : s = s') (hd : d = d') (hw : w = w') (ht : t = t') :
    k0_pay184 (F := Ideal) s d w t = k0_pay184 s' d' w' t' := by
  subst hs; subst hd; subst hw; subst ht; rfl

/-- A load of a whole argument window is the argument. -/
theorem whole_read {sp : Space} {e : EltTy} {M N : ℕ} {m : Memref sig .tc sp (⟨2, ![M, N]⟩ : Shape) e} (hm : m.IsWhole)
    (x : (⟨2, ![M, N]⟩ : Shape).Idx → Elt Ideal e)
    (inb : ∀ a, (![0, 0] : Fin 2 → ℕ) a + (⟨2, ![M, N]⟩ : Shape).size a ≤ (⟨2, ![M, N]⟩ : Shape).size a) :
    View.readAt (Elt Ideal) m.view (Rect.unit (s := (⟨2, ![M, N]⟩ : Shape)) ![0, 0] (⟨2, ![M, N]⟩ : Shape).size inb).toLoadRect (hm.unread x) = x := by
  rw [View.readAt_eq_ld, hm.read_unread, View.ld_unit_zero hz]

theorem scale_read {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) :
    kernelRun0_A.sl.r (F := Ideal) c i arg1 harg1 arg2 harg2 arg3 harg3 arg4 harg4 arg5 harg5 arg6 harg6 arg7 harg7 arg8 harg8 arg9 harg9 arg10 harg10 arg11 harg11 x0 x1 = scaleArr x0 x1 := by
  unfold kernelRun0_A.sl.r
  exact congrArg₂ (k0_pay180 (F := Ideal)) (ss_read x0 x1 _) (am_read x0 x1 _)

theorem codes_read {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (inb) :
    arg6.view.readCov (pb_k0_t2 (F := Ideal) Variants.none c none i arg1 harg1 arg2 harg2 arg3 harg3 arg4 harg4 arg5 harg5 arg6 harg6 arg7 harg7 arg8 harg8 arg9 harg9 arg10 harg10 arg11 harg11 (harg1.unread x0) (harg2.unread x1)
        (arg11.view.writes (Elt Ideal) arg11.view.junk (kernelRun0_A.sl.HS2_1 (F := Ideal) c i arg1 harg1 arg2 harg2 arg3 harg3 arg4 harg4 arg5 harg5 arg6 harg6 arg7 harg7 arg8 harg8 arg9 harg9 arg10 harg10 arg11 harg11 x0 x1)) k0_t2_loop.trips)
      (Rect.unit (s := S256x8192) ![0, 0] S256x8192.size inb).toLoadRect = codeArr x0 x1 :=
  (readCov_whole arg6.view _ inb).trans (codes_pieces x0 x1)

/-- The queries of a block before its heads are normalized. -/
def preArr (A : S256x8192.Idx → Elt Ideal .bf16) (B : S1x8192.Idx → Elt Ideal .f32) (W : Vec Ideal S8192x1024 .fp8e4m3) (T : Vec Ideal S1x1024 .f32) :
    FVec Ideal S256x1024 .f32 :=
  k0_pay184 (F := Ideal) (scaleArr A B) (codeArr A B) W T

theorem run7_pieces {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (x2 : Vec Ideal S8192x1024 .fp8e4m3) (x3 : Vec Ideal S1x1024 .f32) (x4 : Vec Ideal S1x128 .f32) :
    View.PiecesOf (fun y : S256x1024.Idx => headAt (preArr x0 x1 x2 x3) x4 (y 0) (y 1))
      (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.1 := by
  have hV := fun i1 i2 i3 => pay184_congr (scale_read (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg1 := arg1) (harg1 := harg1) (arg2 := arg2) (harg2 := harg2) (c := c) (i := i) x0 x1)
    (codes_read (c := c) (i := i) (harg1 := harg1) (harg2 := harg2) (harg3 := harg3) (harg4 := harg4) (harg5 := harg5) (harg6 := harg6) (harg7 := harg7) (harg8 := harg8) (harg9 := harg9) (harg10 := harg10) (harg11 := harg11) x0 x1 i1)
    (whole_read harg3 x2 i2) (whole_read harg4 x3 i3)
  have hq := fun i4 => whole_read harg5 x4 i4
  unfold kernelRun0_A
  dsimp only
  refine head_cons _ _ ![0, 896] 896 rfl rfl (by norm_num) (by norm_num) slices_S256x1024_o0_896_S256x128 _ _ _ (congrArg₂ (k0_pay2 (F := Ideal)) (hV _ _ _) (hq _)) ?_
  refine head_cons _ _ ![0, 768] 768 rfl rfl (by norm_num) (by norm_num) slices_S256x1024_o0_768_S256x128 _ _ _ (congrArg₂ (fun v w => k0_pay1 (F := Ideal) (k0_pay192 v) (k0_pay193 v) w) (hV _ _ _) (hq _)) ?_
  refine head_cons _ _ ![0, 640] 640 rfl rfl (by norm_num) (by norm_num) slices_S256x1024_o0_640_S256x128 _ _ _ (congrArg₂ (k0_pay191 (F := Ideal)) (hV _ _ _) (hq _)) ?_
  refine head_cons _ _ ![0, 512] 512 rfl rfl (by norm_num) (by norm_num) slices_S256x1024_o0_512_S256x128 _ _ _ (congrArg₂ (k0_pay190 (F := Ideal)) (hV _ _ _) (hq _)) ?_
  refine head_cons _ _ ![0, 384] 384 rfl rfl (by norm_num) (by norm_num) slices_S256x1024_o0_384_S256x128 _ _ _ (congrArg₂ (k0_pay189 (F := Ideal)) (hV _ _ _) (hq _)) ?_
  refine head_cons _ _ ![0, 256] 256 rfl rfl (by norm_num) (by norm_num) slices_S256x1024_o0_256_S256x128 _ _ _ (congrArg₂ (k0_pay188 (F := Ideal)) (hV _ _ _) (hq _)) ?_
  refine head_cons _ _ ![0, 128] 128 rfl rfl (by norm_num) (by norm_num) slices_S256x1024_o0_128_S256x128 _ _ _ ((congrArg₂ (fun v w => headOf ![0, 128] slices_S256x1024_o0_128_S256x128 v w) (hV _ _ _) (hq _))) ?_
  refine head_cons _ _ ![0, 0] 0 rfl rfl (by norm_num) (by norm_num) slices_S256x1024_o0_0_S256x128 _ _ _ ((congrArg₂ (fun v w => headOf ![0, 0] slices_S256x1024_o0_0_S256x128 v w) (hV _ _ _) (hq _))) ?_
  exact True.intro

theorem run7_cover {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (x2 : Vec Ideal S8192x1024 .fp8e4m3) (x3 : Vec Ideal S1x1024 .f32) (x4 : Vec Ideal S1x128 .f32) (y : S256x1024.Idx) :
    ∃ p ∈ (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.1, y ∈ p.1.set := by
  unfold kernelRun0_A
  dsimp only
  have h : (y 1).val < 1024 := (y 1).isLt
  iterate 8 refine head_cover _ rfl rfl _ _ _ y h fun h => ?_
  exact absurd h (Nat.not_lt_zero _)

theorem run7 {c : Dev nD} {i : grid0.Coords} {arg1 : Memref sig .tc .vmem S256x8192 .bf16} {harg1 : arg1.IsWhole} {arg2 : Memref sig .tc .vmem S1x8192 .f32} {harg2 : arg2.IsWhole} {arg3 : Memref sig .tc .vmem S8192x1024 .fp8e4m3} {harg3 : arg3.IsWhole} {arg4 : Memref sig .tc .vmem S1x1024 .f32} {harg4 : arg4.IsWhole} {arg5 : Memref sig .tc .vmem S1x128 .f32} {harg5 : arg5.IsWhole} {arg6 : Memref sig .tc .vmem S256x8192 .fp8e4m3} {harg6 : arg6.IsWhole} {arg7 : Memref sig .tc .vmem S256x1 .f32} {harg7 : arg7.IsWhole} {arg8 : Memref sig .tc .vmem S256x1024 .bf16} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} (x0 : Vec Ideal S256x8192 .bf16) (x1 : Vec Ideal S1x8192 .f32) (x2 : Vec Ideal S8192x1024 .fp8e4m3) (x3 : Vec Ideal S1x1024 .f32) (x4 : Vec Ideal S1x128 .f32) :
    View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4).2.2.1
      = fun y : S256x1024.Idx => headAt (preArr x0 x1 x2 x3) x4 (y 0) (y 1) :=
  funext fun y => View.canon_apply_of_pieces (fun y : S256x1024.Idx => headAt (preArr x0 x1 x2 x3) x4 (y 0) (y 1)) _
    (run7_pieces x0 x1 x2 x3 x4).mem y (run7_cover x0 x1 x2 x3 x4 y)

end Cert.Proof.TextQ

end
-- ==== Proof.TextQRefValue.lean ====
module

public import proofs.«01_k».proof.Proof.Gen.TextQRefIdeal.Value
public import proofs.«01_k».proof.Proof.RowNorm

/-!
# The query reference, element by element
-/

@[expose] public section

set_option maxRecDepth 16384

noncomputable section

open Idealize.ShloMosaic Idealize.ShloMosaic.TcCoe Idealize.SL.Sem

namespace Cert.Proof.TextQ.Ref

open Cert.TextQRefIdeal Cert.TextQRefIdeal.Gen Cert.Proof.RowNorm
open Cert.Proof.GateUp.Ref (scaleOf scaleOf_ne_zero)

theorem g5 (a0 : Vec Ideal S5376x8192 .bf16) (a1 : Vec Ideal S1x8192 .f32) (a2 : Vec Ideal S8192x1024 .fp8e4m3) (a3 : Vec Ideal S1x1024 .f32)
    (a4 : Vec Ideal S1x128 .f32) : Cert.TextQRefIdeal.Value.G5 (F := Ideal) a0 a1 a2 a3 a4 = k0_pay4 a0 a1 := rfl

theorem g6 (a0 : Vec Ideal S5376x8192 .bf16) (a1 : Vec Ideal S1x8192 .f32) (a2 : Vec Ideal S8192x1024 .fp8e4m3) (a3 : Vec Ideal S1x1024 .f32)
    (a4 : Vec Ideal S1x128 .f32) : Cert.TextQRefIdeal.Value.G6 (F := Ideal) a0 a1 a2 a3 a4 = k0_pay3 a0 a1 := rfl

theorem g7 (a0 : Vec Ideal S5376x8192 .bf16) (a1 : Vec Ideal S1x8192 .f32) (a2 : Vec Ideal S8192x1024 .fp8e4m3) (a3 : Vec Ideal S1x1024 .f32)
    (a4 : Vec Ideal S1x128 .f32) : Cert.TextQRefIdeal.Value.G7 (F := Ideal) a0 a1 a2 a3 a4 = k0_pay1 (k0_pay3 a0 a1) a3 (k0_pay5 a0 a1 a2) a4 := rfl

theorem pay2_apply (a0 : Vec Ideal S5376x8192 .bf16) (a1 : Vec Ideal S1x8192 .f32) (r : Fin 5376) (n : Fin 8192) :
    k0_pay2 (F := Ideal) a0 a1 (ix2 r n) = Ideal.div (a0 (ix2 r n))
      (Ideal.sqrt (Ideal.div (∑ k : Fin 8192, a0 (ix2 r k) * a0 (ix2 r k)) (Ideal.ofBits FTy.f32 1174405120#32) + eps)) * a1 (ix2 0 n) := by
  pointwise [k0_pay2]

/-- From the column of the rows' largest absolute values, the column of scales. -/
def scaleCol (v17 : FVec Ideal S5376x1 .f32) : FVec Ideal S5376x1 .f32 :=
  have cst_6 : Ideal .f32 := Scalar.ofBits .f32 0x00000000#32
  have v18 : FVec Ideal S5376x1 .f32 := broadcast S5376x1 cst_6
  have v19 : IVec S5376x1 1 := cmpf .oeq v17 v18
  have cst_7 : Ideal .f32 := Scalar.ofBits .f32 0x43E00000#32
  have v20 : FVec Ideal S5376x1 .f32 := broadcast S5376x1 cst_7
  have v21 : FVec Ideal S5376x1 .f32 := divf v17 v20
  have cst_8 : Ideal .f32 := Scalar.ofBits .f32 0x3F800000#32
  have v22 : FVec Ideal S5376x1 .f32 := broadcast S5376x1 cst_8
  have v23 : FVec Ideal S5376x1 .f32 := select v19 v22 v21
  v23

/-- The largest absolute value of each row. -/
def rowMax (h : FVec Ideal S5376x8192 .f32) : FVec Ideal S5376 .f32 :=
  multiReduction .maximumf [1] S5376 (absf h) 0xFF800000#32 reduces_S5376x8192_S5376 (.inl rfl) rfl

/-- The row scales of a normalized array. -/
def rowScale (h : FVec Ideal S5376x8192 .f32) : FVec Ideal S5376x1 .f32 :=
  scaleCol (shapeCast S5376x1 (rowMax h) shapeCasts_S5376_S5376x1)

/-- The codes of a normalized array with given row scales. -/
def rowCodes (h : FVec Ideal S5376x8192 .f32) (s : FVec Ideal S5376x1 .f32) : FVec Ideal S5376x8192 .fp8e4m3 :=
  have v24 : FVec Ideal S5376x8192 .f32 := broadcastTo S5376x8192 s broadcasts_S5376x1_S5376x8192
  have v25 : FVec Ideal S5376x8192 .f32 := divf h v24
  have cst_9 : Ideal .f32 := Scalar.ofBits .f32 0xC3E00000#32
  have cst_10 : Ideal .f32 := Scalar.ofBits .f32 0x43E00000#32
  have v26 : FVec Ideal S5376x8192 .f32 := broadcast S5376x8192 cst_9
  have v27 : FVec Ideal S5376x8192 .f32 := maximumf v26 v25
  have v28 : FVec Ideal S5376x8192 .f32 := broadcast S5376x8192 cst_10
  have v29 : FVec Ideal S5376x8192 .f32 := minimumf v28 v27
  truncf .fp8e4m3 v29 bitsLt_fp8e4m3_f32

theorem pay3_eq (a0 : Vec Ideal S5376x8192 .bf16) (a1 : Vec Ideal S1x8192 .f32) :
    k0_pay3 (F := Ideal) a0 a1 = rowScale (k0_pay2 (F := Ideal) a0 a1) := rfl

theorem pay4_eq (a0 : Vec Ideal S5376x8192 .bf16) (a1 : Vec Ideal S1x8192 .f32) :
    k0_pay4 (F := Ideal) a0 a1 = rowCodes (k0_pay2 (F := Ideal) a0 a1) (k0_pay3 (F := Ideal) a0 a1) := rfl

theorem scaleCol_apply (v : FVec Ideal S5376x1 .f32) (r : Fin 5376) : scaleCol v (ix2 r 0) = scaleOf (v (ix2 r 0)) := by
  unfold scaleOf
  pointwise [scaleCol]

theorem rowMax_red (v : FVec Ideal S5376x8192 .f32) (j : S5376.Idx) :
    multiReduction .maximumf [1] S5376 v 0xFF800000#32 reduces_S5376x8192_S5376 (.inl rfl) rfl j
      = Finset.univ.fold max (FloatOps.ofBits .f32 0xFF800000#32) fun n : Fin 8192 => v (ix2 (j 0) n) := by
  simp only [pointwise]

theorem column_apply (v : FVec Ideal S5376 .f32) (r : Fin 5376) :
    shapeCast S5376x1 v shapeCasts_S5376_S5376x1 (ix2 r 0) = v (ix1 r) := by
  pointwise []

theorem rowScale_apply (h : FVec Ideal S5376x8192 .f32) (r : Fin 5376) :
    rowScale h (ix2 r 0) = scaleOf (Finset.univ.fold max ⊥ fun n : Fin 8192 => max (h (ix2 r n)) (-(h (ix2 r n)))) := by
  unfold rowScale
  rw [scaleCol_apply, column_apply, ← ofBits_bot]
  exact congrArg scaleOf (rowMax_red (absf h) (ix1 r))

theorem rowCodes_apply (h : FVec Ideal S5376x8192 .f32) (s : FVec Ideal S5376x1 .f32) (r : Fin 5376) (n : Fin 8192) :
    rowCodes h s (ix2 r n) = min (Ideal.ofBits FTy.f32 1138753536#32) (max (Ideal.ofBits FTy.f32 3286237184#32)
      (Ideal.div (h (ix2 r n)) (s (ix2 r 0)))) := by
  pointwise [rowCodes]

/-- The product of codes and weights. -/
def product (x : FVec Ideal S5376x8192 .fp8e4m3) (w : Vec Ideal S8192x1024 .fp8e4m3) : FVec Ideal S5376x1024 .f32 :=
  matmul (φ₂ := .fp8e4m3) dot_S5376x8192_S8192x1024_S5376x1024_1_0_0_1_n_n none x w (constant S5376x1024 .f32 0x00000000#32)

theorem product_apply (x : FVec Ideal S5376x8192 .fp8e4m3) (w : Vec Ideal S8192x1024 .fp8e4m3) (r : Fin 5376) (n : Fin 1024) :
    product x w (ix2 r n) = ∑ k : Fin 8192, x (ix2 r k) * w (ix2 k n) := by
  pointwise [product]

theorem pay5_eq (a0 : Vec Ideal S5376x8192 .bf16) (a1 : Vec Ideal S1x8192 .f32) (a2 : Vec Ideal S8192x1024 .fp8e4m3) :
    k0_pay5 (F := Ideal) a0 a1 a2 = product (k0_pay4 (F := Ideal) a0 a1) a2 := rfl

/-- The square of a query element before its head is normalized is summed over the head's 128 elements. -/
theorem pay1_apply (s : FVec Ideal S5376x1 .f32) (sq : Vec Ideal S1x1024 .f32) (d : FVec Ideal S5376x1024 .f32) (qn : Vec Ideal S1x128 .f32)
    (r : Fin 5376) (n : Fin 1024) :
    k0_pay1 (F := Ideal) s sq d qn (ix2 r n)
      = Ideal.div (d (ix2 r n) * s (ix2 r 0) * sq (ix2 0 n)) (Ideal.sqrt (Ideal.div
          (∑ x : Fin 128, d (ix2 r ⟨n.val / 128 * 128 + x.val, by omega⟩) * s (ix2 r 0) * sq (ix2 0 ⟨n.val / 128 * 128 + x.val, by omega⟩) *
            (d (ix2 r ⟨n.val / 128 * 128 + x.val, by omega⟩) * s (ix2 r 0) * sq (ix2 0 ⟨n.val / 128 * 128 + x.val, by omega⟩)))
          (Ideal.ofBits FTy.f32 1124073472#32) + eps)) * qn (ix2 0 ⟨n.val % 128, Nat.mod_lt _ (by norm_num)⟩) := by
  pointwise [k0_pay1]

end Cert.Proof.TextQ.Ref

end
-- ==== Proof.TextQMath.lean ====
module

public import proofs.«01_k».proof.Proof.TextQHeads
public import proofs.«01_k».proof.Proof.TextQRefValue

/-!
# A block of the query kernel is a block of the reference

The kernel scales each product by `1/q` once per row, where the reference divides by the root `q`; since `q` is positive the two agree, and
so do the row scales, the codes and the normalized heads.
-/

@[expose] public section

set_option maxRecDepth 16384

noncomputable section

open Idealize.ShloMosaic Idealize.ShloMosaic.TcCoe Idealize.SL.Sem

namespace Cert.Proof.TextQ

open Cert.TextQIdeal Cert.TextQIdeal.Gen Cert.Proof.Strips Cert.Proof.RowNorm
open Cert.Proof.GateUp.Ref (scaleOf scaleOf_ne_zero)

/-! ## The kernel's expressions at an index -/

theorem pay179_apply (v : FVec Ideal S256x128 .f32) (r : Fin 256) :
    k0_pay179 (F := Ideal) v (ix2 r 0)
      = Ideal.div 1 (Ideal.sqrt ((∑ l : Fin 128, v (ix2 r l)) * Ideal.ofBits FTy.f32 956301312#32 + eps)) := by
  pointwise [k0_pay179]

/-- The largest value of each row. -/
def laneMax (w : FVec Ideal S256x128 .f32) : FVec Ideal S256 .f32 :=
  multiReduction .maximumf [1] S256 w 0xFF800000#32 reduces_S256x128_S256 (.inl rfl) rfl

/-- From the columns of the rows' largest products and of the factors `1/q`, the column of scales. -/
def blockScale (v13 v10 : FVec Ideal S256x1 .f32) : FVec Ideal S256x1 .f32 :=
  have v14 : FVec Ideal S256x1 .f32 := mulf v13 v10
  have cst_8 : Ideal .f32 := Scalar.ofBits .f32 0x00000000#32
  have v15 : FVec Ideal S256x1 .f32 := broadcast S256x1 cst_8
  have v16 : IVec S256x1 1 := cmpf .oeq v14 v15
  have cst_9 : Ideal .f32 := Scalar.ofBits .f32 0x43E00000#32
  have v17 : FVec Ideal S256x1 .f32 := broadcast S256x1 cst_9
  have v18 : FVec Ideal S256x1 .f32 := divf v14 v17
  have cst_10 : Ideal .f32 := Scalar.ofBits .f32 0x3F800000#32
  have v19 : FVec Ideal S256x1 .f32 := broadcast S256x1 cst_10
  select v16 v19 v18

theorem pay180_eq (v w : FVec Ideal S256x128 .f32) :
    k0_pay180 (F := Ideal) v w = blockScale (shapeCast S256x1 (laneMax w) shapeCasts_S256_S256x1) (k0_pay179 v) := rfl

theorem blockScale_apply (a b : FVec Ideal S256x1 .f32) (r : Fin 256) :
    blockScale a b (ix2 r 0) = scaleOf (a (ix2 r 0) * b (ix2 r 0)) := by
  unfold scaleOf
  pointwise [blockScale]

theorem laneMax_red (w : FVec Ideal S256x128 .f32) (j : S256.Idx) :
    multiReduction .maximumf [1] S256 w 0xFF800000#32 reduces_S256x128_S256 (.inl rfl) rfl j
      = Finset.univ.fold max (FloatOps.ofBits .f32 0xFF800000#32) fun l : Fin 128 => w (ix2 (j 0) l) := by
  simp only [pointwise]

theorem column_apply (v : FVec Ideal S256 .f32) (r : Fin 256) :
    shapeCast S256x1 v shapeCasts_S256_S256x1 (ix2 r 0) = v (ix1 r) := by
  pointwise []

theorem pay180_apply (v w : FVec Ideal S256x128 .f32) (r : Fin 256) :
    k0_pay180 (F := Ideal) v w (ix2 r 0)
      = scaleOf ((Finset.univ.fold max ⊥ fun l : Fin 128 => w (ix2 r l)) * k0_pay179 (F := Ideal) v (ix2 r 0)) := by
  rw [pay180_eq, blockScale_apply, column_apply, ← ofBits_bot]
  exact congrArg (fun z => scaleOf (z * k0_pay179 (F := Ideal) v (ix2 r 0))) (laneMax_red w (ix1 r))

/-- A column over another, broadcast along the lanes. -/
def spread (a b : FVec Ideal S256x1 .f32) : FVec Ideal S256x128 .f32 :=
  have v22 : FVec Ideal S256x1 .f32 := divf a b
  have v23 : FVec Ideal S256x1 .f32 := shapeCast S256x1 v22 shapeCasts_S256x1_S256x1
  have v24 : FVec Ideal S256x128 .f32 := broadcastTo S256x128 v23 broadcasts_S256x1_S256x128
  shapeCast S256x128 v24 shapeCasts_S256x128_S256x128

theorem pay181_eq (v w : FVec Ideal S256x128 .f32) :
    k0_pay181 (F := Ideal) v w = spread (k0_pay179 v) (k0_pay180 v w) := rfl

theorem spread_apply (a b : FVec Ideal S256x1 .f32) (r : Fin 256) (l : Fin 128) :
    spread a b (ix2 r l) = Ideal.div (a (ix2 r 0)) (b (ix2 r 0)) := by
  pointwise [spread]

theorem pay184_apply (s : FVec Ideal S256x1 .f32) (d : FVec Ideal S256x8192 .fp8e4m3) (w : Vec Ideal S8192x1024 .fp8e4m3)
    (t : Vec Ideal S1x1024 .f32) (r : Fin 256) (n : Fin 1024) :
    k0_pay184 (F := Ideal) s d w t (ix2 r n) = (∑ k : Fin 8192, d (ix2 r k) * w (ix2 k n)) * s (ix2 r 0) * t (ix2 0 n) := by
  pointwise [k0_pay184]

/-! ## Rows of a block -/

variable (A : S256x8192.Idx → Elt Ideal .bf16) (B : S1x8192.Idx → Elt Ideal .f32)

/-- The root of a row's mean square. -/
def root (r : Fin 256) : EReal :=
  Ideal.sqrt (Ideal.div (∑ k : Fin 8192, (A (ix2 r k) : EReal) * A (ix2 r k)) (Ideal.ofBits FTy.f32 1174405120#32) + eps)

theorem pos_8192 : (0 : EReal) < Ideal.ofBits FTy.f32 1174405120#32 := by
  rw [ofBits_8192]; exact EReal.coe_pos.mpr (by norm_num)

theorem pos_128 : (0 : EReal) < Ideal.ofBits FTy.f32 1124073472#32 := by
  have h : Ideal.ofBits FTy.f32 1124073472#32 = ((128 : ℝ) : EReal) := by
    simp [Ideal.ofBits, Ideal.ieee, -EReal.coe_mul]; norm_num
  rw [h]; exact EReal.coe_pos.mpr (by norm_num)

theorem root_pos (r : Fin 256) : 0 < root A r :=
  sqrt_pos (div_nonneg (Finset.sum_nonneg fun _ _ => sq_nonneg _) pos_8192)

theorem at2_row (r : Fin 256) (n : Fin 8192) : at2 A r.val n.val = A (ix2 r n) := at2_eq A r.isLt n.isLt

theorem at2_wt (n : Fin 8192) : at2 B 0 n.val = B (ix2 0 n) := at2_eq B (by norm_num) n.isLt

theorem ss_sum (r : Fin 256) : ∑ l : Fin 128, ssArr A (ix2 r l) = ∑ n : Fin 8192, (A (ix2 r n) : EReal) * A (ix2 r n) := by
  refine (sum_lanes fun n => at2 A r.val n * at2 A r.val n).trans ?_
  exact Finset.sum_congr rfl fun n _ => congrArg₂ (fun a b : EReal => a * b) (at2_row A r n) (at2_row A r n)

theorem am_max (r : Fin 256) : (Finset.univ.fold max ⊥ fun l : Fin 128 => amArr A B (ix2 r l))
    = Finset.univ.fold max ⊥ fun n : Fin 8192 => max ((A (ix2 r n) : EReal) * B (ix2 0 n)) (-((A (ix2 r n) : EReal) * B (ix2 0 n))) := by
  refine (max_lanes (fun n => max (at2 A r.val n * at2 B 0 n) (-(at2 A r.val n * at2 B 0 n))) fun n => abs_nonneg _).trans ?_
  exact congrArg (fun f => Finset.univ.fold max ⊥ f) (funext fun n : Fin 8192 =>
    congrArg (fun z : EReal => max z (-z)) (congrArg₂ (fun a b : EReal => a * b) (at2_row A r n) (at2_wt B n)))

theorem rms_eq (r : Fin 256) : k0_pay179 (F := Ideal) (ssArr A) (ix2 r 0) = Ideal.div 1 (root A r) := by
  rw [pay179_apply, ss_sum, mean_eq]; rfl

theorem scale_eq (r : Fin 256) : scaleArr A B (ix2 r 0)
    = scaleOf (Finset.univ.fold max ⊥ fun n : Fin 8192 =>
        max (Ideal.div (A (ix2 r n)) (root A r) * B (ix2 0 n)) (-(Ideal.div (A (ix2 r n)) (root A r) * B (ix2 0 n)))) := by
  unfold scaleArr
  rw [pay180_apply, am_max, rms_eq]
  exact congrArg scaleOf (amax_eq (fun n : Fin 8192 => A (ix2 r n)) (fun n => B (ix2 0 n)) (root_pos A r)).symm

theorem scale_ne (r : Fin 256) : scaleArr A B (ix2 r 0) ≠ 0 := by
  rw [scale_eq]; exact scaleOf_ne_zero _

theorem fac_eq (r : Fin 256) (l : Fin 128) : facArr A B (ix2 r l) = Ideal.div (Ideal.div 1 (root A r)) (scaleArr A B (ix2 r 0)) := by
  unfold facArr
  rw [pay181_eq, spread_apply, rms_eq]; rfl

theorem code_block (r : Fin 256) (n : Fin 8192) : codeArr A B (ix2 r n)
    = min (Ideal.ofBits FTy.f32 1138753536#32) (max (Ideal.ofBits FTy.f32 3286237184#32)
        (Ideal.div (Ideal.div (A (ix2 r n)) (root A r) * B (ix2 0 n)) (scaleArr A B (ix2 r 0)))) := by
  rw [code_eq (root_pos A r) (scale_ne A B r), ← fac_eq A B r ⟨n.val % 128, Nat.mod_lt _ (by norm_num)⟩]
  show codeAt A B (facArr A B) r.val n.val = _
  unfold codeAt codeOf
  rw [at2_row, at2_wt, at2_eq (facArr A B) r.isLt (Nat.mod_lt n.val (by norm_num))]

/-! ## Against the reference -/

variable (a0 : Vec Ideal Cert.TextQRefIdeal.S5376x8192 .bf16) (ρ : Fin 256 → Fin 5376)

theorem norm_ref (hA : ∀ r n, A (ix2 r n) = a0 (ix2 (ρ r) n)) (r : Fin 256) (n : Fin 8192) :
    Cert.TextQRefIdeal.Gen.k0_pay2 (F := Ideal) a0 B (ix2 (ρ r) n) = Ideal.div (A (ix2 r n)) (root A r) * B (ix2 0 n) := by
  rw [Ref.pay2_apply]
  unfold root
  simp only [hA]

theorem scale_ref (hA : ∀ r n, A (ix2 r n) = a0 (ix2 (ρ r) n)) (r : Fin 256) :
    scaleArr A B (ix2 r 0) = Cert.TextQRefIdeal.Gen.k0_pay3 (F := Ideal) a0 B (ix2 (ρ r) 0) := by
  rw [scale_eq, Ref.pay3_eq, Ref.rowScale_apply]
  simp only [norm_ref A B a0 ρ hA]

theorem codes_ref (hA : ∀ r n, A (ix2 r n) = a0 (ix2 (ρ r) n)) (r : Fin 256) (n : Fin 8192) :
    codeArr A B (ix2 r n) = Cert.TextQRefIdeal.Gen.k0_pay4 (F := Ideal) a0 B (ix2 (ρ r) n) := by
  rw [code_block, Ref.pay4_eq, Ref.rowCodes_apply, norm_ref A B a0 ρ hA, scale_ref A B a0 ρ hA]

theorem pre_ref (hA : ∀ r n, A (ix2 r n) = a0 (ix2 (ρ r) n)) (W : Vec Ideal S8192x1024 .fp8e4m3) (T : Vec Ideal S1x1024 .f32)
    (r : Fin 256) (n : Fin 1024) :
    preArr A B W T (ix2 r n) = Cert.TextQRefIdeal.Gen.k0_pay5 (F := Ideal) a0 B W (ix2 (ρ r) n)
      * Cert.TextQRefIdeal.Gen.k0_pay3 (F := Ideal) a0 B (ix2 (ρ r) 0) * T (ix2 0 n) := by
  unfold preArr
  rw [pay184_apply, Ref.pay5_eq, Ref.product_apply, scale_ref A B a0 ρ hA]
  simp only [codes_ref A B a0 ρ hA]

theorem heads_ref (hA : ∀ r n, A (ix2 r n) = a0 (ix2 (ρ r) n)) (W : Vec Ideal S8192x1024 .fp8e4m3) (T : Vec Ideal S1x1024 .f32)
    (qn : Vec Ideal S1x128 .f32) (r : Fin 256) (n : Fin 1024) :
    headAt (preArr A B W T) qn r n = Cert.TextQRefIdeal.Gen.k0_pay1 (F := Ideal) (Cert.TextQRefIdeal.Gen.k0_pay3 (F := Ideal) a0 B) T
      (Cert.TextQRefIdeal.Gen.k0_pay5 (F := Ideal) a0 B W) qn (ix2 (ρ r) n) := by
  rw [Ref.pay1_apply, norm_eq (sqrt_pos (div_nonneg (Finset.sum_nonneg fun _ _ => sq_nonneg _) pos_128)), mul_right_comm]
  unfold headAt
  simp only [pre_ref A B a0 ρ hA]

end Cert.Proof.TextQ

end
-- ==== Proof.TextQValue.lean ====
module

public import proofs.«01_k».proof.Proof.TextQMath

/-!
# The query projection: the kernel's results are the reference's

The kernel walks 21 blocks of 256 rows; each leaves its rows' codes, scales and normalized query heads.
-/

@[expose] public section

set_option maxRecDepth 16384

noncomputable section

open Idealize.ShloMosaic Idealize.ShloMosaic.TcCoe Idealize.SL.Sem
open Idealize.ShloMosaic.Pipeline (Dat)

namespace Cert.Proof.TextQ

open Cert.TextQIdeal Cert.TextQIdeal.Gen

/-- The block indices of the windows at each of the 21 points: rows by `t`, everything else whole. -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `r` of the block of point `t`, as a row of the whole array. -/
def row (t : Fin cfg0.N) (r : Fin 256) : Fin 5376 :=
  ⟨t.val * 256 + r.val, by have h := lt_of_lt_of_eq t.isLt N_0; have := r.isLt; omega⟩

variable (m : (ℓ : Loc nD τ sig) → Buf (Elt Ideal) ℓ) (ρ : Dev nD → PrngReg)

theorem iblk0_apply (c : Dev nD) (t : Fin cfg0.N) (r : Fin 256) (k : Fin 8192) :
    iblk m c 0 t (ix2 r k) = V m c main_arg0 (ix2 (row t r) k) := by
  obtain ⟨h0, h1, -⟩ := idx t
  show V m c main_arg0 (((cfg0.win 0).blk t).view.emb (ix2 r k)) = _
  congr 1; funext a; apply Fin.ext
  match a with
  | ⟨0, _⟩ => show win0_0.index t (0 : Fin 2) * 256 + 1 * r.val = t.val * 256 + r.val; rw [h0]; omega
  | ⟨1, _⟩ => show win0_0.index t (1 : Fin 2) * 8192 + 1 * k.val = k.val; rw [h1]; omega

theorem iblk1_eq (c : Dev nD) (t : Fin cfg0.N) : iblk m c 1 t = V m c main_arg1 := by
  obtain ⟨-, -, h0, h1, -⟩ := idx t
  funext x
  show V m c main_arg1 (((cfg0.win 1).blk t).view.emb x) = _
  congr 1; funext a; apply Fin.ext
  match a with
  | ⟨0, _⟩ => show win0_1.index t (0 : Fin 2) * 1 + 1 * (x 0).val = (x 0).val; rw [h0]; omega
  | ⟨1, _⟩ => show win0_1.index t (1 : Fin 2) * 8192 + 1 * (x 1).val = (x 1).val; rw [h1]; omega

theorem iblk2_eq (c : Dev nD) (t : Fin cfg0.N) : iblk m c 2 t = V m c main_arg2 := by
  obtain ⟨-, -, -, -, h0, h1, -⟩ := idx t
  funext x
  show V m c main_arg2 (((cfg0.win 2).blk t).view.emb x) = _
  congr 1; funext a; apply Fin.ext
  match a with
  | ⟨0, _⟩ => show win0_2.index t (0 : Fin 2) * 8192 + 1 * (x 0).val = (x 0).val; rw [h0]; omega
  | ⟨1, _⟩ => show win0_2.index t (1 : Fin 2) * 1024 + 1 * (x 1).val = (x 1).val; rw [h1]; omega

theorem iblk3_eq (c : Dev nD) (t : Fin cfg0.N) : iblk m c 3 t = V m c main_arg3 := by
  obtain ⟨-, -, -, -, -, -, h0, h1, -⟩ := idx t
  funext x
  show V m c main_arg3 (((cfg0.win 3).blk t).view.emb x) = _
  congr 1; funext a; apply Fin.ext
  match a with
  | ⟨0, _⟩ => show win0_3.index t (0 : Fin 2) * 1 + 1 * (x 0).val = (x 0).val; rw [h0]; omega
  | ⟨1, _⟩ => show win0_3.index t (1 : Fin 2) * 1024 + 1 * (x 1).val = (x 1).val; rw [h1]; omega

theorem iblk4_eq (c : Dev nD) (t : Fin cfg0.N) : iblk m c 4 t = V m c main_arg4 := by
  obtain ⟨-, -, -, -, -, -, -, -, h0, h1, -⟩ := idx t
  funext x
  show V m c main_arg4 (((cfg0.win 4).blk t).view.emb x) = _
  congr 1; funext a; apply Fin.ext
  match a with
  | ⟨0, _⟩ => show win0_4.index t (0 : Fin 2) * 1 + 1 * (x 0).val = (x 0).val; rw [h0]; omega
  | ⟨1, _⟩ => show win0_4.index t (1 : Fin 2) * 128 + 1 * (x 1).val = (x 1).val; rw [h1]; omega

theorem emb5 (t : Fin cfg0.N) (r : Fin 256) (n : Fin 8192) : ((cfg0.win 5).blk t).view.emb (ix2 r n) = ix2 (row t r) n := by
  obtain ⟨-, -, -, -, -, -, -, -, -, -, h0, h1, -⟩ := idx t
  funext a; apply Fin.ext
  match a with
  | ⟨0, _⟩ => show win0_5.index t (0 : Fin 2) * 256 + 1 * r.val = t.val * 256 + r.val; rw [h0]; omega
  | ⟨1, _⟩ => show win0_5.index t (1 : Fin 2) * 8192 + 1 * n.val = n.val; rw [h1]; omega

theorem emb6 (t : Fin cfg0.N) (r : Fin 256) (n : Fin 1) : ((cfg0.win 6).blk t).view.emb (ix2 r n) = ix2 (row t r) n := by
  obtain ⟨-, -, -, -, -, -, -, -, -, -, -, -, h0, h1, -⟩ := idx t
  funext a; apply Fin.ext
  match a with
  | ⟨0, _⟩ => show win0_6.index t (0 : Fin 2) * 256 + 1 * r.val = t.val * 256 + r.val; rw [h0]; omega
  | ⟨1, _⟩ => show win0_6.index t (1 : Fin 2) * 1 + 1 * n.val = n.val; rw [h1]; omega

theorem emb7 (t : Fin cfg0.N) (r : Fin 256) (n : Fin 1024) : ((cfg0.win 7).blk t).view.emb (ix2 r n) = ix2 (row t r) n := by
  obtain ⟨-, -, -, -, -, -, -, -, -, -, -, -, -, -, h0, h1⟩ := idx t
  funext a; apply Fin.ext
  match a with
  | ⟨0, _⟩ => show win0_7.index t (0 : Fin 2) * 256 + 1 * r.val = t.val * 256 + r.val; rw [h0]; omega
  | ⟨1, _⟩ => show win0_7.index t (1 : Fin 2) * 1024 + 1 * n.val = n.val; rw [h1]; omega

/-- The reference's codes as a function of the arguments. -/
def G5 (a0 : Vec Ideal S5376x8192 .bf16) (a1 : Vec Ideal S1x8192 .f32) (a2 : Vec Ideal S8192x1024 .fp8e4m3) (a3 : Vec Ideal S1x1024 .f32)
    (a4 : Vec Ideal S1x128 .f32) : Vec Ideal S5376x8192 .fp8e4m3 := Cert.TextQRefIdeal.Gen.k0_pay4 (F := Ideal) a0 a1

/-- The reference's scales as a function of the arguments. -/
def G6 (a0 : Vec Ideal S5376x8192 .bf16) (a1 : Vec Ideal S1x8192 .f32) (a2 : Vec Ideal S8192x1024 .fp8e4m3) (a3 : Vec Ideal S1x1024 .f32)
    (a4 : Vec Ideal S1x128 .f32) : Vec Ideal S5376x1 .f32 := Cert.TextQRefIdeal.Gen.k0_pay3 (F := Ideal) a0 a1

/-- The reference's queries as a function of the arguments. -/
def G7 (a0 : Vec Ideal S5376x8192 .bf16) (a1 : Vec Ideal S1x8192 .f32) (a2 : Vec Ideal S8192x1024 .fp8e4m3) (a3 : Vec Ideal S1x1024 .f32)
    (a4 : Vec Ideal S1x128 .f32) : Vec Ideal S5376x1024 .bf16 :=
  Cert.TextQRefIdeal.Gen.k0_pay1 (F := Ideal) (Cert.TextQRefIdeal.Gen.k0_pay3 a0 a1) a3 (Cert.TextQRefIdeal.Gen.k0_pay5 a0 a1 a2) a4

theorem G5_eq (a0 : Vec Ideal S5376x8192 .bf16) (a1 : Vec Ideal S1x8192 .f32) (a2 : Vec Ideal S8192x1024 .fp8e4m3) (a3 : Vec Ideal S1x1024 .f32)
    (a4 : Vec Ideal S1x128 .f32) :
    G5 a0 a1 a2 a3 a4 = Cert.TextQRefIdeal.Gen.k0_pay4 (F := Ideal) a0 a1 := rfl

theorem G6_eq (a0 : Vec Ideal S5376x8192 .bf16) (a1 : Vec Ideal S1x8192 .f32) (a2 : Vec Ideal S8192x1024 .fp8e4m3) (a3 : Vec Ideal S1x1024 .f32)
    (a4 : Vec Ideal S1x128 .f32) :
    G6 a0 a1 a2 a3 a4 = Cert.TextQRefIdeal.Gen.k0_pay3 (F := Ideal) a0 a1 := rfl

theorem G7_eq (a0 : Vec Ideal S5376x8192 .bf16) (a1 : Vec Ideal S1x8192 .f32) (a2 : Vec Ideal S8192x1024 .fp8e4m3) (a3 : Vec Ideal S1x1024 .f32)
    (a4 : Vec Ideal S1x128 .f32) :
    G7 a0 a1 a2 a3 a4 = Cert.TextQRefIdeal.Gen.k0_pay1 (F := Ideal) (Cert.TextQRefIdeal.Gen.k0_pay3 a0 a1) a3 (Cert.TextQRefIdeal.Gen.k0_pay5 a0 a1 a2) a4 := rfl

theorem G5_congr {a0 b0 : Vec Ideal S5376x8192 .bf16} {a1 b1 : Vec Ideal S1x8192 .f32} {a2 b2 : Vec Ideal S8192x1024 .fp8e4m3}
    {a3 b3 : Vec Ideal S1x1024 .f32} {a4 b4 : Vec Ideal S1x128 .f32} (e0 : a0 = b0) (e1 : a1 = b1) (e2 : a2 = b2) (e3 : a3 = b3) (e4 : a4 = b4) :
    G5 a0 a1 a2 a3 a4 = G5 b0 b1 b2 b3 b4 := by
  subst e0 e1 e2 e3 e4; rfl

theorem G6_congr {a0 b0 : Vec Ideal S5376x8192 .bf16} {a1 b1 : Vec Ideal S1x8192 .f32} {a2 b2 : Vec Ideal S8192x1024 .fp8e4m3}
    {a3 b3 : Vec Ideal S1x1024 .f32} {a4 b4 : Vec Ideal S1x128 .f32} (e0 : a0 = b0) (e1 : a1 = b1) (e2 : a2 = b2) (e3 : a3 = b3) (e4 : a4 = b4) :
    G6 a0 a1 a2 a3 a4 = G6 b0 b1 b2 b3 b4 := by
  subst e0 e1 e2 e3 e4; rfl

theorem G7_congr {a0 b0 : Vec Ideal S5376x8192 .bf16} {a1 b1 : Vec Ideal S1x8192 .f32} {a2 b2 : Vec Ideal S8192x1024 .fp8e4m3}
    {a3 b3 : Vec Ideal S1x1024 .f32} {a4 b4 : Vec Ideal S1x128 .f32} (e0 : a0 = b0) (e1 : a1 = b1) (e2 : a2 = b2) (e3 : a3 = b3) (e4 : a4 = b4) :
    G7 a0 a1 a2 a3 a4 = G7 b0 b1 b2 b3 b4 := by
  subst e0 e1 e2 e3 e4; rfl

/-- A block that agrees with its rows of an array is what a read of the block's place in the array gives. -/
theorem block5 (t : Fin cfg0.N) (Y : Vec Ideal S256x8192 .fp8e4m3) (X : Vec Ideal S5376x8192 .fp8e4m3)
    (h : ∀ (r : Fin 256) (n : Fin 8192), Y (ix2 r n) = X (ix2 (row t r) n)) :
    (cfg0.win 5).cut (grid0.coords t) Y = ((cfg0.win 5).blk t).view.read (Elt Ideal) X := by
  funext j
  obtain ⟨r, n, rfl⟩ : ∃ (r : Fin 256) (n : Fin 8192), j = ix2 r n :=
    ⟨j 0, j 1, by funext a; match a with | ⟨0, _⟩ => rfl | ⟨1, _⟩ => rfl⟩
  show Y (ix2 r n) = X (((cfg0.win 5).blk t).view.emb (ix2 r n))
  rw [emb5, h]

theorem flushed5_eq (c : Dev nD) (t : Fin cfg0.N) :
    (dats m 0 c).flushed 5 t = ((cfg0.win 5).blk t).view.read (Elt Ideal) (G5 (V m c main_arg0) (V m c main_arg1) (V m c main_arg2) (V m c main_arg3) (V m c main_arg4)) := by
  rw [Cert.TextQIdeal.Value.flushed5_A]
  unfold out0_A_5
  rw [View.read_writes_junk_eq_canon, run5, iblk1_eq]
  exact block5 t _ _ fun r n => (codes_ref _ _ _ (row t) (iblk0_apply m c t) r n).trans (congrFun (G5_eq (V m c main_arg0) (V m c main_arg1) (V m c main_arg2) (V m c main_arg3) (V m c main_arg4)).symm _)

theorem cover5 (i : S5376x8192.Idx) : ∃ t : Fin cfg0.N, (cfg0.win 5).flush t = true ∧ i ∈ ((cfg0.win 5).blk t).view.set := by
  have h0 : (i 0).val < 5376 := (i 0).isLt
  have ht : (i 0).val / 256 < cfg0.N := lt_of_lt_of_eq (by omega) N_0.symm
  refine ⟨⟨_, ht⟩, flush0_5 _, ?_⟩
  have hi : i = ((cfg0.win 5).blk ⟨_, ht⟩).view.emb (ix2 (⟨(i 0).val % 256, by omega⟩ : Fin 256) (⟨(i 1).val, (i 1).isLt⟩ : Fin 8192)) := by
    rw [emb5]
    funext a; apply Fin.ext
    match a with
    | ⟨0, _⟩ => show (i 0).val = (i 0).val / 256 * 256 + (i 0).val % 256; omega
    | ⟨1, _⟩ => rfl
  exact (congrArg (· ∈ ((cfg0.win 5).blk ⟨_, ht⟩).view.set) hi).mpr (((cfg0.win 5).blk ⟨_, ht⟩).view.emb_mem_set _)

theorem final5 (c : Dev nD) : (dats m 0 c).arrAt 5 cfg0.N
    = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4))
    (fun t _ => flushed5_eq m c t) cover5).trans
    (by rw [V_main_arg0, V_main_arg1, V_main_arg2, V_main_arg3, V_main_arg4])

/-- A block that agrees with its rows of an array is what a read of the block's place in the array gives. -/
theorem block6 (t : Fin cfg0.N) (Y : Vec Ideal S256x1 .f32) (X : Vec Ideal S5376x1 .f32)
    (h : ∀ (r : Fin 256) (n : Fin 1), Y (ix2 r n) = X (ix2 (row t r) n)) :
    (cfg0.win 6).cut (grid0.coords t) Y = ((cfg0.win 6).blk t).view.read (Elt Ideal) X := by
  funext j
  obtain ⟨r, n, rfl⟩ : ∃ (r : Fin 256) (n : Fin 1), j = ix2 r n :=
    ⟨j 0, j 1, by funext a; match a with | ⟨0, _⟩ => rfl | ⟨1, _⟩ => rfl⟩
  show Y (ix2 r n) = X (((cfg0.win 6).blk t).view.emb (ix2 r n))
  rw [emb6, h]

theorem flushed6_eq (c : Dev nD) (t : Fin cfg0.N) :
    (dats m 0 c).flushed 6 t = ((cfg0.win 6).blk t).view.read (Elt Ideal) (G6 (V m c main_arg0) (V m c main_arg1) (V m c main_arg2) (V m c main_arg3) (V m c main_arg4)) := by
  rw [Cert.TextQIdeal.Value.flushed6_A]
  unfold out0_A_6
  rw [View.read_writes_junk_eq_canon, run6, iblk1_eq]
  exact block6 t _ _ fun r n => by
    obtain rfl : n = 0 := Subsingleton.elim _ _
    exact (scale_ref _ _ _ (row t) (iblk0_apply m c t) r).trans (congrFun (G6_eq (V m c main_arg0) (V m c main_arg1) (V m c main_arg2) (V m c main_arg3) (V m c main_arg4)).symm _)

theorem cover6 (i : S5376x1.Idx) : ∃ t : Fin cfg0.N, (cfg0.win 6).flush t = true ∧ i ∈ ((cfg0.win 6).blk t).view.set := by
  have h0 : (i 0).val < 5376 := (i 0).isLt
  have ht : (i 0).val / 256 < cfg0.N := lt_of_lt_of_eq (by omega) N_0.symm
  refine ⟨⟨_, ht⟩, flush0_6 _, ?_⟩
  have hi : i = ((cfg0.win 6).blk ⟨_, ht⟩).view.emb (ix2 (⟨(i 0).val % 256, by omega⟩ : Fin 256) (⟨(i 1).val, (i 1).isLt⟩ : Fin 1)) := by
    rw [emb6]
    funext a; apply Fin.ext
    match a with
    | ⟨0, _⟩ => show (i 0).val = (i 0).val / 256 * 256 + (i 0).val % 256; omega
    | ⟨1, _⟩ => rfl
  exact (congrArg (· ∈ ((cfg0.win 6).blk ⟨_, ht⟩).view.set) hi).mpr (((cfg0.win 6).blk ⟨_, ht⟩).view.emb_mem_set _)

theorem final6 (c : Dev nD) : (dats m 0 c).arrAt 6 cfg0.N
    = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4))
    (fun t _ => flushed6_eq m c t) cover6).trans
    (by rw [V_main_arg0, V_main_arg1, V_main_arg2, V_main_arg3, V_main_arg4])

/-- A block that agrees with its rows of an array is what a read of the block's place in the array gives. -/
theorem block7 (t : Fin cfg0.N) (Y : Vec Ideal S256x1024 .bf16) (X : Vec Ideal S5376x1024 .bf16)
    (h : ∀ (r : Fin 256) (n : Fin 1024), Y (ix2 r n) = X (ix2 (row t r) n)) :
    (cfg0.win 7).cut (grid0.coords t) Y = ((cfg0.win 7).blk t).view.read (Elt Ideal) X := by
  funext j
  obtain ⟨r, n, rfl⟩ : ∃ (r : Fin 256) (n : Fin 1024), j = ix2 r n :=
    ⟨j 0, j 1, by funext a; match a with | ⟨0, _⟩ => rfl | ⟨1, _⟩ => rfl⟩
  show Y (ix2 r n) = X (((cfg0.win 7).blk t).view.emb (ix2 r n))
  rw [emb7, h]

theorem flushed7_eq (c : Dev nD) (t : Fin cfg0.N) :
    (dats m 0 c).flushed 7 t = ((cfg0.win 7).blk t).view.read (Elt Ideal) (G7 (V m c main_arg0) (V m c main_arg1) (V m c main_arg2) (V m c main_arg3) (V m c main_arg4)) := by
  rw [Cert.TextQIdeal.Value.flushed7_A]
  unfold out0_A_7
  rw [View.read_writes_junk_eq_canon, run7, iblk1_eq, iblk2_eq, iblk3_eq, iblk4_eq]
  exact block7 t _ _ fun r n => (heads_ref _ _ _ (row t) (iblk0_apply m c t) _ _ _ r n).trans (congrFun (G7_eq (V m c main_arg0) (V m c main_arg1) (V m c main_arg2) (V m c main_arg3) (V m c main_arg4)).symm _)

theorem cover7 (i : S5376x1024.Idx) : ∃ t : Fin cfg0.N, (cfg0.win 7).flush t = true ∧ i ∈ ((cfg0.win 7).blk t).view.set := by
  have h0 : (i 0).val < 5376 := (i 0).isLt
  have ht : (i 0).val / 256 < cfg0.N := lt_of_lt_of_eq (by omega) N_0.symm
  refine ⟨⟨_, ht⟩, flush0_7 _, ?_⟩
  have hi : i = ((cfg0.win 7).blk ⟨_, ht⟩).view.emb (ix2 (⟨(i 0).val % 256, by omega⟩ : Fin 256) (⟨(i 1).val, (i 1).isLt⟩ : Fin 1024)) := by
    rw [emb7]
    funext a; apply Fin.ext
    match a with
    | ⟨0, _⟩ => show (i 0).val = (i 0).val / 256 * 256 + (i 0).val % 256; omega
    | ⟨1, _⟩ => rfl
  exact (congrArg (· ∈ ((cfg0.win 7).blk ⟨_, ht⟩).view.set) hi).mpr (((cfg0.win 7).blk ⟨_, ht⟩).view.emb_mem_set _)

theorem final7 (c : Dev nD) : (dats m 0 c).arrAt 7 cfg0.N
    = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4))
    (fun t _ => flushed7_eq m c t) cover7).trans
    (by rw [V_main_arg0, V_main_arg1, V_main_arg2, V_main_arg3, V_main_arg4])

/-- The run of the kernel: the results are the reference's functions of the arguments, which are unchanged. -/
theorem run : θ_run defs (onTc (τ := τ) (main (F := Ideal))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2⟩)
    (Cert.TextQIdeal.Value.run_blocks m ρ)

end Cert.Proof.TextQ

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.GateUpRefIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownIdeal.Value
public import proofs.«01_k».proof.Proof.Gen.DownRefIdeal.Value
public import proofs.«01_k».proof.Proof.GateUpBitsFrame
public import proofs.«01_k».proof.Proof.GateUpFrame
public import proofs.«01_k».proof.Proof.GateUpValue
public import proofs.«01_k».proof.Proof.Gen.TextQ
public import proofs.«01_k».proof.Proof.Gen.TextQ.Skeleton
public import proofs.«01_k».proof.Proof.Gen.TextQ.Launch
public import proofs.«01_k».proof.Proof.Gen.TextQ.Points
public import proofs.«01_k».proof.Proof.Gen.TextQ.Frame
public import proofs.«01_k».proof.Proof.Gen.TextQIdeal
public import proofs.«01_k».proof.Proof.Gen.TextQIdeal.Skeleton
public import proofs.«01_k».proof.Proof.Gen.TextQIdeal.Launch
public import proofs.«01_k».proof.Proof.Gen.TextQIdeal.Points
public import proofs.«01_k».proof.Proof.Gen.TextQIdeal.Frame
public import proofs.«01_k».proof.Proof.Gen.TextQIdeal.Value
public import proofs.«01_k».proof.Proof.Gen.TextQRefIdeal
public import proofs.«01_k».proof.Proof.Gen.TextQRefIdeal.Skeleton
public import proofs.«01_k».proof.Proof.Gen.TextQRefIdeal.Launch
public import proofs.«01_k».proof.Proof.Gen.TextQRefIdeal.Points
public import proofs.«01_k».proof.Proof.Gen.TextQRefIdeal.Frame
public import proofs.«01_k».proof.Proof.Gen.TextQRefIdeal.Value
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjIdeal.Value
public import proofs.«01_k».proof.Proof.Gen.OProjRefIdeal
public import proofs.«01_k».proof.Proof.Gen.OProjRefIdeal.Skeleton
public import proofs.«01_k».proof.Proof.Gen.OProjRefIdeal.Launch
public import proofs.«01_k».proof.Proof.Gen.OProjRefIdeal.Points
public import proofs.«01_k».proof.Proof.Gen.OProjRefIdeal.Frame
public import proofs.«01_k».proof.Proof.Gen.OProjRefIdeal.Value
public import proofs.«01_k».proof.Proof.DownValue
public import proofs.«01_k».proof.Proof.OProjValue
public import proofs.«01_k».proof.Proof.TextQValue
public import Idealize.ShloMosaic.Adequacy
public import Idealize.ShloMosaic.Init

@[expose] public section

noncomputable section

namespace Cert.Proof

open Idealize.ShloMosaic Idealize.SL.Sem

/-- From equal arguments the kernel `GateUp` and its reference leave equal results. -/
theorem GateUp.algebraic : Cert.algebraic_GateUpIdeal_GateUpRefIdeal (hGateUpIdeal := Cert.GateUpIdeal.Gen.facts) (hGateUpRefIdeal := Cert.GateUpRefIdeal.Gen.facts) :=
  fun m g m' g' _ hagree =>
    ⟨fun c => GateUp.Ref.codes (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)),
      fun c => GateUp.Ref.scales (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)),
      GateUp.run m g,
      (θ_run _ _ _).mono
        (fun r h c => by
          obtain ⟨e0, e1, e2, e3, e4, e5⟩ := hagree c
          exact ⟨(h c).1.trans (GateUp.Ref.codes_congr e0 e1 e2 e3 e4 e5), (h c).2.1.trans (GateUp.Ref.scales_congr e0 e1 e2 e3 e4 e5), (h c).2.2⟩)
        (GateUp.Ref.run m' g')⟩

/-- From equal arguments the kernel `Down` and its reference leave equal results. -/
theorem Down.algebraic : Cert.algebraic_DownIdeal_DownRefIdeal (hDownIdeal := Cert.DownIdeal.Gen.facts) (hDownRefIdeal := Cert.DownRefIdeal.Gen.facts) :=
  fun m g m' g' _ hagree =>
    ⟨fun c => Down.G (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)),
      Down.run m g,
      (θ_run _ _ _).mono
        (fun r h c => by
          obtain ⟨e0, e1, e2, e3, e4, e5⟩ := hagree c
          exact ⟨(h c).1.trans (Down.G_congr e0 e1 e2 e3 e4 e5), (h c).2⟩)
        (Cert.DownRefIdeal.Value.run m' g')⟩

/-- From equal arguments the kernel `OProj` and its reference leave equal results. -/
theorem OProj.algebraic : Cert.algebraic_OProjIdeal_OProjRefIdeal (hOProjIdeal := Cert.OProjIdeal.Gen.facts) (hOProjRefIdeal := Cert.OProjRefIdeal.Gen.facts) :=
  fun m g m' g' _ hagree =>
    ⟨fun c => OProj.G8 (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2)) (m ((c.tc : Thread Cert.OProjIdeal.nD Cert.OProjIdeal.τ).loc Cert.OProjIdeal.main_arg3)) (m ((c.tc : Thread Cert.OProjIdeal.nD Cert.OProjIdeal.τ).loc Cert.OProjIdeal.main_arg4)) (m ((c.tc : Thread Cert.OProjIdeal.nD Cert.OProjIdeal.τ).loc Cert.OProjIdeal.main_arg5)) (m ((c.tc : Thread Cert.OProjIdeal.nD Cert.OProjIdeal.τ).loc Cert.OProjIdeal.main_arg6)) (m ((c.tc : Thread Cert.OProjIdeal.nD Cert.OProjIdeal.τ).loc Cert.OProjIdeal.main_arg7)),
      fun c => OProj.G9 (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2)) (m ((c.tc : Thread Cert.OProjIdeal.nD Cert.OProjIdeal.τ).loc Cert.OProjIdeal.main_arg3)) (m ((c.tc : Thread Cert.OProjIdeal.nD Cert.OProjIdeal.τ).loc Cert.OProjIdeal.main_arg4)) (m ((c.tc : Thread Cert.OProjIdeal.nD Cert.OProjIdeal.τ).loc Cert.OProjIdeal.main_arg5)) (m ((c.tc : Thread Cert.OProjIdeal.nD Cert.OProjIdeal.τ).loc Cert.OProjIdeal.main_arg6)) (m ((c.tc : Thread Cert.OProjIdeal.nD Cert.OProjIdeal.τ).loc Cert.OProjIdeal.main_arg7)),
      fun c => OProj.G10 (m ((c.tc : Thread Cert.OProjIdeal.nD Cert.OProjIdeal.τ).loc Cert.OProjIdeal.main_arg0)) (m ((c.tc : Thread Cert.OProjIdeal.nD Cert.OProjIdeal.τ).loc Cert.OProjIdeal.main_arg1)) (m ((c.tc : Thread Cert.OProjIdeal.nD Cert.OProjIdeal.τ).loc Cert.OProjIdeal.main_arg2)) (m ((c.tc : Thread Cert.OProjIdeal.nD Cert.OProjIdeal.τ).loc Cert.OProjIdeal.main_arg3)) (m ((c.tc : Thread Cert.OProjIdeal.nD Cert.OProjIdeal.τ).loc Cert.OProjIdeal.main_arg4)) (m ((c.tc : Thread Cert.OProjIdeal.nD Cert.OProjIdeal.τ).loc Cert.OProjIdeal.main_arg5)) (m ((c.tc : Thread Cert.OProjIdeal.nD Cert.OProjIdeal.τ).loc Cert.OProjIdeal.main_arg6)) (m ((c.tc : Thread Cert.OProjIdeal.nD Cert.OProjIdeal.τ).loc Cert.OProjIdeal.main_arg7)),
      OProj.run m g,
      (θ_run _ _ _).mono
        (fun r h c => by
          obtain ⟨e0, e1, e2, e3, e4, e5, e6, e7⟩ := hagree c
          exact ⟨((h c).1.trans ((OProj.Ref.g8 _ _ _ _ _ _ _ _).trans (OProj.G8_eq _ _ _ _ _ _ _ _).symm)).trans (OProj.G8_congr e0 e1 e2 e3 e4 e5 e6 e7),
            ((h c).2.1.trans ((OProj.Ref.g9 _ _ _ _ _ _ _ _).trans ((OProj.Ref.g9_eq _ _ _ _ _ _ _ _).trans (OProj.G9_eq _ _ _ _ _ _ _ _).symm))).trans (OProj.G9_congr e0 e1 e2 e3 e4 e5 e6 e7),
            ((h c).2.2.1.trans ((OProj.Ref.g10 _ _ _ _ _ _ _ _).trans ((OProj.Ref.g10_eq _ _ _ _ _ _ _ _).trans (OProj.G10_eq _ _ _ _ _ _ _ _).symm))).trans (OProj.G10_congr e0 e1 e2 e3 e4 e5 e6 e7),
            (h c).2.2.2⟩)
        (Cert.OProjRefIdeal.Value.run m' g')⟩

/-- From equal arguments the kernel `TextQ` and its reference leave equal results. -/
theorem TextQ.algebraic : Cert.algebraic_TextQIdeal_TextQRefIdeal (hTextQIdeal := Cert.TextQIdeal.Gen.facts) (hTextQRefIdeal := Cert.TextQRefIdeal.Gen.facts) :=
  fun m g m' g' _ hagree =>
    ⟨fun c => TextQ.G5 (m ((c.tc : Thread Cert.TextQIdeal.nD Cert.TextQIdeal.τ).loc Cert.TextQIdeal.main_arg0)) (m ((c.tc : Thread Cert.TextQIdeal.nD Cert.TextQIdeal.τ).loc Cert.TextQIdeal.main_arg1)) (m ((c.tc : Thread Cert.TextQIdeal.nD Cert.TextQIdeal.τ).loc Cert.TextQIdeal.main_arg2)) (m ((c.tc : Thread Cert.TextQIdeal.nD Cert.TextQIdeal.τ).loc Cert.TextQIdeal.main_arg3)) (m ((c.tc : Thread Cert.TextQIdeal.nD Cert.TextQIdeal.τ).loc Cert.TextQIdeal.main_arg4)),
      fun c => TextQ.G6 (m ((c.tc : Thread Cert.TextQIdeal.nD Cert.TextQIdeal.τ).loc Cert.TextQIdeal.main_arg0)) (m ((c.tc : Thread Cert.TextQIdeal.nD Cert.TextQIdeal.τ).loc Cert.TextQIdeal.main_arg1)) (m ((c.tc : Thread Cert.TextQIdeal.nD Cert.TextQIdeal.τ).loc Cert.TextQIdeal.main_arg2)) (m ((c.tc : Thread Cert.TextQIdeal.nD Cert.TextQIdeal.τ).loc Cert.TextQIdeal.main_arg3)) (m ((c.tc : Thread Cert.TextQIdeal.nD Cert.TextQIdeal.τ).loc Cert.TextQIdeal.main_arg4)),
      fun c => TextQ.G7 (m ((c.tc : Thread Cert.TextQIdeal.nD Cert.TextQIdeal.τ).loc Cert.TextQIdeal.main_arg0)) (m ((c.tc : Thread Cert.TextQIdeal.nD Cert.TextQIdeal.τ).loc Cert.TextQIdeal.main_arg1)) (m ((c.tc : Thread Cert.TextQIdeal.nD Cert.TextQIdeal.τ).loc Cert.TextQIdeal.main_arg2)) (m ((c.tc : Thread Cert.TextQIdeal.nD Cert.TextQIdeal.τ).loc Cert.TextQIdeal.main_arg3)) (m ((c.tc : Thread Cert.TextQIdeal.nD Cert.TextQIdeal.τ).loc Cert.TextQIdeal.main_arg4)),
      TextQ.run m g,
      (θ_run _ _ _).mono
        (fun r h c => by
          obtain ⟨e0, e1, e2, e3, e4⟩ := hagree c
          exact ⟨((h c).1.trans (TextQ.Ref.g5 _ _ _ _ _)).trans (TextQ.G5_congr e0 e1 e2 e3 e4),
            ((h c).2.1.trans (TextQ.Ref.g6 _ _ _ _ _)).trans (TextQ.G6_congr e0 e1 e2 e3 e4),
            ((h c).2.2.1.trans (TextQ.Ref.g7 _ _ _ _ _)).trans (TextQ.G7_congr e0 e1 e2 e3 e4), (h c).2.2.2⟩)
        (Cert.TextQRefIdeal.Value.run m' g')⟩

/-- All the claims of the certificate. -/
theorem claim : Cert.Claim := ⟨Cert.GateUp.Gen.facts, Cert.GateUpIdeal.Gen.facts, Cert.GateUpRefIdeal.Gen.facts, Cert.Down.Gen.facts, Cert.DownIdeal.Gen.facts, Cert.DownRefIdeal.Gen.facts,
  Cert.OProj.Gen.facts, Cert.OProjIdeal.Gen.facts, Cert.OProjRefIdeal.Gen.facts,
  Cert.TextQ.Gen.facts, Cert.TextQIdeal.Gen.facts, Cert.TextQRefIdeal.Gen.facts,
  fun m ρ _ => GateUpBits.frame (F := Bits) m ρ,
  fun m ρ _ => GateUp.frame (F := Ideal) m ρ,
  fun m ρ _ => Cert.GateUpRefIdeal.Gen.frame m ρ,
  fun m ρ _ => Cert.Down.Gen.frame m ρ,
  fun m ρ _ => Cert.DownIdeal.Gen.frame m ρ,
  fun m ρ _ => Cert.DownRefIdeal.Gen.frame m ρ,
  fun m ρ _ => Cert.OProj.Gen.frame m ρ,
  fun m ρ _ => Cert.OProjIdeal.Gen.frame m ρ,
  fun m ρ _ => Cert.OProjRefIdeal.Gen.frame m ρ,
  fun m ρ _ => Cert.TextQ.Gen.frame m ρ,
  fun m ρ _ => Cert.TextQIdeal.Gen.frame m ρ,
  fun m ρ _ => Cert.TextQRefIdeal.Gen.frame m ρ,
  trivial, GateUp.algebraic, trivial, Down.algebraic, trivial, OProj.algebraic, trivial, TextQ.algebraic⟩

end Cert.Proof

end
